-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleReferenceIdeal (m : (ℓ : Loc Cert.LastSampleReferenceIdeal.nD Cert.LastSampleReferenceIdeal.τ Cert.LastSampleReferenceIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerReferenceIdeal (m : (ℓ : Loc Cert.InnerReferenceIdeal.nD Cert.InnerReferenceIdeal.τ Cert.InnerReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeTwo (m : (ℓ : Loc Cert.MergeTwo.nD Cert.MergeTwo.τ Cert.MergeTwo.sig) → Buf (Elt Bits) ℓ) : Prop :=
  True

def Pre_MergeTwoIdeal (m : (ℓ : Loc Cert.MergeTwoIdeal.nD Cert.MergeTwoIdeal.τ Cert.MergeTwoIdeal.sig) → Buf (Elt Ideal) ℓ) : Prop :=
  True

def Pre_MergeTwoReferenceIdeal (m : (ℓ : Loc Cert.MergeTwoReferenceIdeal.nD Cert.MergeTwoReferenceIdeal.τ Cert.MergeTwoReferenceIdeal.sig) → Buf (Elt Ideal) ℓ) : Prop :=
  True

def Pre_ProjectEven (m : (ℓ : Loc Cert.ProjectEven.nD Cert.ProjectEven.τ Cert.ProjectEven.sig) → Buf (Elt Bits) ℓ) : Prop :=
  True

def Pre_ProjectEvenIdeal (m : (ℓ : Loc Cert.ProjectEvenIdeal.nD Cert.ProjectEvenIdeal.τ Cert.ProjectEvenIdeal.sig) → Buf (Elt Ideal) ℓ) : Prop :=
  True

def Pre_ProjectEvenReferenceIdeal (m : (ℓ : Loc Cert.ProjectEvenReferenceIdeal.nD Cert.ProjectEvenReferenceIdeal.τ Cert.ProjectEvenReferenceIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_in_table [hPre_in_table : Cert.Pre_in_table.Facts] (m : (ℓ : Loc Cert.BiasIdeal.nD Cert.BiasIdeal.τ Cert.BiasIdeal.sig) → Buf (Elt Ideal) ℓ) : Prop :=
  ∀ c : Dev Cert.BiasIdeal.nD,
    (Cert.Pre_in_table.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))).1 = (fun _ => 1#1)
    ∧ (Cert.Pre_in_table.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))).2 = (fun _ => 1#1)

def Pre_BiasReferenceIdeal (m : (ℓ : Loc Cert.BiasReferenceIdeal.nD Cert.BiasReferenceIdeal.τ Cert.BiasReferenceIdeal.sig) → Buf (Elt Ideal) ℓ) : Prop :=
  True

def Pre_BiasReferenceIdeal_in_table [hPre_in_table : Cert.Pre_in_table.Facts] (m : (ℓ : Loc Cert.BiasReferenceIdeal.nD Cert.BiasReferenceIdeal.τ Cert.BiasReferenceIdeal.sig) → Buf (Elt Ideal) ℓ) : Prop :=
  ∀ c : Dev Cert.BiasReferenceIdeal.nD,
    (Cert.Pre_in_table.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1))).1 = (fun _ => 1#1)
    ∧ (Cert.Pre_in_table.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ r.2.sem = fun _ => 0)

def quiescent_LastSampleReferenceIdeal [hLastSampleReferenceIdeal : Cert.LastSampleReferenceIdeal.Facts] : Prop :=
  ∀ (m : (ℓ : Loc Cert.LastSampleReferenceIdeal.nD Cert.LastSampleReferenceIdeal.τ Cert.LastSampleReferenceIdeal.sig) → Buf (Elt Ideal) ℓ) (g : Dev Cert.LastSampleReferenceIdeal.nD → PrngReg), Pre_LastSampleReferenceIdeal m →
    θ_run (Cert.LastSampleReferenceIdeal.defs (F := Ideal)) (onTc (τ := Cert.LastSampleReferenceIdeal.τ) (Cert.LastSampleReferenceIdeal.main (F := Ideal))) ⟨m, fun _ => 0, g⟩ (fun r => (∀ c : Dev Cert.LastSampleReferenceIdeal.nD,
      r.2.mem ((c.tc : Thread Cert.LastSampleReferenceIdeal.nD Cert.LastSampleReferenceIdeal.τ).loc Cert.LastSampleReferenceIdeal.main_arg0) = m ((c.tc : Thread Cert.LastSampleReferenceIdeal.nD Cert.LastSampleReferenceIdeal.τ).loc Cert.LastSampleReferenceIdeal.main_arg0)
      ∧ r.2.mem ((c.tc : Thread Cert.LastSampleReferenceIdeal.nD Cert.LastSampleReferenceIdeal.τ).loc Cert.LastSampleReferenceIdeal.main_arg1) = m ((c.tc : Thread Cert.LastSampleReferenceIdeal.nD Cert.LastSampleReferenceIdeal.τ).loc Cert.LastSampleReferenceIdeal.main_arg1)
      ∧ r.2.mem ((c.tc : Thread Cert.LastSampleReferenceIdeal.nD Cert.LastSampleReferenceIdeal.τ).loc Cert.LastSampleReferenceIdeal.main_arg2) = m ((c.tc : Thread Cert.LastSampleReferenceIdeal.nD Cert.LastSampleReferenceIdeal.τ).loc Cert.LastSampleReferenceIdeal.main_arg2)
      ∧ r.2.mem ((c.tc : Thread Cert.LastSampleReferenceIdeal.nD Cert.LastSampleReferenceIdeal.τ).loc Cert.LastSampleReferenceIdeal.main_arg3) = m ((c.tc : Thread Cert.LastSampleReferenceIdeal.nD Cert.LastSampleReferenceIdeal.τ).loc Cert.LastSampleReferenceIdeal.main_arg3)
      ∧ r.2.mem ((c.tc : Thread Cert.LastSampleReferenceIdeal.nD Cert.LastSampleReferenceIdeal.τ).loc Cert.LastSampleReferenceIdeal.main_arg4) = m ((c.tc : Thread Cert.LastSampleReferenceIdeal.nD Cert.LastSampleReferenceIdeal.τ).loc Cert.LastSampleReferenceIdeal.main_arg4))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1)
      ∧ r.2.mem ((c.tc : Thread Cert.InnerReferenceIdeal.nD Cert.InnerReferenceIdeal.τ).loc Cert.InnerReferenceIdeal.main_arg2) = m ((c.tc : Thread Cert.InnerReferenceIdeal.nD Cert.InnerReferenceIdeal.τ).loc Cert.InnerReferenceIdeal.main_arg2)
      ∧ r.2.mem ((c.tc : Thread Cert.InnerReferenceIdeal.nD Cert.InnerReferenceIdeal.τ).loc Cert.InnerReferenceIdeal.main_arg3) = m ((c.tc : Thread Cert.InnerReferenceIdeal.nD Cert.InnerReferenceIdeal.τ).loc Cert.InnerReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def quiescent_MergeTwo [hMergeTwo : Cert.MergeTwo.Facts] : Prop :=
  ∀ (m : (ℓ : Loc Cert.MergeTwo.nD Cert.MergeTwo.τ Cert.MergeTwo.sig) → Buf (Elt Bits) ℓ) (g : Dev Cert.MergeTwo.nD → PrngReg), Pre_MergeTwo m →
    θ_run (Cert.MergeTwo.defs (F := Bits)) (onTc (τ := Cert.MergeTwo.τ) (Cert.MergeTwo.main (F := Bits))) ⟨m, fun _ => 0, g⟩ (fun r => (∀ c : Dev Cert.MergeTwo.nD,
      r.2.mem ((c.tc : Thread Cert.MergeTwo.nD Cert.MergeTwo.τ).loc Cert.MergeTwo.main_arg0) = m ((c.tc : Thread Cert.MergeTwo.nD Cert.MergeTwo.τ).loc Cert.MergeTwo.main_arg0)
      ∧ r.2.mem ((c.tc : Thread Cert.MergeTwo.nD Cert.MergeTwo.τ).loc Cert.MergeTwo.main_arg1) = m ((c.tc : Thread Cert.MergeTwo.nD Cert.MergeTwo.τ).loc Cert.MergeTwo.main_arg1)
      ∧ r.2.mem ((c.tc : Thread Cert.MergeTwo.nD Cert.MergeTwo.τ).loc Cert.MergeTwo.main_arg2) = m ((c.tc : Thread Cert.MergeTwo.nD Cert.MergeTwo.τ).loc Cert.MergeTwo.main_arg2)
      ∧ r.2.mem ((c.tc : Thread Cert.MergeTwo.nD Cert.MergeTwo.τ).loc Cert.MergeTwo.main_arg3) = m ((c.tc : Thread Cert.MergeTwo.nD Cert.MergeTwo.τ).loc Cert.MergeTwo.main_arg3))
      ∧ r.2.sem = fun _ => 0)

def quiescent_MergeTwoIdeal [hMergeTwoIdeal : Cert.MergeTwoIdeal.Facts] : Prop :=
  ∀ (m : (ℓ : Loc Cert.MergeTwoIdeal.nD Cert.MergeTwoIdeal.τ Cert.MergeTwoIdeal.sig) → Buf (Elt Ideal) ℓ) (g : Dev Cert.MergeTwoIdeal.nD → PrngReg), Pre_MergeTwoIdeal m →
    θ_run (Cert.MergeTwoIdeal.defs (F := Ideal)) (onTc (τ := Cert.MergeTwoIdeal.τ) (Cert.MergeTwoIdeal.main (F := Ideal))) ⟨m, fun _ => 0, g⟩ (fun r => (∀ c : Dev Cert.MergeTwoIdeal.nD,
      r.2.mem ((c.tc : Thread Cert.MergeTwoIdeal.nD Cert.MergeTwoIdeal.τ).loc Cert.MergeTwoIdeal.main_arg0) = m ((c.tc : Thread Cert.MergeTwoIdeal.nD Cert.MergeTwoIdeal.τ).loc Cert.MergeTwoIdeal.main_arg0)
      ∧ r.2.mem ((c.tc : Thread Cert.MergeTwoIdeal.nD Cert.MergeTwoIdeal.τ).loc Cert.MergeTwoIdeal.main_arg1) = m ((c.tc : Thread Cert.MergeTwoIdeal.nD Cert.MergeTwoIdeal.τ).loc Cert.MergeTwoIdeal.main_arg1)
      ∧ r.2.mem ((c.tc : Thread Cert.MergeTwoIdeal.nD Cert.MergeTwoIdeal.τ).loc Cert.MergeTwoIdeal.main_arg2) = m ((c.tc : Thread Cert.MergeTwoIdeal.nD Cert.MergeTwoIdeal.τ).loc Cert.MergeTwoIdeal.main_arg2)
      ∧ r.2.mem ((c.tc : Thread Cert.MergeTwoIdeal.nD Cert.MergeTwoIdeal.τ).loc Cert.MergeTwoIdeal.main_arg3) = m ((c.tc : Thread Cert.MergeTwoIdeal.nD Cert.MergeTwoIdeal.τ).loc Cert.MergeTwoIdeal.main_arg3))
      ∧ r.2.sem = fun _ => 0)

def quiescent_MergeTwoReferenceIdeal [hMergeTwoReferenceIdeal : Cert.MergeTwoReferenceIdeal.Facts] : Prop :=
  ∀ (m : (ℓ : Loc Cert.MergeTwoReferenceIdeal.nD Cert.MergeTwoReferenceIdeal.τ Cert.MergeTwoReferenceIdeal.sig) → Buf (Elt Ideal) ℓ) (g : Dev Cert.MergeTwoReferenceIdeal.nD → PrngReg), Pre_MergeTwoReferenceIdeal m →
    θ_run (Cert.MergeTwoReferenceIdeal.defs (F := Ideal)) (onTc (τ := Cert.MergeTwoReferenceIdeal.τ) (Cert.MergeTwoReferenceIdeal.main (F := Ideal))) ⟨m, fun _ => 0, g⟩ (fun r => (∀ c : Dev Cert.MergeTwoReferenceIdeal.nD,
      r.2.mem ((c.tc : Thread Cert.MergeTwoReferenceIdeal.nD Cert.MergeTwoReferenceIdeal.τ).loc Cert.MergeTwoReferenceIdeal.main_arg0) = m ((c.tc : Thread Cert.MergeTwoReferenceIdeal.nD Cert.MergeTwoReferenceIdeal.τ).loc Cert.MergeTwoReferenceIdeal.main_arg0)
      ∧ r.2.mem ((c.tc : Thread Cert.MergeTwoReferenceIdeal.nD Cert.MergeTwoReferenceIdeal.τ).loc Cert.MergeTwoReferenceIdeal.main_arg1) = m ((c.tc : Thread Cert.MergeTwoReferenceIdeal.nD Cert.MergeTwoReferenceIdeal.τ).loc Cert.MergeTwoReferenceIdeal.main_arg1)
      ∧ r.2.mem ((c.tc : Thread Cert.MergeTwoReferenceIdeal.nD Cert.MergeTwoReferenceIdeal.τ).loc Cert.MergeTwoReferenceIdeal.main_arg2) = m ((c.tc : Thread Cert.MergeTwoReferenceIdeal.nD Cert.MergeTwoReferenceIdeal.τ).loc Cert.MergeTwoReferenceIdeal.main_arg2)
      ∧ r.2.mem ((c.tc : Thread Cert.MergeTwoReferenceIdeal.nD Cert.MergeTwoReferenceIdeal.τ).loc Cert.MergeTwoReferenceIdeal.main_arg3) = m ((c.tc : Thread Cert.MergeTwoReferenceIdeal.nD Cert.MergeTwoReferenceIdeal.τ).loc Cert.MergeTwoReferenceIdeal.main_arg3))
      ∧ r.2.sem = fun _ => 0)

def quiescent_ProjectEven [hProjectEven : Cert.ProjectEven.Facts] : Prop :=
  ∀ (m : (ℓ : Loc Cert.ProjectEven.nD Cert.ProjectEven.τ Cert.ProjectEven.sig) → Buf (Elt Bits) ℓ) (g : Dev Cert.ProjectEven.nD → PrngReg), Pre_ProjectEven m →
    θ_run (Cert.ProjectEven.defs (F := Bits)) (onTc (τ := Cert.ProjectEven.τ) (Cert.ProjectEven.main (F := Bits))) ⟨m, fun _ => 0, g⟩ (fun r => (∀ c : Dev Cert.ProjectEven.nD,
      r.2.mem ((c.tc : Thread Cert.ProjectEven.nD Cert.ProjectEven.τ).loc Cert.ProjectEven.main_arg0) = m ((c.tc : Thread Cert.ProjectEven.nD Cert.ProjectEven.τ).loc Cert.ProjectEven.main_arg0)
      ∧ r.2.mem ((c.tc : Thread Cert.ProjectEven.nD Cert.ProjectEven.τ).loc Cert.ProjectEven.main_arg1) = m ((c.tc : Thread Cert.ProjectEven.nD Cert.ProjectEven.τ).loc Cert.ProjectEven.main_arg1)
      ∧ r.2.mem ((c.tc : Thread Cert.ProjectEven.nD Cert.ProjectEven.τ).loc Cert.ProjectEven.main_arg2) = m ((c.tc : Thread Cert.ProjectEven.nD Cert.ProjectEven.τ).loc Cert.ProjectEven.main_arg2))
      ∧ r.2.sem = fun _ => 0)

def quiescent_ProjectEvenIdeal [hProjectEvenIdeal : Cert.ProjectEvenIdeal.Facts] : Prop :=
  ∀ (m : (ℓ : Loc Cert.ProjectEvenIdeal.nD Cert.ProjectEvenIdeal.τ Cert.ProjectEvenIdeal.sig) → Buf (Elt Ideal) ℓ) (g : Dev Cert.ProjectEvenIdeal.nD → PrngReg), Pre_ProjectEvenIdeal m →
    θ_run (Cert.ProjectEvenIdeal.defs (F := Ideal)) (onTc (τ := Cert.ProjectEvenIdeal.τ) (Cert.ProjectEvenIdeal.main (F := Ideal))) ⟨m, fun _ => 0, g⟩ (fun r => (∀ c : Dev Cert.ProjectEvenIdeal.nD,
      r.2.mem ((c.tc : Thread Cert.ProjectEvenIdeal.nD Cert.ProjectEvenIdeal.τ).loc Cert.ProjectEvenIdeal.main_arg0) = m ((c.tc : Thread Cert.ProjectEvenIdeal.nD Cert.ProjectEvenIdeal.τ).loc Cert.ProjectEvenIdeal.main_arg0)
      ∧ r.2.mem ((c.tc : Thread Cert.ProjectEvenIdeal.nD Cert.ProjectEvenIdeal.τ).loc Cert.ProjectEvenIdeal.main_arg1) = m ((c.tc : Thread Cert.ProjectEvenIdeal.nD Cert.ProjectEvenIdeal.τ).loc Cert.ProjectEvenIdeal.main_arg1)
      ∧ r.2.mem ((c.tc : Thread Cert.ProjectEvenIdeal.nD Cert.ProjectEvenIdeal.τ).loc Cert.ProjectEvenIdeal.main_arg2) = m ((c.tc : Thread Cert.ProjectEvenIdeal.nD Cert.ProjectEvenIdeal.τ).loc Cert.ProjectEvenIdeal.main_arg2))
      ∧ r.2.sem = fun _ => 0)

def quiescent_ProjectEvenReferenceIdeal [hProjectEvenReferenceIdeal : Cert.ProjectEvenReferenceIdeal.Facts] : Prop :=
  ∀ (m : (ℓ : Loc Cert.ProjectEvenReferenceIdeal.nD Cert.ProjectEvenReferenceIdeal.τ Cert.ProjectEvenReferenceIdeal.sig) → Buf (Elt Ideal) ℓ) (g : Dev Cert.ProjectEvenReferenceIdeal.nD → PrngReg), Pre_ProjectEvenReferenceIdeal m →
    θ_run (Cert.ProjectEvenReferenceIdeal.defs (F := Ideal)) (onTc (τ := Cert.ProjectEvenReferenceIdeal.τ) (Cert.ProjectEvenReferenceIdeal.main (F := Ideal))) ⟨m, fun _ => 0, g⟩ (fun r => (∀ c : Dev Cert.ProjectEvenReferenceIdeal.nD,
      r.2.mem ((c.tc : Thread Cert.ProjectEvenReferenceIdeal.nD Cert.ProjectEvenReferenceIdeal.τ).loc Cert.ProjectEvenReferenceIdeal.main_arg0) = m ((c.tc : Thread Cert.ProjectEvenReferenceIdeal.nD Cert.ProjectEvenReferenceIdeal.τ).loc Cert.ProjectEvenReferenceIdeal.main_arg0)
      ∧ r.2.mem ((c.tc : Thread Cert.ProjectEvenReferenceIdeal.nD Cert.ProjectEvenReferenceIdeal.τ).loc Cert.ProjectEvenReferenceIdeal.main_arg1) = m ((c.tc : Thread Cert.ProjectEvenReferenceIdeal.nD Cert.ProjectEvenReferenceIdeal.τ).loc Cert.ProjectEvenReferenceIdeal.main_arg1)
      ∧ r.2.mem ((c.tc : Thread Cert.ProjectEvenReferenceIdeal.nD Cert.ProjectEvenReferenceIdeal.τ).loc Cert.ProjectEvenReferenceIdeal.main_arg2) = m ((c.tc : Thread Cert.ProjectEvenReferenceIdeal.nD Cert.ProjectEvenReferenceIdeal.τ).loc Cert.ProjectEvenReferenceIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasIdeal_pre_in_table [hBiasIdeal : Cert.BiasIdeal.Facts] [hPre_in_table : Cert.Pre_in_table.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_in_table m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def quiescent_BiasReferenceIdeal_pre_in_table [hBiasReferenceIdeal : Cert.BiasReferenceIdeal.Facts] [hPre_in_table : Cert.Pre_in_table.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal_in_table m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def preserves_Kernel_KernelIdeal : Prop :=
  IdealRules.named_const.Statement Cert.KernelIdeal.κ "isd" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v39) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_LastSample_LastSampleIdeal : Prop :=
  True

def algebraic_LastSampleIdeal_LastSampleReferenceIdeal [hLastSampleIdeal : Cert.LastSampleIdeal.Facts] [hLastSampleReferenceIdeal : Cert.LastSampleReferenceIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleReferenceIdeal.nD Cert.LastSampleReferenceIdeal.τ Cert.LastSampleReferenceIdeal.sig) → Buf (Elt Ideal) ℓ) (g' : Dev Cert.LastSampleReferenceIdeal.nD → PrngReg), Pre_LastSampleIdeal m →
    (∀ c : Dev Cert.LastSampleIdeal.nD,
      m' ((c.tc : Thread Cert.LastSampleReferenceIdeal.nD Cert.LastSampleReferenceIdeal.τ).loc Cert.LastSampleReferenceIdeal.main_arg0) = m ((c.tc : Thread Cert.LastSampleIdeal.nD Cert.LastSampleIdeal.τ).loc Cert.LastSampleIdeal.main_arg0)
      ∧ m' ((c.tc : Thread Cert.LastSampleReferenceIdeal.nD Cert.LastSampleReferenceIdeal.τ).loc Cert.LastSampleReferenceIdeal.main_arg1) = m ((c.tc : Thread Cert.LastSampleIdeal.nD Cert.LastSampleIdeal.τ).loc Cert.LastSampleIdeal.main_arg1)
      ∧ m' ((c.tc : Thread Cert.LastSampleReferenceIdeal.nD Cert.LastSampleReferenceIdeal.τ).loc Cert.LastSampleReferenceIdeal.main_arg2) = m ((c.tc : Thread Cert.LastSampleIdeal.nD Cert.LastSampleIdeal.τ).loc Cert.LastSampleIdeal.main_arg2)
      ∧ m' ((c.tc : Thread Cert.LastSampleReferenceIdeal.nD Cert.LastSampleReferenceIdeal.τ).loc Cert.LastSampleReferenceIdeal.main_arg3) = m ((c.tc : Thread Cert.LastSampleIdeal.nD Cert.LastSampleIdeal.τ).loc Cert.LastSampleIdeal.main_arg3)
      ∧ m' ((c.tc : Thread Cert.LastSampleReferenceIdeal.nD Cert.LastSampleReferenceIdeal.τ).loc Cert.LastSampleReferenceIdeal.main_arg4) = m ((c.tc : Thread Cert.LastSampleIdeal.nD Cert.LastSampleIdeal.τ).loc Cert.LastSampleIdeal.main_arg4)) →
    ∃ (v0 : (c : Dev Cert.LastSampleIdeal.nD) → Buf (Elt Ideal) ((c.tc : Thread Cert.LastSampleIdeal.nD Cert.LastSampleIdeal.τ).loc Cert.LastSampleIdeal.main_v4)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v4) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ θ_run (Cert.LastSampleReferenceIdeal.defs (F := Ideal)) (onTc (τ := Cert.LastSampleReferenceIdeal.τ) (Cert.LastSampleReferenceIdeal.main (F := Ideal))) ⟨m', fun _ => 0, g'⟩ (fun r => ∀ c : Dev Cert.LastSampleReferenceIdeal.nD,
          r.2.mem ((c.tc : Thread Cert.LastSampleReferenceIdeal.nD Cert.LastSampleReferenceIdeal.τ).loc Cert.LastSampleReferenceIdeal.main_v39) = v0 c
          ∧ r.2.mem ((c.tc : Thread Cert.LastSampleReferenceIdeal.nD Cert.LastSampleReferenceIdeal.τ).loc Cert.LastSampleReferenceIdeal.main_arg0) = m' ((c.tc : Thread Cert.LastSampleReferenceIdeal.nD Cert.LastSampleReferenceIdeal.τ).loc Cert.LastSampleReferenceIdeal.main_arg0)
          ∧ r.2.mem ((c.tc : Thread Cert.LastSampleReferenceIdeal.nD Cert.LastSampleReferenceIdeal.τ).loc Cert.LastSampleReferenceIdeal.main_arg1) = m' ((c.tc : Thread Cert.LastSampleReferenceIdeal.nD Cert.LastSampleReferenceIdeal.τ).loc Cert.LastSampleReferenceIdeal.main_arg1)
          ∧ r.2.mem ((c.tc : Thread Cert.LastSampleReferenceIdeal.nD Cert.LastSampleReferenceIdeal.τ).loc Cert.LastSampleReferenceIdeal.main_arg2) = m' ((c.tc : Thread Cert.LastSampleReferenceIdeal.nD Cert.LastSampleReferenceIdeal.τ).loc Cert.LastSampleReferenceIdeal.main_arg2)
          ∧ r.2.mem ((c.tc : Thread Cert.LastSampleReferenceIdeal.nD Cert.LastSampleReferenceIdeal.τ).loc Cert.LastSampleReferenceIdeal.main_arg3) = m' ((c.tc : Thread Cert.LastSampleReferenceIdeal.nD Cert.LastSampleReferenceIdeal.τ).loc Cert.LastSampleReferenceIdeal.main_arg3)
          ∧ r.2.mem ((c.tc : Thread Cert.LastSampleReferenceIdeal.nD Cert.LastSampleReferenceIdeal.τ).loc Cert.LastSampleReferenceIdeal.main_arg4) = m' ((c.tc : Thread Cert.LastSampleReferenceIdeal.nD Cert.LastSampleReferenceIdeal.τ).loc Cert.LastSampleReferenceIdeal.main_arg4))

def preserves_Inner_InnerIdeal : Prop :=
  True

def algebraic_InnerIdeal_InnerReferenceIdeal [hInnerIdeal : Cert.InnerIdeal.Facts] [hInnerReferenceIdeal : Cert.InnerReferenceIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerIdeal m →
    (∀ c : Dev Cert.InnerIdeal.nD,
      m' ((c.tc : Thread Cert.InnerReferenceIdeal.nD Cert.InnerReferenceIdeal.τ).loc Cert.InnerReferenceIdeal.main_arg0) = m ((c.tc : Thread Cert.InnerIdeal.nD Cert.InnerIdeal.τ).loc Cert.InnerIdeal.main_arg0)
      ∧ m' ((c.tc : Thread Cert.InnerReferenceIdeal.nD Cert.InnerReferenceIdeal.τ).loc Cert.InnerReferenceIdeal.main_arg1) = m ((c.tc : Thread Cert.InnerIdeal.nD Cert.InnerIdeal.τ).loc Cert.InnerIdeal.main_arg1)
      ∧ m' ((c.tc : Thread Cert.InnerReferenceIdeal.nD Cert.InnerReferenceIdeal.τ).loc Cert.InnerReferenceIdeal.main_arg2) = m ((c.tc : Thread Cert.InnerIdeal.nD Cert.InnerIdeal.τ).loc Cert.InnerIdeal.main_arg2)
      ∧ m' ((c.tc : Thread Cert.InnerReferenceIdeal.nD Cert.InnerReferenceIdeal.τ).loc Cert.InnerReferenceIdeal.main_arg3) = m ((c.tc : Thread Cert.InnerIdeal.nD Cert.InnerIdeal.τ).loc Cert.InnerIdeal.main_arg3)) →
    ∃ (v0 : (c : Dev Cert.InnerIdeal.nD) → Buf (Elt Ideal) ((c.tc : Thread Cert.InnerIdeal.nD Cert.InnerIdeal.τ).loc Cert.InnerIdeal.main_v3)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v3) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v25) = v0 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1)
          ∧ r.2.mem ((c.tc : Thread Cert.InnerReferenceIdeal.nD Cert.InnerReferenceIdeal.τ).loc Cert.InnerReferenceIdeal.main_arg2) = m' ((c.tc : Thread Cert.InnerReferenceIdeal.nD Cert.InnerReferenceIdeal.τ).loc Cert.InnerReferenceIdeal.main_arg2)
          ∧ r.2.mem ((c.tc : Thread Cert.InnerReferenceIdeal.nD Cert.InnerReferenceIdeal.τ).loc Cert.InnerReferenceIdeal.main_arg3) = m' ((c.tc : Thread Cert.InnerReferenceIdeal.nD Cert.InnerReferenceIdeal.τ).loc Cert.InnerReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v16) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v4) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def preserves_MergeTwo_MergeTwoIdeal : Prop :=
  True

def algebraic_MergeTwoIdeal_MergeTwoReferenceIdeal [hMergeTwoIdeal : Cert.MergeTwoIdeal.Facts] [hMergeTwoReferenceIdeal : Cert.MergeTwoReferenceIdeal.Facts] : Prop :=
  ∀ (m : (ℓ : Loc Cert.MergeTwoIdeal.nD Cert.MergeTwoIdeal.τ Cert.MergeTwoIdeal.sig) → Buf (Elt Ideal) ℓ) (g : Dev Cert.MergeTwoIdeal.nD → PrngReg)
    (m' : (ℓ : Loc Cert.MergeTwoReferenceIdeal.nD Cert.MergeTwoReferenceIdeal.τ Cert.MergeTwoReferenceIdeal.sig) → Buf (Elt Ideal) ℓ) (g' : Dev Cert.MergeTwoReferenceIdeal.nD → PrngReg), Pre_MergeTwoIdeal m →
    (∀ c : Dev Cert.MergeTwoIdeal.nD,
      m' ((c.tc : Thread Cert.MergeTwoReferenceIdeal.nD Cert.MergeTwoReferenceIdeal.τ).loc Cert.MergeTwoReferenceIdeal.main_arg0) = m ((c.tc : Thread Cert.MergeTwoIdeal.nD Cert.MergeTwoIdeal.τ).loc Cert.MergeTwoIdeal.main_arg0)
      ∧ m' ((c.tc : Thread Cert.MergeTwoReferenceIdeal.nD Cert.MergeTwoReferenceIdeal.τ).loc Cert.MergeTwoReferenceIdeal.main_arg1) = m ((c.tc : Thread Cert.MergeTwoIdeal.nD Cert.MergeTwoIdeal.τ).loc Cert.MergeTwoIdeal.main_arg1)
      ∧ m' ((c.tc : Thread Cert.MergeTwoReferenceIdeal.nD Cert.MergeTwoReferenceIdeal.τ).loc Cert.MergeTwoReferenceIdeal.main_arg2) = m ((c.tc : Thread Cert.MergeTwoIdeal.nD Cert.MergeTwoIdeal.τ).loc Cert.MergeTwoIdeal.main_arg2)
      ∧ m' ((c.tc : Thread Cert.MergeTwoReferenceIdeal.nD Cert.MergeTwoReferenceIdeal.τ).loc Cert.MergeTwoReferenceIdeal.main_arg3) = m ((c.tc : Thread Cert.MergeTwoIdeal.nD Cert.MergeTwoIdeal.τ).loc Cert.MergeTwoIdeal.main_arg3)) →
    ∃ (v0 : (c : Dev Cert.MergeTwoIdeal.nD) → Buf (Elt Ideal) ((c.tc : Thread Cert.MergeTwoIdeal.nD Cert.MergeTwoIdeal.τ).loc Cert.MergeTwoIdeal.main_v1)),
      θ_run (Cert.MergeTwoIdeal.defs (F := Ideal)) (onTc (τ := Cert.MergeTwoIdeal.τ) (Cert.MergeTwoIdeal.main (F := Ideal))) ⟨m, fun _ => 0, g⟩ (fun r => ∀ c : Dev Cert.MergeTwoIdeal.nD,
          r.2.mem ((c.tc : Thread Cert.MergeTwoIdeal.nD Cert.MergeTwoIdeal.τ).loc Cert.MergeTwoIdeal.main_v1) = v0 c
          ∧ r.2.mem ((c.tc : Thread Cert.MergeTwoIdeal.nD Cert.MergeTwoIdeal.τ).loc Cert.MergeTwoIdeal.main_arg0) = m ((c.tc : Thread Cert.MergeTwoIdeal.nD Cert.MergeTwoIdeal.τ).loc Cert.MergeTwoIdeal.main_arg0)
          ∧ r.2.mem ((c.tc : Thread Cert.MergeTwoIdeal.nD Cert.MergeTwoIdeal.τ).loc Cert.MergeTwoIdeal.main_arg1) = m ((c.tc : Thread Cert.MergeTwoIdeal.nD Cert.MergeTwoIdeal.τ).loc Cert.MergeTwoIdeal.main_arg1)
          ∧ r.2.mem ((c.tc : Thread Cert.MergeTwoIdeal.nD Cert.MergeTwoIdeal.τ).loc Cert.MergeTwoIdeal.main_arg2) = m ((c.tc : Thread Cert.MergeTwoIdeal.nD Cert.MergeTwoIdeal.τ).loc Cert.MergeTwoIdeal.main_arg2)
          ∧ r.2.mem ((c.tc : Thread Cert.MergeTwoIdeal.nD Cert.MergeTwoIdeal.τ).loc Cert.MergeTwoIdeal.main_arg3) = m ((c.tc : Thread Cert.MergeTwoIdeal.nD Cert.MergeTwoIdeal.τ).loc Cert.MergeTwoIdeal.main_arg3))
      ∧ θ_run (Cert.MergeTwoReferenceIdeal.defs (F := Ideal)) (onTc (τ := Cert.MergeTwoReferenceIdeal.τ) (Cert.MergeTwoReferenceIdeal.main (F := Ideal))) ⟨m', fun _ => 0, g'⟩ (fun r => ∀ c : Dev Cert.MergeTwoReferenceIdeal.nD,
          r.2.mem ((c.tc : Thread Cert.MergeTwoReferenceIdeal.nD Cert.MergeTwoReferenceIdeal.τ).loc Cert.MergeTwoReferenceIdeal.main_v5) = v0 c
          ∧ r.2.mem ((c.tc : Thread Cert.MergeTwoReferenceIdeal.nD Cert.MergeTwoReferenceIdeal.τ).loc Cert.MergeTwoReferenceIdeal.main_arg0) = m' ((c.tc : Thread Cert.MergeTwoReferenceIdeal.nD Cert.MergeTwoReferenceIdeal.τ).loc Cert.MergeTwoReferenceIdeal.main_arg0)
          ∧ r.2.mem ((c.tc : Thread Cert.MergeTwoReferenceIdeal.nD Cert.MergeTwoReferenceIdeal.τ).loc Cert.MergeTwoReferenceIdeal.main_arg1) = m' ((c.tc : Thread Cert.MergeTwoReferenceIdeal.nD Cert.MergeTwoReferenceIdeal.τ).loc Cert.MergeTwoReferenceIdeal.main_arg1)
          ∧ r.2.mem ((c.tc : Thread Cert.MergeTwoReferenceIdeal.nD Cert.MergeTwoReferenceIdeal.τ).loc Cert.MergeTwoReferenceIdeal.main_arg2) = m' ((c.tc : Thread Cert.MergeTwoReferenceIdeal.nD Cert.MergeTwoReferenceIdeal.τ).loc Cert.MergeTwoReferenceIdeal.main_arg2)
          ∧ r.2.mem ((c.tc : Thread Cert.MergeTwoReferenceIdeal.nD Cert.MergeTwoReferenceIdeal.τ).loc Cert.MergeTwoReferenceIdeal.main_arg3) = m' ((c.tc : Thread Cert.MergeTwoReferenceIdeal.nD Cert.MergeTwoReferenceIdeal.τ).loc Cert.MergeTwoReferenceIdeal.main_arg3))

def preserves_ProjectEven_ProjectEvenIdeal : Prop :=
  True

def algebraic_ProjectEvenIdeal_ProjectEvenReferenceIdeal [hProjectEvenIdeal : Cert.ProjectEvenIdeal.Facts] [hProjectEvenReferenceIdeal : Cert.ProjectEvenReferenceIdeal.Facts] : Prop :=
  ∀ (m : (ℓ : Loc Cert.ProjectEvenIdeal.nD Cert.ProjectEvenIdeal.τ Cert.ProjectEvenIdeal.sig) → Buf (Elt Ideal) ℓ) (g : Dev Cert.ProjectEvenIdeal.nD → PrngReg)
    (m' : (ℓ : Loc Cert.ProjectEvenReferenceIdeal.nD Cert.ProjectEvenReferenceIdeal.τ Cert.ProjectEvenReferenceIdeal.sig) → Buf (Elt Ideal) ℓ) (g' : Dev Cert.ProjectEvenReferenceIdeal.nD → PrngReg), Pre_ProjectEvenIdeal m →
    (∀ c : Dev Cert.ProjectEvenIdeal.nD,
      m' ((c.tc : Thread Cert.ProjectEvenReferenceIdeal.nD Cert.ProjectEvenReferenceIdeal.τ).loc Cert.ProjectEvenReferenceIdeal.main_arg0) = m ((c.tc : Thread Cert.ProjectEvenIdeal.nD Cert.ProjectEvenIdeal.τ).loc Cert.ProjectEvenIdeal.main_arg0)
      ∧ m' ((c.tc : Thread Cert.ProjectEvenReferenceIdeal.nD Cert.ProjectEvenReferenceIdeal.τ).loc Cert.ProjectEvenReferenceIdeal.main_arg1) = m ((c.tc : Thread Cert.ProjectEvenIdeal.nD Cert.ProjectEvenIdeal.τ).loc Cert.ProjectEvenIdeal.main_arg1)
      ∧ m' ((c.tc : Thread Cert.ProjectEvenReferenceIdeal.nD Cert.ProjectEvenReferenceIdeal.τ).loc Cert.ProjectEvenReferenceIdeal.main_arg2) = m ((c.tc : Thread Cert.ProjectEvenIdeal.nD Cert.ProjectEvenIdeal.τ).loc Cert.ProjectEvenIdeal.main_arg2)) →
    ∃ (v0 : (c : Dev Cert.ProjectEvenIdeal.nD) → Buf (Elt Ideal) ((c.tc : Thread Cert.ProjectEvenIdeal.nD Cert.ProjectEvenIdeal.τ).loc Cert.ProjectEvenIdeal.main_v2)),
      θ_run (Cert.ProjectEvenIdeal.defs (F := Ideal)) (onTc (τ := Cert.ProjectEvenIdeal.τ) (Cert.ProjectEvenIdeal.main (F := Ideal))) ⟨m, fun _ => 0, g⟩ (fun r => ∀ c : Dev Cert.ProjectEvenIdeal.nD,
          r.2.mem ((c.tc : Thread Cert.ProjectEvenIdeal.nD Cert.ProjectEvenIdeal.τ).loc Cert.ProjectEvenIdeal.main_v2) = v0 c
          ∧ r.2.mem ((c.tc : Thread Cert.ProjectEvenIdeal.nD Cert.ProjectEvenIdeal.τ).loc Cert.ProjectEvenIdeal.main_arg0) = m ((c.tc : Thread Cert.ProjectEvenIdeal.nD Cert.ProjectEvenIdeal.τ).loc Cert.ProjectEvenIdeal.main_arg0)
          ∧ r.2.mem ((c.tc : Thread Cert.ProjectEvenIdeal.nD Cert.ProjectEvenIdeal.τ).loc Cert.ProjectEvenIdeal.main_arg1) = m ((c.tc : Thread Cert.ProjectEvenIdeal.nD Cert.ProjectEvenIdeal.τ).loc Cert.ProjectEvenIdeal.main_arg1)
          ∧ r.2.mem ((c.tc : Thread Cert.ProjectEvenIdeal.nD Cert.ProjectEvenIdeal.τ).loc Cert.ProjectEvenIdeal.main_arg2) = m ((c.tc : Thread Cert.ProjectEvenIdeal.nD Cert.ProjectEvenIdeal.τ).loc Cert.ProjectEvenIdeal.main_arg2))
      ∧ θ_run (Cert.ProjectEvenReferenceIdeal.defs (F := Ideal)) (onTc (τ := Cert.ProjectEvenReferenceIdeal.τ) (Cert.ProjectEvenReferenceIdeal.main (F := Ideal))) ⟨m', fun _ => 0, g'⟩ (fun r => ∀ c : Dev Cert.ProjectEvenReferenceIdeal.nD,
          r.2.mem ((c.tc : Thread Cert.ProjectEvenReferenceIdeal.nD Cert.ProjectEvenReferenceIdeal.τ).loc Cert.ProjectEvenReferenceIdeal.main_v16) = v0 c
          ∧ r.2.mem ((c.tc : Thread Cert.ProjectEvenReferenceIdeal.nD Cert.ProjectEvenReferenceIdeal.τ).loc Cert.ProjectEvenReferenceIdeal.main_arg0) = m' ((c.tc : Thread Cert.ProjectEvenReferenceIdeal.nD Cert.ProjectEvenReferenceIdeal.τ).loc Cert.ProjectEvenReferenceIdeal.main_arg0)
          ∧ r.2.mem ((c.tc : Thread Cert.ProjectEvenReferenceIdeal.nD Cert.ProjectEvenReferenceIdeal.τ).loc Cert.ProjectEvenReferenceIdeal.main_arg1) = m' ((c.tc : Thread Cert.ProjectEvenReferenceIdeal.nD Cert.ProjectEvenReferenceIdeal.τ).loc Cert.ProjectEvenReferenceIdeal.main_arg1)
          ∧ r.2.mem ((c.tc : Thread Cert.ProjectEvenReferenceIdeal.nD Cert.ProjectEvenReferenceIdeal.τ).loc Cert.ProjectEvenReferenceIdeal.main_arg2) = m' ((c.tc : Thread Cert.ProjectEvenReferenceIdeal.nD Cert.ProjectEvenReferenceIdeal.τ).loc Cert.ProjectEvenReferenceIdeal.main_arg2))

def preserves_Bias_BiasIdeal : Prop :=
  IdealRules.named_const.Statement Cert.BiasIdeal.κ "mask" .f32 0xF149F2CA#32 ⊥

def algebraic_BiasIdeal_BiasReferenceIdeal_pre_in_table [hBiasIdeal : Cert.BiasIdeal.Facts] [hBiasReferenceIdeal : Cert.BiasReferenceIdeal.Facts] [hPre_in_table : Cert.Pre_in_table.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal_in_table m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)
      ∧ m' ((c.tc : Thread Cert.BiasReferenceIdeal.nD Cert.BiasReferenceIdeal.τ).loc Cert.BiasReferenceIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v21) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0)
          ∧ r.2.mem ((c.tc : Thread Cert.BiasReferenceIdeal.nD Cert.BiasReferenceIdeal.τ).loc Cert.BiasReferenceIdeal.main_arg1) = m' ((c.tc : Thread Cert.BiasReferenceIdeal.nD Cert.BiasReferenceIdeal.τ).loc Cert.BiasReferenceIdeal.main_arg1))

def Claim : Prop :=
  ∃ (hKernel : Cert.Kernel.Facts) (hKernelIdeal : Cert.KernelIdeal.Facts) (hReferenceIdeal : Cert.ReferenceIdeal.Facts) (hLast : Cert.Last.Facts) (hLastIdeal : Cert.LastIdeal.Facts) (hLastReferenceIdeal : Cert.LastReferenceIdeal.Facts) (hLastSample : Cert.LastSample.Facts) (hLastSampleIdeal : Cert.LastSampleIdeal.Facts) (hLastSampleReferenceIdeal : Cert.LastSampleReferenceIdeal.Facts) (hInner : Cert.Inner.Facts) (hInnerIdeal : Cert.InnerIdeal.Facts) (hInnerReferenceIdeal : Cert.InnerReferenceIdeal.Facts) (hProject : Cert.Project.Facts) (hProjectIdeal : Cert.ProjectIdeal.Facts) (hProjectReferenceIdeal : Cert.ProjectReferenceIdeal.Facts) (hMerge : Cert.Merge.Facts) (hMergeIdeal : Cert.MergeIdeal.Facts) (hMergeReferenceIdeal : Cert.MergeReferenceIdeal.Facts) (hMergeTwo : Cert.MergeTwo.Facts) (hMergeTwoIdeal : Cert.MergeTwoIdeal.Facts) (hMergeTwoReferenceIdeal : Cert.MergeTwoReferenceIdeal.Facts) (hProjectEven : Cert.ProjectEven.Facts) (hProjectEvenIdeal : Cert.ProjectEvenIdeal.Facts) (hProjectEvenReferenceIdeal : Cert.ProjectEvenReferenceIdeal.Facts) (hBias : Cert.Bias.Facts) (hBiasIdeal : Cert.BiasIdeal.Facts) (hBiasReferenceIdeal : Cert.BiasReferenceIdeal.Facts) (hPre_finite_inputs : Cert.Pre_finite_inputs.Facts) (hPre_in_table : Cert.Pre_in_table.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Last (hLast := hLast)
    ∧ quiescent_LastIdeal (hLastIdeal := hLastIdeal)
    ∧ quiescent_LastReferenceIdeal (hLastReferenceIdeal := hLastReferenceIdeal)
    ∧ quiescent_LastSample (hLastSample := hLastSample)
    ∧ quiescent_LastSampleIdeal (hLastSampleIdeal := hLastSampleIdeal)
    ∧ quiescent_LastSampleReferenceIdeal (hLastSampleReferenceIdeal := hLastSampleReferenceIdeal)
    ∧ quiescent_Inner (hInner := hInner)
    ∧ quiescent_InnerIdeal (hInnerIdeal := hInnerIdeal)
    ∧ quiescent_InnerReferenceIdeal (hInnerReferenceIdeal := hInnerReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeTwo (hMergeTwo := hMergeTwo)
    ∧ quiescent_MergeTwoIdeal (hMergeTwoIdeal := hMergeTwoIdeal)
    ∧ quiescent_MergeTwoReferenceIdeal (hMergeTwoReferenceIdeal := hMergeTwoReferenceIdeal)
    ∧ quiescent_ProjectEven (hProjectEven := hProjectEven)
    ∧ quiescent_ProjectEvenIdeal (hProjectEvenIdeal := hProjectEvenIdeal)
    ∧ quiescent_ProjectEvenReferenceIdeal (hProjectEvenReferenceIdeal := hProjectEvenReferenceIdeal)
    ∧ quiescent_Bias (hBias := hBias)
    ∧ quiescent_BiasIdeal (hBiasIdeal := hBiasIdeal)
    ∧ quiescent_BiasIdeal_pre_in_table (hBiasIdeal := hBiasIdeal) (hPre_in_table := hPre_in_table)
    ∧ quiescent_BiasReferenceIdeal (hBiasReferenceIdeal := hBiasReferenceIdeal)
    ∧ quiescent_BiasReferenceIdeal_pre_in_table (hBiasReferenceIdeal := hBiasReferenceIdeal) (hPre_in_table := hPre_in_table)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Last_LastIdeal
    ∧ algebraic_LastIdeal_LastReferenceIdeal (hLastIdeal := hLastIdeal) (hLastReferenceIdeal := hLastReferenceIdeal)
    ∧ preserves_LastSample_LastSampleIdeal
    ∧ algebraic_LastSampleIdeal_LastSampleReferenceIdeal (hLastSampleIdeal := hLastSampleIdeal) (hLastSampleReferenceIdeal := hLastSampleReferenceIdeal)
    ∧ preserves_Inner_InnerIdeal
    ∧ algebraic_InnerIdeal_InnerReferenceIdeal (hInnerIdeal := hInnerIdeal) (hInnerReferenceIdeal := hInnerReferenceIdeal)
    ∧ preserves_Project_ProjectIdeal
    ∧ algebraic_ProjectIdeal_ProjectReferenceIdeal (hProjectIdeal := hProjectIdeal) (hProjectReferenceIdeal := hProjectReferenceIdeal)
    ∧ preserves_Merge_MergeIdeal
    ∧ algebraic_MergeIdeal_MergeReferenceIdeal (hMergeIdeal := hMergeIdeal) (hMergeReferenceIdeal := hMergeReferenceIdeal)
    ∧ preserves_MergeTwo_MergeTwoIdeal
    ∧ algebraic_MergeTwoIdeal_MergeTwoReferenceIdeal (hMergeTwoIdeal := hMergeTwoIdeal) (hMergeTwoReferenceIdeal := hMergeTwoReferenceIdeal)
    ∧ preserves_ProjectEven_ProjectEvenIdeal
    ∧ algebraic_ProjectEvenIdeal_ProjectEvenReferenceIdeal (hProjectEvenIdeal := hProjectEvenIdeal) (hProjectEvenReferenceIdeal := hProjectEvenReferenceIdeal)
    ∧ preserves_Bias_BiasIdeal
    ∧ algebraic_BiasIdeal_BiasReferenceIdeal_pre_in_table (hBiasIdeal := hBiasIdeal) (hBiasReferenceIdeal := hBiasReferenceIdeal) (hPre_in_table := hPre_in_table)
-- ==== Pre_finite_inputs.lean ====
abbrev S24576x3072 : Shape := ⟨2, ![24576, 3072]⟩
abbrev S16x128x384 : Shape := ⟨3, ![16, 128, 384]⟩
abbrev S16 : Shape := ⟨1, ![16]⟩
abbrev S_ : Shape := ⟨0, ![]⟩

class Facts : Prop where
  bitsLt_bf16_f32 : FTy.bits .bf16 < FTy.bits .f32
  bcast_S_S24576x3072 : S_.BroadcastsInDim S24576x3072 (![] : Fin 0 → Fin S24576x3072.rank)
  bcast_S_S16x128x384 : S_.BroadcastsInDim S16x128x384 (![] : Fin 0 → Fin S16x128x384.rank)
  bcast_S_S16 : S_.BroadcastsInDim S16 (![] : Fin 0 → Fin S16.rank)

variable [Facts]

def fn {F : FTy → Type} [FloatOps F] (main_arg0 : FVec F S24576x3072 .bf16) (main_arg1 : FVec F S16x128x384 .f32) (main_arg2 : FVec F S16 .f32) : IVec S24576x3072 1 × IVec S16x128x384 1 × IVec S16 1 :=
  let main_v0 : FVec F S24576x3072 .f32 := (extf .f32 · bitsLt_bf16_f32) main_arg0
  let main_v1 : FVec F S24576x3072 .f32 := Host.absf main_v0
  let main_cst : FVec F S_ .f32 := constant S_ .f32 0x7F800000#32
  let main_v2 : FVec F S24576x3072 .f32 := broadcastInDim S24576x3072 ![] bcast_S_S24576x3072 main_cst
  let main_v3 : IVec S24576x3072 1 := cmpf .olt main_v1 main_v2
  let main_cst_0 : FVec F S_ .f32 := constant S_ .f32 0x7F800000#32
  let main_v4 : FVec F S16x128x384 .f32 := broadcastInDim S16x128x384 ![] bcast_S_S16x128x384 main_cst_0
  let main_v5 : IVec S16x128x384 1 := cmpf .olt main_arg1 main_v4
  let main_v6 : FVec F S16 .f32 := Host.absf main_arg2
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v3, main_v5, main_v8)
-- ==== Pre_in_table.lean ====
abbrev S128x384 : Shape := ⟨2, ![128, 384]⟩
abbrev S32x16 : Shape := ⟨2, ![32, 16]⟩
abbrev S_ : Shape := ⟨0, ![]⟩

class Facts : Prop where
  bcast_S_S128x384 : S_.BroadcastsInDim S128x384 (![] : Fin 0 → Fin S128x384.rank)

variable [Facts]

def fn {F : FTy → Type} [FloatOps F] (main_arg0 : IVec S128x384 32) (main_arg1 : FVec F S32x16 .f32) : IVec S128x384 1 × IVec S128x384 1 :=
  let main_c : IVec S_ 32 := constantI S_ 32 0#32
  let main_v0 : IVec S128x384 32 := broadcastInDim S128x384 ![] bcast_S_S128x384 main_c
  let main_v1 : IVec S128x384 1 := cmpi .sge main_arg0 main_v0
  let main_c_0 : IVec S_ 32 := constantI S_ 32 32#32
  let main_v2 : IVec S128x384 32 := broadcastInDim S128x384 ![] bcast_S_S128x384 main_c_0
  let main_v3 : IVec S128x384 1 := cmpi .slt main_arg0 main_v2
  (main_v1, main_v3)
-- ==== Kernel.lean ====
abbrev S24576x3072 : Shape := ⟨2, ![24576, 3072]⟩
abbrev S16x128x384 : Shape := ⟨3, ![16, 128, 384]⟩
abbrev S16 : Shape := ⟨1, ![16]⟩
abbrev S4x512x384 : Shape := ⟨3, ![4, 512, 384]⟩
abbrev S24576x2048 : Shape := ⟨2, ![24576, 2048]⟩
abbrev S128x2048 : Shape := ⟨2, ![128, 2048]⟩
abbrev S128x512 : Shape := ⟨2, ![128, 512]⟩
abbrev S512x384 : Shape := ⟨2, ![512, 384]⟩
abbrev S512x1 : Shape := ⟨2, ![512, 1]⟩
abbrev S128x128 : Shape := ⟨2, ![128, 128]⟩
abbrev S384x128 : Shape := ⟨2, ![384, 128]⟩
abbrev S512x128 : Shape := ⟨2, ![512, 128]⟩
abbrev S1x512x384 : Shape := ⟨3, ![1, 512, 384]⟩
abbrev S1 : Shape := ⟨1, ![1]⟩
abbrev S512 : Shape := ⟨1, ![512]⟩

abbrev nBuf : Space → Nat
  | .hbm => 5
  | .vmem => 17
  | .smem => 1
  | _ => 0

abbrev bufTy : (tb : Table) → Fin (tcTables nBuf tb) → BufTy
  | .hbm, ⟨0, _⟩ => ⟨S24576x3072, .bf16⟩
  | .hbm, ⟨1, _⟩ => ⟨S16x128x384, .f32⟩
  | .hbm, ⟨2, _⟩ => ⟨S16, .f32⟩
  | .hbm, ⟨3, _⟩ => ⟨S4x512x384, .f32⟩
  | .hbm, ⟨4, _⟩ => ⟨S24576x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S4x512x384, .f32⟩
  | .local _ .vmem, ⟨15, _⟩ => ⟨S128x2048, .bf16⟩
  | .local _ .vmem, ⟨16, _⟩ => ⟨S128x2048, .bf16⟩
  | .local _ .smem, ⟨0, _⟩ => ⟨S16, .f32⟩
  | _, _ => ⟨S24576x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c191_i32 : BitVec 32 := 191#32
  let v1 : BitVec 32 := Scalar.minsi v0 c191_i32
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c191_i32 : BitVec 32 := 191#32
  let v1 : BitVec 32 := Scalar.minsi v0 c191_i32
  let c5_i32 : BitVec 32 := 5#32
  let c0_i32 : BitVec 32 := 0#32
  ![v1.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "isd" => some (((Real.sqrt 128)⁻¹ : ℝ) : EReal)
  | "mask" => some ⊥
  | _ => none
-- ==== ReferenceIdeal.lean ====
abbrev S24576x3072 : Shape := ⟨2, ![24576, 3072]⟩
abbrev S16x128x384 : Shape := ⟨3, ![16, 128, 384]⟩
abbrev S16 : Shape := ⟨1, ![16]⟩
abbrev S8192x3072 : Shape := ⟨2, ![8192, 3072]⟩
abbrev S1x8192x3072 : Shape := ⟨3, ![1, 8192, 3072]⟩
abbrev S1x8192x2048 : Shape := ⟨3, ![1, 8192, 2048]⟩
abbrev S1x8192x512 : Shape := ⟨3, ![1, 8192, 512]⟩
abbrev S1x64x128x4x4x128 : Shape := ⟨6, ![1, 64, 128, 4, 4, 128]⟩
abbrev S1x8192x4x128 : Shape := ⟨4, ![1, 8192, 4, 128]⟩
abbrev S_ : Shape := ⟨0, ![]⟩
abbrev S1x8448x4x128 : Shape := ⟨4, ![1, 8448, 4, 128]⟩
abbrev S1x66x128x4x128 : Shape := ⟨5, ![1, 66, 128, 4, 128]⟩
abbrev S1x64x128x4x128 : Shape := ⟨5, ![1, 64, 128, 4, 128]⟩
abbrev S1x64x384x4x128 : Shape := ⟨5, ![1, 64, 384, 4, 128]⟩
abbrev S1x64x4x384x128x4 : Shape := ⟨6, ![1, 64, 4, 384, 128, 4]⟩
abbrev S1x64x4x4x128x384 : Shape := ⟨6, ![1, 64, 4, 4, 128, 384]⟩
abbrev S384 : Shape := ⟨1, ![384]⟩
abbrev S1x384 : Shape := ⟨2, ![1, 384]⟩
abbrev S4x4x128x384 : Shape := ⟨4, ![4, 4, 128, 384]⟩
abbrev S64 : Shape := ⟨1, ![64]⟩
abbrev S64x1 : Shape := ⟨2, ![64, 1]⟩
abbrev S64x384 : Shape := ⟨2, ![64, 384]⟩
abbrev S64x1x384 : Shape := ⟨3, ![64, 1, 384]⟩
abbrev S1x64x1x1x1x384 : Shape := ⟨6, ![1, 64, 1, 1, 1, 384]⟩
abbrev S1x1x4x4x128x384 : Shape := ⟨6, ![1, 1, 4, 4, 128, 384]⟩
abbrev S1x1x4x4x1x1 : Shape := ⟨6, ![1, 1, 4, 4, 1, 1]⟩
abbrev S1x64x4x4x128 : Shape := ⟨5, ![1, 64, 4, 4, 128]⟩
abbrev S1x64x4x4x128x1 : Shape := ⟨6, ![1, 64, 4, 4, 128, 1]⟩
abbrev S1x64x4x128x4x128 : Shape := ⟨6, ![1, 64, 4, 128, 4, 128]⟩
abbrev S8192x2048 : Shape := ⟨2, ![8192, 2048]⟩
abbrev S16384x3072 : Shape := ⟨2, ![16384, 3072]⟩
abbrev S8x2048x3072 : Shape := ⟨3, ![8, 2048, 3072]⟩
abbrev S8x2048x2048 : Shape := ⟨3, ![8, 2048, 2048]⟩
abbrev S8x2048x512 : Shape := ⟨3, ![8, 2048, 512]⟩
abbrev S8x16x128x4x4x128 : Shape := ⟨6, ![8, 16, 128, 4, 4, 128]⟩
abbrev S8x2048x4x128 : Shape := ⟨4, ![8, 2048, 4, 128]⟩
abbrev S8x2304x4x128 : Shape := ⟨4, ![8, 2304, 4, 128]⟩
abbrev S8x18x128x4x128 : Shape := ⟨5, ![8, 18, 128, 4, 128]⟩
abbrev S8x16x128x4x128 : Shape := ⟨5, ![8, 16, 128, 4, 128]⟩
abbrev S8x16x384x4x128 : Shape := ⟨5, ![8, 16, 384, 4, 128]⟩
abbrev S8x16x4x384x128x4 : Shape := ⟨6, ![8, 16, 4, 384, 128, 4]⟩
abbrev S8x16x4x4x128x384 : Shape := ⟨6, ![8, 16, 4, 4, 128, 384]⟩
abbrev S16x1 : Shape := ⟨2, ![16, 1]⟩
abbrev S16x384 : Shape := ⟨2, ![16, 384]⟩
abbrev S16x1x384 : Shape := ⟨3, ![16, 1, 384]⟩
abbrev S1x16x1x1x1x384 : Shape := ⟨6, ![1, 16, 1, 1, 1, 384]⟩
abbrev S8x16x4x4x128 : Shape := ⟨5, ![8, 16, 4, 4, 128]⟩
abbrev S8x16x4x4x128x1 : Shape := ⟨6, ![8, 16, 4, 4, 128, 1]⟩
abbrev S8x16x4x128x4x128 : Shape := ⟨6, ![8, 16, 4, 128, 4, 128]⟩
abbrev S16384x2048 : Shape := ⟨2, ![16384, 2048]⟩
abbrev S24576x2048 : Shape := ⟨2, ![24576, 2048]⟩

abbrev nBuf : Space → Nat
  | .hbm => 170
  | .vmem => 0
  | .smem => 0
  | _ => 0

abbrev hbmTy0_0 (i : Nat) : BufTy := match i % 128 with
  | 0 => ⟨S24576x3072, .bf16⟩
  | 1 => ⟨S16x128x384, .f32⟩
  | 2 => ⟨S16, .f32⟩
  | 3 => ⟨S24576x3072, .f32⟩
  | 4 => ⟨S8192x3072, .f32⟩
  | 5 => ⟨S1x8192x3072, .f32⟩
  | 6 => ⟨S1x8192x2048, .f32⟩
  | 7 => ⟨S1x8192x512, .f32⟩
  | 8 => ⟨S1x8192x512, .f32⟩
  | 9 => ⟨S1x64x128x4x4x128, .f32⟩
  | 10 => ⟨S1x8192x4x128, .f32⟩
  | 11 => ⟨S_, .i32⟩
  | 12 => ⟨S_, .f32⟩
  | 13 => ⟨S1x8448x4x128, .f32⟩
  | 14 => ⟨S1x66x128x4x128, .f32⟩
  | 15 => ⟨S1x64x128x4x128, .f32⟩
  | 16 => ⟨S1x64x128x4x128, .f32⟩
  | 17 => ⟨S1x64x128x4x128, .f32⟩
  | 18 => ⟨S1x64x384x4x128, .f32⟩
  | 19 => ⟨S1x8192x4x128, .f32⟩
  | 20 => ⟨S_, .i32⟩
  | 21 => ⟨S_, .f32⟩
  | 22 => ⟨S1x8448x4x128, .f32⟩
  | 23 => ⟨S1x66x128x4x128, .f32⟩
  | 24 => ⟨S1x64x128x4x128, .f32⟩
  | 25 => ⟨S1x64x128x4x128, .f32⟩
  | 26 => ⟨S1x64x128x4x128, .f32⟩
  | 27 => ⟨S1x64x384x4x128, .f32⟩
  | 28 => ⟨S1x64x4x384x128x4, .f32⟩
  | 29 => ⟨S1x64x4x4x128x384, .f32⟩
  | 30 => ⟨S_, .f32⟩
  | 31 => ⟨S_, .f32⟩
  | 32 => ⟨S1x64x4x4x128x384, .f32⟩
  | 33 => ⟨S1x64x4x4x128x384, .f32⟩
  | 34 => ⟨S384, .i32⟩
  | 35 => ⟨S1x384, .i32⟩
  | 36 => ⟨S_, .i32⟩
  | 37 => ⟨S1x384, .i32⟩
  | 38 => ⟨S1x384, .i32⟩
  | 39 => ⟨S4x4x128x384, .f32⟩
  | 40 => ⟨S64, .i32⟩
  | 41 => ⟨S64x1, .i32⟩
  | 42 => ⟨S_, .i32⟩
  | 43 => ⟨S64x1, .i32⟩
  | 44 => ⟨S64x1, .i32⟩
  | 45 => ⟨S64x384, .i32⟩
  | 46 => ⟨S64x384, .i32⟩
  | 47 => ⟨S64x384, .i32⟩
  | 48 => ⟨S_, .i32⟩
  | 49 => ⟨S64x384, .i32⟩
  | 50 => ⟨S64x384, .i1⟩
  | 51 => ⟨S_, .i32⟩
  | 52 => ⟨S64x384, .i32⟩
  | 53 => ⟨S64x384, .i1⟩
  | 54 => ⟨S64x384, .i1⟩
  | 55 => ⟨S64x1x384, .i1⟩
  | 56 => ⟨S1x64x1x1x1x384, .i1⟩
  | 57 => ⟨S1x1x4x4x128x384, .f32⟩
  | 58 => ⟨S1x64x4x4x128x384, .f32⟩
  | 59 => ⟨S1x64x4x4x128x384, .f32⟩
  | 60 => ⟨S_, .f32⟩
  | 61 => ⟨S_, .f32⟩
  | 62 => ⟨S1x64x4x4x128x384, .i1⟩
  | 63 => ⟨S1x64x4x4x128x384, .f32⟩
  | 64 => ⟨S1x64x4x4x128x384, .f32⟩
  | 65 => ⟨S1x1x4x4x1x1, .f32⟩
  | 66 => ⟨S_, .f32⟩
  | 67 => ⟨S1x64x4x4x128, .f32⟩
  | 68 => ⟨S1x64x4x4x128x1, .f32⟩
  | 69 => ⟨S1x64x4x4x128x1, .f32⟩
  | 70 => ⟨S1x64x4x4x128x1, .f32⟩
  | 71 => ⟨S1x64x4x4x128x384, .f32⟩
  | 72 => ⟨S1x64x4x4x128x384, .f32⟩
  | 73 => ⟨S1x64x4x4x128x384, .f32⟩
  | 74 => ⟨S_, .f32⟩
  | 75 => ⟨S1x64x4x4x128, .f32⟩
  | 76 => ⟨S1x64x4x4x128x1, .f32⟩
  | 77 => ⟨S1x64x4x4x128x1, .f32⟩
  | 78 => ⟨S1x64x4x4x128x1, .f32⟩
  | 79 => ⟨S1x64x4x4x128x1, .f32⟩
  | 80 => ⟨S1x64x4x4x128x1, .f32⟩
  | 81 => ⟨S1x64x4x4x128x384, .f32⟩
  | 82 => ⟨S1x64x4x4x128x384, .f32⟩
  | 83 => ⟨S1x64x4x128x4x128, .f32⟩
  | 84 => ⟨S1x64x128x4x4x128, .f32⟩
  | 85 => ⟨S8192x2048, .f32⟩
  | 86 => ⟨S16384x3072, .f32⟩
  | 87 => ⟨S8x2048x3072, .f32⟩
  | 88 => ⟨S8x2048x2048, .f32⟩
  | 89 => ⟨S8x2048x512, .f32⟩
  | 90 => ⟨S8x2048x512, .f32⟩
  | 91 => ⟨S8x16x128x4x4x128, .f32⟩
  | 92 => ⟨S8x2048x4x128, .f32⟩
  | 93 => ⟨S_, .i32⟩
  | 94 => ⟨S_, .f32⟩
  | 95 => ⟨S8x2304x4x128, .f32⟩
  | 96 => ⟨S8x18x128x4x128, .f32⟩
  | 97 => ⟨S8x16x128x4x128, .f32⟩
  | 98 => ⟨S8x16x128x4x128, .f32⟩
  | 99 => ⟨S8x16x128x4x128, .f32⟩
  | 100 => ⟨S8x16x384x4x128, .f32⟩
  | 101 => ⟨S8x2048x4x128, .f32⟩
  | 102 => ⟨S_, .i32⟩
  | 103 => ⟨S_, .f32⟩
  | 104 => ⟨S8x2304x4x128, .f32⟩
  | 105 => ⟨S8x18x128x4x128, .f32⟩
  | 106 => ⟨S8x16x128x4x128, .f32⟩
  | 107 => ⟨S8x16x128x4x128, .f32⟩
  | 108 => ⟨S8x16x128x4x128, .f32⟩
  | 109 => ⟨S8x16x384x4x128, .f32⟩
  | 110 => ⟨S8x16x4x384x128x4, .f32⟩
  | 111 => ⟨S8x16x4x4x128x384, .f32⟩
  | 112 => ⟨S_, .f32⟩
  | 113 => ⟨S_, .f32⟩
  | 114 => ⟨S8x16x4x4x128x384, .f32⟩
  | 115 => ⟨S8x16x4x4x128x384, .f32⟩
  | 116 => ⟨S384, .i32⟩
  | 117 => ⟨S1x384, .i32⟩
  | 118 => ⟨S_, .i32⟩
  | 119 => ⟨S1x384, .i32⟩
  | 120 => ⟨S1x384, .i32⟩
  | 121 => ⟨S4x4x128x384, .f32⟩
  | 122 => ⟨S16, .i32⟩
  | 123 => ⟨S16x1, .i32⟩
  | 124 => ⟨S_, .i32⟩
  | 125 => ⟨S16x1, .i32⟩
  | 126 => ⟨S16x1, .i32⟩
  | 127 => ⟨S16x384, .i32⟩
  | _ => ⟨S24576x3072, .bf16⟩

abbrev hbmTy0_1 (i : Nat) : BufTy := match i % 128 with
  | 0 => ⟨S16x384, .i32⟩
  | 1 => ⟨S16x384, .i32⟩
  | 2 => ⟨S_, .i32⟩
  | 3 => ⟨S16x384, .i32⟩
  | 4 => ⟨S16x384, .i1⟩
  | 5 => ⟨S_, .i32⟩
  | 6 => ⟨S16x384, .i32⟩
  | 7 => ⟨S16x384, .i1⟩
  | 8 => ⟨S16x384, .i1⟩
  | 9 => ⟨S16x1x384, .i1⟩
  | 10 => ⟨S1x16x1x1x1x384, .i1⟩
  | 11 => ⟨S1x1x4x4x128x384, .f32⟩
  | 12 => ⟨S8x16x4x4x128x384, .f32⟩
  | 13 => ⟨S8x16x4x4x128x384, .f32⟩
  | 14 => ⟨S_, .f32⟩
  | 15 => ⟨S_, .f32⟩
  | 16 => ⟨S8x16x4x4x128x384, .i1⟩
  | 17 => ⟨S8x16x4x4x128x384, .f32⟩
  | 18 => ⟨S8x16x4x4x128x384, .f32⟩
  | 19 => ⟨S1x1x4x4x1x1, .f32⟩
  | 20 => ⟨S_, .f32⟩
  | 21 => ⟨S8x16x4x4x128, .f32⟩
  | 22 => ⟨S8x16x4x4x128x1, .f32⟩
  | 23 => ⟨S8x16x4x4x128x1, .f32⟩
  | 24 => ⟨S8x16x4x4x128x1, .f32⟩
  | 25 => ⟨S8x16x4x4x128x384, .f32⟩
  | 26 => ⟨S8x16x4x4x128x384, .f32⟩
  | 27 => ⟨S8x16x4x4x128x384, .f32⟩
  | 28 => ⟨S_, .f32⟩
  | 29 => ⟨S8x16x4x4x128, .f32⟩
  | 30 => ⟨S8x16x4x4x128x1, .f32⟩
  | 31 => ⟨S8x16x4x4x128x1, .f32⟩
  | 32 => ⟨S8x16x4x4x128x1, .f32⟩
  | 33 => ⟨S8x16x4x4x128x1, .f32⟩
  | 34 => ⟨S8x16x4x4x128x1, .f32⟩
  | 35 => ⟨S8x16x4x4x128x384, .f32⟩
  | 36 => ⟨S8x16x4x4x128x384, .f32⟩
  | 37 => ⟨S8x16x4x128x4x128, .f32⟩
  | 38 => ⟨S8x16x128x4x4x128, .f32⟩
  | 39 => ⟨S16384x2048, .f32⟩
  | 40 => ⟨S24576x2048, .f32⟩
  | 41 => ⟨S24576x2048, .bf16⟩
  | _ => ⟨S24576x3072, .bf16⟩

abbrev hbmTy (i : Nat) : BufTy := match i / 128 with
  | 0 => hbmTy0_0 i
  | 1 => hbmTy0_1 i
  | _ => ⟨S24576x3072, .bf16⟩

abbrev bufTy : (tb : Table) → Fin (tcTables nBuf tb) → BufTy
  | .hbm, ⟨i, _⟩ => hbmTy i
  | _, _ => ⟨S24576x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_8 : Ref sig .tc := ⟨.hbm, 93, rfl⟩
abbrev main_call3_v0 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_c_9 : Ref sig .tc := ⟨.hbm, 102, rfl⟩
abbrev main_call4_v0 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_11 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_12 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_c_13 : Ref sig .tc := ⟨.hbm, 130, rfl⟩
abbrev main_v105 : Ref sig .tc := ⟨.hbm, 131, rfl⟩
abbrev main_v106 : Ref sig .tc := ⟨.hbm, 132, rfl⟩
abbrev main_c_14 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_15 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v115 : Ref sig .tc := ⟨.hbm, 146, rfl⟩
abbrev main_v116 : Ref sig .tc := ⟨.hbm, 147, rfl⟩
abbrev main_cst_16 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_17 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩

abbrev nD : Nat := 1
abbrev τ : Topo := Topo.v7x

variable {F : FTy → Type} [FloatOps F]
-- ==== Last.lean ====
abbrev S24576x2048 : Shape := ⟨2, ![24576, 2048]⟩
abbrev S2048 : Shape := ⟨1, ![2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S8192x2048 : Shape := ⟨2, ![8192, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 13
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S4x2048x11264, .bf16⟩
  | .hbm, ⟨6, _⟩ => ⟨S4x5632x2048, .bf16⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastReferenceIdeal.lean ====
abbrev S24576x2048 : Shape := ⟨2, ![24576, 2048]⟩
abbrev S2048 : Shape := ⟨1, ![2048]⟩
abbrev S4x2048x11264 : Shape := ⟨3, ![4, 2048, 11264]⟩
abbrev S4x5632x2048 : Shape := ⟨3, ![4, 5632, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8192x11264 : Shape := ⟨2, ![8192, 11264]⟩
abbrev S8192x5632 : Shape := ⟨2, ![8192, 5632]⟩

abbrev nBuf : Space → Nat
  | .hbm => 60
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S8192x11264, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== LastSample.lean ====
abbrev S24576x2048 : Shape := ⟨2, ![24576, 2048]⟩
abbrev S2048 : Shape := ⟨1, ![2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S16384x2048 : Shape := ⟨2, ![16384, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 13
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S4x2048x11264, .bf16⟩
  | .hbm, ⟨6, _⟩ => ⟨S4x5632x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastSampleReferenceIdeal.lean ====
abbrev S24576x2048 : Shape := ⟨2, ![24576, 2048]⟩
abbrev S2048 : Shape := ⟨1, ![2048]⟩
abbrev S4x2048x11264 : Shape := ⟨3, ![4, 2048, 11264]⟩
abbrev S4x5632x2048 : Shape := ⟨3, ![4, 5632, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S16384x11264 : Shape := ⟨2, ![16384, 11264]⟩
abbrev S16384x5632 : Shape := ⟨2, ![16384, 5632]⟩

abbrev nBuf : Space → Nat
  | .hbm => 60
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S16384x11264, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S_, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Inner.lean ====
abbrev S24576x2048 : Shape := ⟨2, ![24576, 2048]⟩
abbrev S2048 : Shape := ⟨1, ![2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S4x2048x11264, .bf16⟩
  | .hbm, ⟨5, _⟩ => ⟨S4x5632x2048, .bf16⟩
  | .hbm, ⟨6, _⟩ => ⟨S1x2048, .f32⟩
  | .hbm, ⟨7, _⟩ => ⟨S24576x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InnerReferenceIdeal.lean ====
abbrev S24576x2048 : Shape := ⟨2, ![24576, 2048]⟩
abbrev S2048 : Shape := ⟨1, ![2048]⟩
abbrev S4x2048x11264 : Shape := ⟨3, ![4, 2048, 11264]⟩
abbrev S4x5632x2048 : Shape := ⟨3, ![4, 5632, 2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S24576x11264 : Shape := ⟨2, ![24576, 11264]⟩
abbrev S24576x5632 : Shape := ⟨2, ![24576, 5632]⟩

abbrev nBuf : Space → Nat
  | .hbm => 42
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S4x2048x11264, .f32⟩
  | .hbm, ⟨3, _⟩ => ⟨S4x5632x2048, .f32⟩
  | .hbm, ⟨4, _⟩ => ⟨S24576x2048, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x2048, .f32⟩
  | .hbm, ⟨16, _⟩ => ⟨S24576x2048, .f32⟩
  | .hbm, ⟨17, _⟩ => ⟨S1x2048, .f32⟩
  | .hbm, ⟨18, _⟩ => ⟨S24576x2048, .f32⟩
  | .hbm, ⟨19, _⟩ => ⟨S24576x2048, .f32⟩
  | .hbm, ⟨20, _⟩ => ⟨S1x2048x11264, .f32⟩
  | .hbm, ⟨21, _⟩ => ⟨S2048x11264, .f32⟩
  | .hbm, ⟨22, _⟩ => ⟨S1x5632x2048, .f32⟩
  | .hbm, ⟨23, _⟩ => ⟨S5632x2048, .f32⟩
  | .hbm, ⟨24, _⟩ => ⟨S24576x11264, .f32⟩
  | .hbm, ⟨25, _⟩ => ⟨S24576x5632, .f32⟩
  | .hbm, ⟨26, _⟩ => ⟨S24576x5632, .f32⟩
  | .hbm, ⟨27, _⟩ => ⟨S24576x5632, .f32⟩
  | .hbm, ⟨28, _⟩ => ⟨S24576x5632, .f32⟩
  | .hbm, ⟨29, _⟩ => ⟨S_, .f32⟩
  | .hbm, ⟨30, _⟩ => ⟨S24576x5632, .f32⟩
  | .hbm, ⟨31, _⟩ => ⟨S24576x5632, .f32⟩
  | .hbm, ⟨32, _⟩ => ⟨S_, .f32⟩
  | .hbm, ⟨33, _⟩ => ⟨S24576x5632, .f32⟩
  | .hbm, ⟨34, _⟩ => ⟨S24576x5632, .f32⟩
  | .hbm, ⟨35, _⟩ => ⟨S24576x5632, .f32⟩
  | .hbm, ⟨36, _⟩ => ⟨S24576x5632, .f32⟩
  | .hbm, ⟨37, _⟩ => ⟨S24576x2048, .f32⟩
  | .hbm, ⟨38, _⟩ => ⟨S_, .f32⟩
  | .hbm, ⟨39, _⟩ => ⟨S24576x2048, .f32⟩
  | .hbm, ⟨40, _⟩ => ⟨S24576x2048, .f32⟩
  | .hbm, ⟨41, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Project.lean ====
abbrev S24576x2048 : Shape := ⟨2, ![24576, 2048]⟩
abbrev S2048 : Shape := ⟨1, ![2048]⟩
abbrev S2x2048x3072 : Shape := ⟨3, ![2, 2048, 3072]⟩
abbrev S1x2048 : Shape := ⟨2, ![1, 2048]⟩
abbrev S24576x3072 : Shape := ⟨2, ![24576, 3072]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2x2048x3072, .f32⟩
  | .hbm, ⟨3, _⟩ => ⟨S2x2048x3072, .bf16⟩
  | .hbm, ⟨4, _⟩ => ⟨S1x2048, .f32⟩
  | .hbm, ⟨5, _⟩ => ⟨S24576x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![24, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectReferenceIdeal.lean ====
abbrev S24576x2048 : Shape := ⟨2, ![24576, 2048]⟩
abbrev S2048 : Shape := ⟨1, ![2048]⟩
abbrev S2x2048x3072 : Shape := ⟨3, ![2, 2048, 3072]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S1x2048x3072 : Shape := ⟨3, ![1, 2048, 3072]⟩
abbrev S2048x3072 : Shape := ⟨2, ![2048, 3072]⟩
abbrev S24576x3072 : Shape := ⟨2, ![24576, 3072]⟩

abbrev nBuf : Space → Nat
  | .hbm => 23
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2x2048x3072, .f32⟩
  | .hbm, ⟨3, _⟩ => ⟨S24576x2048, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x2048, .f32⟩
  | .hbm, ⟨15, _⟩ => ⟨S24576x2048, .f32⟩
  | .hbm, ⟨16, _⟩ => ⟨S1x2048, .f32⟩
  | .hbm, ⟨17, _⟩ => ⟨S24576x2048, .f32⟩
  | .hbm, ⟨18, _⟩ => ⟨S24576x2048, .f32⟩
  | .hbm, ⟨19, _⟩ => ⟨S1x2048x3072, .f32⟩
  | .hbm, ⟨20, _⟩ => ⟨S2048x3072, .f32⟩
  | .hbm, ⟨21, _⟩ => ⟨S24576x3072, .f32⟩
  | .hbm, ⟨22, _⟩ => ⟨S24576x3072, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Merge.lean ====
abbrev S24576x2048 : Shape := ⟨2, ![24576, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S24576x2048, .f32⟩
  | .hbm, ⟨1, _⟩ => ⟨S24576x2048, .bf16⟩
  | .hbm, ⟨2, _⟩ => ⟨S2x2048x2048, .f32⟩
  | .hbm, ⟨3, _⟩ => ⟨S2x2048x2048, .bf16⟩
  | .hbm, ⟨4, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MergeReferenceIdeal.lean ====
abbrev S24576x2048 : Shape := ⟨2, ![24576, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S24576x2048, .bf16⟩
  | .hbm, ⟨2, _⟩ => ⟨S2x2048x2048, .f32⟩
  | .hbm, ⟨3, _⟩ => ⟨S24576x2048, .f32⟩
  | .hbm, ⟨4, _⟩ => ⟨S1x2048x2048, .f32⟩
  | .hbm, ⟨5, _⟩ => ⟨S2048x2048, .f32⟩
  | .hbm, ⟨6, _⟩ => ⟨S24576x2048, .f32⟩
  | .hbm, ⟨7, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MergeTwo.lean ====
abbrev S24576x2048 : Shape := ⟨2, ![24576, 2048]⟩
abbrev S24576x1024 : Shape := ⟨2, ![24576, 1024]⟩
abbrev S2x2048x2048 : Shape := ⟨3, ![2, 2048, 2048]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S24576x2048, .f32⟩
  | .hbm, ⟨1, _⟩ => ⟨S24576x1024, .bf16⟩
  | .hbm, ⟨2, _⟩ => ⟨S24576x1024, .bf16⟩
  | .hbm, ⟨3, _⟩ => ⟨S2x2048x2048, .f32⟩
  | .hbm, ⟨4, _⟩ => ⟨S2x2048x2048, .bf16⟩
  | .hbm, ⟨5, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S512x1024, .bf16⟩
  | .local _ .vmem, ⟨6, _⟩ => ⟨S512x1024, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeTwoReferenceIdeal.lean ====
abbrev S24576x2048 : Shape := ⟨2, ![24576, 2048]⟩
abbrev S24576x1024 : Shape := ⟨2, ![24576, 1024]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S24576x1024, .bf16⟩
  | .hbm, ⟨2, _⟩ => ⟨S24576x1024, .bf16⟩
  | .hbm, ⟨3, _⟩ => ⟨S2x2048x2048, .f32⟩
  | .hbm, ⟨4, _⟩ => ⟨S24576x2048, .bf16⟩
  | .hbm, ⟨5, _⟩ => ⟨S24576x2048, .f32⟩
  | .hbm, ⟨6, _⟩ => ⟨S1x2048x2048, .f32⟩
  | .hbm, ⟨7, _⟩ => ⟨S2048x2048, .f32⟩
  | .hbm, ⟨8, _⟩ => ⟨S24576x2048, .f32⟩
  | .hbm, ⟨9, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjectEven.lean ====
abbrev S24576x2048 : Shape := ⟨2, ![24576, 2048]⟩
abbrev S2048 : Shape := ⟨1, ![2048]⟩
abbrev S2x2048x4096 : Shape := ⟨3, ![2, 2048, 4096]⟩
abbrev S1x2048 : Shape := ⟨2, ![1, 2048]⟩
abbrev S24576x4096 : Shape := ⟨2, ![24576, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2x2048x4096, .f32⟩
  | .hbm, ⟨3, _⟩ => ⟨S2x2048x4096, .bf16⟩
  | .hbm, ⟨4, _⟩ => ⟨S1x2048, .f32⟩
  | .hbm, ⟨5, _⟩ => ⟨S24576x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![24, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectEvenReferenceIdeal.lean ====
abbrev S24576x2048 : Shape := ⟨2, ![24576, 2048]⟩
abbrev S2048 : Shape := ⟨1, ![2048]⟩
abbrev S2x2048x4096 : Shape := ⟨3, ![2, 2048, 4096]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S1x2048x4096 : Shape := ⟨3, ![1, 2048, 4096]⟩
abbrev S2048x4096 : Shape := ⟨2, ![2048, 4096]⟩
abbrev S24576x4096 : Shape := ⟨2, ![24576, 4096]⟩

abbrev nBuf : Space → Nat
  | .hbm => 23
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2x2048x4096, .f32⟩
  | .hbm, ⟨3, _⟩ => ⟨S24576x2048, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x2048, .f32⟩
  | .hbm, ⟨15, _⟩ => ⟨S24576x2048, .f32⟩
  | .hbm, ⟨16, _⟩ => ⟨S1x2048, .f32⟩
  | .hbm, ⟨17, _⟩ => ⟨S24576x2048, .f32⟩
  | .hbm, ⟨18, _⟩ => ⟨S24576x2048, .f32⟩
  | .hbm, ⟨19, _⟩ => ⟨S1x2048x4096, .f32⟩
  | .hbm, ⟨20, _⟩ => ⟨S2048x4096, .f32⟩
  | .hbm, ⟨21, _⟩ => ⟨S24576x4096, .f32⟩
  | .hbm, ⟨22, _⟩ => ⟨S24576x4096, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Bias.lean ====
abbrev S128x384 : Shape := ⟨2, ![128, 384]⟩
abbrev S32x16 : Shape := ⟨2, ![32, 16]⟩
abbrev S16x128x384 : Shape := ⟨3, ![16, 128, 384]⟩
abbrev S1x128x384 : Shape := ⟨3, ![1, 128, 384]⟩
abbrev S1x1 : Shape := ⟨2, ![1, 1]⟩

abbrev nBuf : Space → Nat
  | .hbm => 3
  | .vmem => 3
  | .smem => 1
  | _ => 0

abbrev bufTy : (tb : Table) → Fin (tcTables nBuf tb) → BufTy
  | .hbm, ⟨0, _⟩ => ⟨S128x384, .i32⟩
  | .hbm, ⟨1, _⟩ => ⟨S32x16, .f32⟩
  | .hbm, ⟨2, _⟩ => ⟨S16x128x384, .f32⟩
  | .local _ .vmem, ⟨0, _⟩ => ⟨S128x384, .i32⟩
  | .local _ .vmem, ⟨1, _⟩ => ⟨S1x128x384, .f32⟩
  | .local _ .vmem, ⟨2, _⟩ => ⟨S1x128x384, .f32⟩
  | .local _ .smem, ⟨0, _⟩ => ⟨S32x16, .f32⟩
  | _, _ => ⟨S128x384, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_1 : Index := 0#32
  let arg0 : BitVec 32 := BitVec.ofNat 32 (i 0).val
  let v8 : Index := Scalar.indexCast arg0
  ![0, v8.toNat]
def k0_off2 (i : grid0.Coords) : Fin 2 → Nat :=
  let c1 : Index := 1#32
  let arg0 : BitVec 32 := BitVec.ofNat 32 (i 0).val
  let v14 : Index := Scalar.indexCast arg0
  ![1, v14.toNat]
def k0_off3 (i : grid0.Coords) : Fin 2 → Nat :=
  let c2 : Index := 2#32
  let arg0 : BitVec 32 := BitVec.ofNat 32 (i 0).val
  let v20 : Index := Scalar.indexCast arg0
  ![2, v20.toNat]
def k0_off4 (i : grid0.Coords) : Fin 2 → Nat :=
  let c3 : Index := 3#32
  let arg0 : BitVec 32 := BitVec.ofNat 32 (i 0).val
  let v26 : Index := Scalar.indexCast arg0
  ![3, v26.toNat]
def k0_off5 (i : grid0.Coords) : Fin 2 → Nat :=
  let c4 : Index := 4#32
  let arg0 : BitVec 32 := BitVec.ofNat 32 (i 0).val
  let v32 : Index := Scalar.indexCast arg0
  ![4, v32.toNat]
def k0_off6 (i : grid0.Coords) : Fin 2 → Nat :=
  let c5 : Index := 5#32
  let arg0 : BitVec 32 := BitVec.ofNat 32 (i 0).val
  let v38 : Index := Scalar.indexCast arg0
  ![5, v38.toNat]
def k0_off7 (i : grid0.Coords) : Fin 2 → Nat :=
  let c6 : Index := 6#32
  let arg0 : BitVec 32 := BitVec.ofNat 32 (i 0).val
  let v44 : Index := Scalar.indexCast arg0
  ![6, v44.toNat]
def k0_off8 (i : grid0.Coords) : Fin 2 → Nat :=
  let c7 : Index := 7#32
  let arg0 : BitVec 32 := BitVec.ofNat 32 (i 0).val
  let v50 : Index := Scalar.indexCast arg0
  ![7, v50.toNat]
def k0_off9 (i : grid0.Coords) : Fin 2 → Nat :=
  let c8 : Index := 8#32
  let arg0 : BitVec 32 := BitVec.ofNat 32 (i 0).val
  let v56 : Index := Scalar.indexCast arg0
  ![8, v56.toNat]
def k0_off10 (i : grid0.Coords) : Fin 2 → Nat :=
  let c9 : Index := 9#32
  let arg0 : BitVec 32 := BitVec.ofNat 32 (i 0).val
  let v62 : Index := Scalar.indexCast arg0
  ![9, v62.toNat]
def k0_off11 (i : grid0.Coords) : Fin 2 → Nat :=
  let c10 : Index := 10#32
  let arg0 : BitVec 32 := BitVec.ofNat 32 (i 0).val
  let v68 : Index := Scalar.indexCast arg0
  ![10, v68.toNat]
def k0_off12 (i : grid0.Coords) : Fin 2 → Nat :=
  let c11 : Index := 11#32
  let arg0 : BitVec 32 := BitVec.ofNat 32 (i 0).val
  let v74 : Index := Scalar.indexCast arg0
  ![11, v74.toNat]
def k0_off13 (i : grid0.Coords) : Fin 2 → Nat :=
  let c12 : Index := 12#32
  let arg0 : BitVec 32 := BitVec.ofNat 32 (i 0).val
  let v80 : Index := Scalar.indexCast arg0
  ![12, v80.toNat]
def k0_off14 (i : grid0.Coords) : Fin 2 → Nat :=
  let c13 : Index := 13#32
  let arg0 : BitVec 32 := BitVec.ofNat 32 (i 0).val
  let v86 : Index := Scalar.indexCast arg0
  ![13, v86.toNat]
def k0_off15 (i : grid0.Coords) : Fin 2 → Nat :=
  let c14 : Index := 14#32
  let arg0 : BitVec 32 := BitVec.ofNat 32 (i 0).val
  let v92 : Index := Scalar.indexCast arg0
  ![14, v92.toNat]
def k0_off16 (i : grid0.Coords) : Fin 2 → Nat :=
  let c15 : Index := 15#32
  let arg0 : BitVec 32 := BitVec.ofNat 32 (i 0).val
  let v98 : Index := Scalar.indexCast arg0
  ![15, v98.toNat]
def k0_off17 (i : grid0.Coords) : Fin 2 → Nat :=
  let c16 : Index := 16#32
  let arg0 : BitVec 32 := BitVec.ofNat 32 (i 0).val
  let v104 : Index := Scalar.indexCast arg0
  ![16, v104.toNat]
def k0_off18 (i : grid0.Coords) : Fin 2 → Nat :=
  let c17 : Index := 17#32
  let arg0 : BitVec 32 := BitVec.ofNat 32 (i 0).val
  let v110 : Index := Scalar.indexCast arg0
  ![17, v110.toNat]
def k0_off19 (i : grid0.Coords) : Fin 2 → Nat :=
  let c18 : Index := 18#32
  let arg0 : BitVec 32 := BitVec.ofNat 32 (i 0).val
  let v116 : Index := Scalar.indexCast arg0
  ![18, v116.toNat]
def k0_off20 (i : grid0.Coords) : Fin 2 → Nat :=
  let c19 : Index := 19#32
  let arg0 : BitVec 32 := BitVec.ofNat 32 (i 0).val
  let v122 : Index := Scalar.indexCast arg0
  ![19, v122.toNat]
def k0_off21 (i : grid0.Coords) : Fin 2 → Nat :=
  let c20 : Index := 20#32
  let arg0 : BitVec 32 := BitVec.ofNat 32 (i 0).val
  let v128 : Index := Scalar.indexCast arg0
  ![20, v128.toNat]
def k0_off22 (i : grid0.Coords) : Fin 2 → Nat :=
  let c21 : Index := 21#32
  let arg0 : BitVec 32 := BitVec.ofNat 32 (i 0).val
  let v134 : Index := Scalar.indexCast arg0
  ![21, v134.toNat]
def k0_off23 (i : grid0.Coords) : Fin 2 → Nat :=
  let c22 : Index := 22#32
  let arg0 : BitVec 32 := BitVec.ofNat 32 (i 0).val
  let v140 : Index := Scalar.indexCast arg0
  ![22, v140.toNat]
def k0_off24 (i : grid0.Coords) : Fin 2 → Nat :=
  let c23 : Index := 23#32
  let arg0 : BitVec 32 := BitVec.ofNat 32 (i 0).val
  let v146 : Index := Scalar.indexCast arg0
  ![23, v146.toNat]
def k0_off25 (i : grid0.Coords) : Fin 2 → Nat :=
  let c24 : Index := 24#32
  let arg0 : BitVec 32 := BitVec.ofNat 32 (i 0).val
  let v152 : Index := Scalar.indexCast arg0
  ![24, v152.toNat]
def k0_off26 (i : grid0.Coords) : Fin 2 → Nat :=
  let c25 : Index := 25#32
  let arg0 : BitVec 32 := BitVec.ofNat 32 (i 0).val
  let v158 : Index := Scalar.indexCast arg0
  ![25, v158.toNat]
def k0_off27 (i : grid0.Coords) : Fin 2 → Nat :=
  let c26 : Index := 26#32
  let arg0 : BitVec 32 := BitVec.ofNat 32 (i 0).val
  let v164 : Index := Scalar.indexCast arg0
  ![26, v164.toNat]
def k0_off28 (i : grid0.Coords) : Fin 2 → Nat :=
  let c27 : Index := 27#32
  let arg0 : BitVec 32 := BitVec.ofNat 32 (i 0).val
  let v170 : Index := Scalar.indexCast arg0
  ![27, v170.toNat]
def k0_off29 (i : grid0.Coords) : Fin 2 → Nat :=
  let c28 : Index := 28#32
  let arg0 : BitVec 32 := BitVec.ofNat 32 (i 0).val
  let v176 : Index := Scalar.indexCast arg0
  ![28, v176.toNat]
def k0_off30 (i : grid0.Coords) : Fin 2 → Nat :=
  let c29 : Index := 29#32
  let arg0 : BitVec 32 := BitVec.ofNat 32 (i 0).val
  let v182 : Index := Scalar.indexCast arg0
  ![29, v182.toNat]
def k0_off31 (i : grid0.Coords) : Fin 2 → Nat :=
  let c30 : Index := 30#32
  let arg0 : BitVec 32 := BitVec.ofNat 32 (i 0).val
  let v188 : Index := Scalar.indexCast arg0
  ![30, v188.toNat]
def k0_off32 (i : grid0.Coords) : Fin 2 → Nat :=
  let c31 : Index := 31#32
  let arg0 : BitVec 32 := BitVec.ofNat 32 (i 0).val
  let v194 : Index := Scalar.indexCast arg0
  ![31, v194.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasIdeal.lean ====
variable {F : FTy → Type} [FloatOps F] [Named F]
def κ : String → Option EReal := fun
  | "mask" => some ⊥
  | _ => none
-- ==== BiasReferenceIdeal.lean ====
abbrev S128x384 : Shape := ⟨2, ![128, 384]⟩
abbrev S32x16 : Shape := ⟨2, ![32, 16]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384x1 : Shape := ⟨3, ![128, 384, 1]⟩
abbrev S128x384x16 : Shape := ⟨3, ![128, 384, 16]⟩
abbrev S16x128x384 : Shape := ⟨3, ![16, 128, 384]⟩
abbrev S1x128x384 : Shape := ⟨3, ![1, 128, 384]⟩

abbrev nBuf : Space → Nat
  | .hbm => 32
  | .vmem => 0
  | .smem => 0
  | _ => 0

abbrev bufTy : (tb : Table) → Fin (tcTables nBuf tb) → BufTy
  | .hbm, ⟨0, _⟩ => ⟨S128x384, .i32⟩
  | .hbm, ⟨1, _⟩ => ⟨S32x16, .f32⟩
  | .hbm, ⟨2, _⟩ => ⟨S128, .i32⟩
  | .hbm, ⟨3, _⟩ => ⟨S128x1, .i32⟩
  | .hbm, ⟨4, _⟩ => ⟨S384, .i32⟩
  | .hbm, ⟨5, _⟩ => ⟨S1x384, .i32⟩
  | .hbm, ⟨6, _⟩ => ⟨S_, .i32⟩
  | .hbm, ⟨7, _⟩ => ⟨S1x384, .i32⟩
  | .hbm, ⟨8, _⟩ => ⟨S1x384, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S_, .i32⟩
  | .hbm, ⟨13, _⟩ => ⟨S128x384, .i32⟩
  | .hbm, ⟨14, _⟩ => ⟨S128x384, .i1⟩
  | .hbm, ⟨15, _⟩ => ⟨S_, .i32⟩
  | .hbm, ⟨16, _⟩ => ⟨S128x384, .i32⟩
  | .hbm, ⟨17, _⟩ => ⟨S128x384, .i32⟩
  | .hbm, ⟨18, _⟩ => ⟨S128x384, .i32⟩
  | .hbm, ⟨19, _⟩ => ⟨S128x384x1, .i32⟩
  | .hbm, ⟨20, _⟩ => ⟨S128x384x16, .f32⟩
  | .hbm, ⟨21, _⟩ => ⟨S16x128x384, .f32⟩
  | .hbm, ⟨22, _⟩ => ⟨S128x384, .i32⟩
  | .hbm, ⟨23, _⟩ => ⟨S_, .i32⟩
  | .hbm, ⟨24, _⟩ => ⟨S128x384, .i32⟩
  | .hbm, ⟨25, _⟩ => ⟨S128x384, .i1⟩
  | .hbm, ⟨26, _⟩ => ⟨S1x128x384, .i1⟩
  | .hbm, ⟨27, _⟩ => ⟨S_, .f32⟩
  | .hbm, ⟨28, _⟩ => ⟨S_, .f32⟩
  | .hbm, ⟨29, _⟩ => ⟨S16x128x384, .i1⟩
  | .hbm, ⟨30, _⟩ => ⟨S16x128x384, .f32⟩
  | .hbm, ⟨31, _⟩ => ⟨S16x128x384, .f32⟩
  | _, _ => ⟨S128x384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Row.lean ====
module

public import Idealize.ShloMosaic.Lib.Pointwise

/-! One query row of attention with a sink, over the extended reals: the scores of the row's keys and the sink logit
are shifted by their largest, exponentiated, and the values averaged with these weights. The kernel divides the
weighted sum once; the reference divides every weight first. -/

@[expose] public section

namespace Row
open Idealize.ShloMosaic
noncomputable section

variable {n : ℕ}

/-- The largest of the row's scores and the sink logit. -/
def top (S : Fin n → EReal) (s : EReal) : EReal := max (Finset.univ.fold max ⊥ S) s
/-- The weight of one key before the division. -/
def weight (S : Fin n → EReal) (s : EReal) (j : Fin n) : EReal := Ideal.exp (S j - top S s)
/-- The denominator: all weights and the sink's. -/
def mass (S : Fin n → EReal) (s : EReal) : EReal := (∑ j, weight S s j) + Ideal.exp (s - top S s)
/-- The row divided once, after the weighted sum. -/
def late (S : Fin n → EReal) (s : EReal) (V : Fin n → EReal) : EReal := Ideal.div (∑ j, weight S s j * V j) (mass S s)
/-- The row with every weight divided before the sum. -/
def early (S : Fin n → EReal) (s : EReal) (V : Fin n → EReal) : EReal := ∑ j, Ideal.div (weight S s j) (mass S s) * V j

/-- An exponential is not negative. -/
theorem exp_nonneg (x : EReal) : 0 ≤ Ideal.exp x := by
  induction x with
  | bot => simp
  | top => simp
  | coe r => rw [Ideal.exp_coe]; exact_mod_cast (Real.exp_pos r).le

/-- A key whose score is minus infinity has weight zero. -/
theorem weight_eq_zero {S : Fin n → EReal} {s : EReal} {j : Fin n} (h : S j = ⊥) : weight S s j = 0 := by
  unfold weight; rw [h, sub_eq_add_neg, EReal.bot_add, Ideal.exp_bot]

/-- The values of keys whose score is minus infinity do not matter. -/
theorem late_congr {S : Fin n → EReal} {s : EReal} {V V' : Fin n → EReal} (h : ∀ j, S j = ⊥ ∨ V j = V' j) :
    late S s V = late S s V' := by
  unfold late
  refine congrArg (fun a => Ideal.div a (mass S s)) (Finset.sum_congr rfl fun j _ => ?_)
  rcases h j with h | h
  · rw [weight_eq_zero h, zero_mul, zero_mul]
  · rw [h]

/-- A running maximum is its start or one of the values. -/
theorem fold_max_mem (a : EReal) (t : Finset (Fin n)) (S : Fin n → EReal) :
    t.fold max a S = a ∨ ∃ j ∈ t, t.fold max a S = S j := by
  classical
  induction t using Finset.induction_on with
  | empty => exact .inl rfl
  | insert j t hj ih =>
    rw [Finset.fold_insert hj]
    rcases max_cases (S j) (t.fold max a S) with ⟨h, -⟩ | ⟨h, -⟩
    · exact .inr ⟨j, Finset.mem_insert_self _ _, h⟩
    · rw [h]
      rcases ih with ih | ⟨k, hk, ih⟩
      · exact .inl ih
      · exact .inr ⟨k, Finset.mem_insert_of_mem hk, ih⟩

/-- The exponential of a finite number less itself is one. -/
theorem exp_sub_self {x : EReal} (h : x ≠ ⊥) (h' : x ≠ ⊤) : Ideal.exp (x - x) = 1 := by
  rw [EReal.sub_self h' h]; exact (Ideal.exp_coe (r := 0)).trans (by simp)

/-- With a finite sink and no score at plus infinity the denominator is positive. -/
theorem mass_pos {S : Fin n → EReal} {s : EReal} (hS : ∀ j, S j ≠ ⊤) (hb : s ≠ ⊥) (ht : s ≠ ⊤) : 0 < mass S s := by
  have hw : ∀ j, 0 ≤ weight S s j := fun j => exp_nonneg _
  have hsum : 0 ≤ ∑ j, weight S s j := Finset.sum_nonneg fun j _ => hw j
  have hcase : top S s = s ∨ ∃ j, top S s = S j ∧ S j ≠ ⊥ := by
    unfold top
    rcases max_cases (Finset.univ.fold max ⊥ S) s with ⟨h, hle⟩ | ⟨h, -⟩
    · rcases fold_max_mem ⊥ Finset.univ S with h' | ⟨j, -, h'⟩
      · exact absurd (le_bot_iff.mp (h' ▸ hle)) hb
      · refine .inr ⟨j, h.trans h', fun hj => hb (le_bot_iff.mp ?_)⟩
        rw [h', hj] at hle; exact hle
    · exact .inl h
  unfold mass
  rcases hcase with h | ⟨j, h, hj⟩
  · rw [h, exp_sub_self hb ht]
    exact lt_of_lt_of_le zero_lt_one (le_add_of_nonneg_left hsum)
  · refine lt_of_lt_of_le (lt_of_lt_of_le zero_lt_one ?_) (le_add_of_nonneg_right (exp_nonneg _))
    have h1 : weight S s j = 1 := by unfold weight; rw [h, exp_sub_self hj (hS j)]
    rw [← h1]
    exact Finset.single_le_sum (fun k _ => hw k) (Finset.mem_univ j)

/-- A factor that is not negative and not infinite goes through a sum. -/
theorem sum_mul_factor {c : EReal} (h0 : 0 ≤ c) (ht : c ≠ ⊤) (t : Finset (Fin n)) (f : Fin n → EReal) :
    (∑ j ∈ t, f j) * c = ∑ j ∈ t, f j * c := by
  classical
  induction t using Finset.induction_on with
  | empty => simp
  | insert j t hj ih => rw [Finset.sum_insert hj, Finset.sum_insert hj, EReal.right_distrib_of_nonneg_of_ne_top h0 ht, ih]

/-- Dividing once or dividing every weight is the same when the sink is finite and no score is plus infinity. -/
theorem late_eq_early {S : Fin n → EReal} {s : EReal} (V : Fin n → EReal) (hS : ∀ j, S j ≠ ⊤) (hb : s ≠ ⊥) (ht : s ≠ ⊤) :
    late S s V = early S s V := by
  have hm := mass_pos hS hb ht
  have h0 : 0 ≤ (mass S s)⁻¹ := EReal.inv_nonneg_of_nonneg hm.le
  have hT : (mass S s)⁻¹ ≠ ⊤ := by
    generalize mass S s = x at hm
    induction x with
    | bot => simp
    | top => simp
    | coe r => exact EReal.coe_ne_top r⁻¹
  unfold late early
  simp only [Ideal.div, if_neg hm.ne']
  rw [sum_mul_factor h0 hT]
  exact Finset.sum_congr rfl fun j _ => mul_right_comm _ _ _

end
end Row
-- ==== Proof.Band.lean ====
module

public import proofs.«01_k».proof.Proof.Row

/-! Arrays read at natural indices, and the band of keys a block of queries attends to. -/

@[expose] public section

namespace Band
open Idealize.ShloMosaic
noncomputable section

/-- A vector read at a natural index, zero outside. -/
def at1 {a : ℕ} (x : (⟨1, ![a]⟩ : Shape).Idx → EReal) (i : ℕ) : EReal := if h : i < a then x (ix1 ⟨i, h⟩) else 0
/-- A matrix read at natural indices, zero outside. -/
def at2 {a b : ℕ} (x : (⟨2, ![a, b]⟩ : Shape).Idx → EReal) (i j : ℕ) : EReal :=
  if h : i < a ∧ j < b then x (ix2 ⟨i, h.1⟩ ⟨j, h.2⟩) else 0
/-- A stack of matrices read at natural indices, zero outside. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at1_fin {a : ℕ} (x : (⟨1, ![a]⟩ : Shape).Idx → EReal) (i : Fin a) : x (ix1 i) = at1 x i := by
  unfold at1; rw [dif_pos i.isLt]
theorem at2_fin {a b : ℕ} (x : (⟨2, ![a, b]⟩ : Shape).Idx → EReal) (i : Fin a) (j : Fin b) : x (ix2 i j) = at2 x i j := by
  unfold at2; rw [dif_pos ⟨i.isLt, j.isLt⟩]
theorem at3_fin {a b c : ℕ} (x : (⟨3, ![a, b, c]⟩ : Shape).Idx → EReal) (i : Fin a) (j : Fin b) (k : Fin c) :
    x (ix3 i j k) = at3 x i j k := by
  unfold at3; rw [dif_pos ⟨i.isLt, j.isLt, k.isLt⟩]

/-- Key `j` of the 384 around block `b` lies outside the sequence block `b` belongs to: the first 64 blocks are one
    sequence, the others sequences of 16 blocks. -/
def Outside (b j : ℕ) : Prop :=
  ((b = 0 ∨ 64 ≤ b ∧ b % 16 = 0) ∧ j < 128) ∨ ((b = 63 ∨ 64 ≤ b ∧ b % 16 = 15) ∧ 256 ≤ j)
instance (b j : ℕ) : Decidable (Outside b j) := by unfold Outside; infer_instance

/-- The scale of the scores. -/
def isd : EReal := (((Real.sqrt 128)⁻¹ : ℝ) : EReal)

/-- The score of key `j` for row `q` of block `b`, head `h`: minus infinity outside the sequence, else the scaled
    product of query and key plus the bias. -/
def score (x : (⟨2, ![24576, 3072]⟩ : Shape).Idx → EReal) (bias : (⟨3, ![16, 128, 384]⟩ : Shape).Idx → EReal)
    (b q h : ℕ) (j : Fin 384) : EReal :=
  if Outside b j then ⊥
  else (∑ d : Fin 128, at2 x (128 * b + q) (128 * h + d) * at2 x (128 * b + j - 128) (2048 + 128 * (h / 4) + d)) * isd
    + at3 bias h q j

/-- Attention's result at row `q` of block `b`, head `h`, lane `d`. -/
def attn (x : (⟨2, ![24576, 3072]⟩ : Shape).Idx → EReal) (bias : (⟨3, ![16, 128, 384]⟩ : Shape).Idx → EReal)
    (sink : (⟨1, ![16]⟩ : Shape).Idx → EReal) (b q h d : ℕ) : EReal :=
  Row.late (score x bias b q h) (at1 sink h) (fun j => at2 x (128 * b + j - 128) (2560 + 128 * (h / 4) + d))

end
end Band
-- ==== Proof.Head.lean ====
module

public import proofs.«01_k».proof.Proof.Gen.KernelIdeal.Value
public import proofs.«01_k».proof.Proof.Band

/-! The kernel's block values for one key-value head, read at an index. -/

@[expose] public section

namespace Cert.KernelIdeal.Attn
open Idealize Idealize.ShloMosaic Cert.KernelIdeal Cert.KernelIdeal.Gen Band
set_option maxRecDepth 16384
noncomputable section

/-- The named scale is one over the square root of 128. -/
theorem isd_val : Named.named (F := Ideal) (φ := .f32) κ "isd" 1035273459#32 = isd := IdealRules.named_const.ideal_named_scalar _ _ _ _ rfl
/-- The named mask is minus infinity. -/
theorem mask_val : Named.named (F := Ideal) (φ := .f32) κ "mask" 4048155338#32 = (⊥ : EReal) := IdealRules.named_const.ideal_named_scalar _ _ _ _ rfl
/-- The start of the running maximum is minus infinity. -/
theorem start_val : Ideal.ofBits FTy.f32 4286578688#32 = (⊥ : EReal) := by simp [Ideal.ofBits, Ideal.ieee]

/-- A choice of two by a word that is one exactly when `p` holds. -/
theorem select_dec {α : Type} (p : Prop) [Decidable p] (x y : α) :
    Scalar.select (if p then 1#1 else 0#1) x y = if p then x else y := by
  unfold Scalar.select; split_ifs <;> simp_all

/-- Two conjunctions of words, joined. -/
theorem or_and_word (p q r s : Prop) [Decidable p] [Decidable q] [Decidable r] [Decidable s] [Decidable (p ∧ q ∨ r ∧ s)] :
    IntOp.ori (IntOp.andi (if p then 1#1 else 0#1) (if q then 1#1 else 0#1))
      (IntOp.andi (if r then 1#1 else 0#1) (if s then 1#1 else 0#1)) = if p ∧ q ∨ r ∧ s then 1#1 else 0#1 := by
  by_cases hp : p <;> by_cases hq : q <;> by_cases hr : r <;> by_cases hs : s <;> simp [hp, hq, hr, hs, IntOp.andi, IntOp.ori]

/-- The kernel's mask is one exactly at the keys outside the block's sequence. -/
theorem outside_apply (i : grid0.Coords) (r : Fin 512) (j : Fin 384) :
    k0_pay6 i (ix2 r j) = if Outside (i 0).val j.val then 1#1 else 0#1 := by
  pointwise [k0_pay6]
  have hi : (i 0).val < 192 := (i 0).isLt
  generalize (i 0).val = b at hi
  have h1 : ∀ b : Fin 192, _ := (by decide +kernel : ∀ b : Fin 192, (Scalar.cmpi CmpIPredicate.eq (Scalar.muli (BitVec.ofNat 32 b.val) 128#32)
          (Scalar.select (Scalar.cmpi CmpIPredicate.slt (Scalar.muli (BitVec.ofNat 32 b.val) 128#32) 8192#32) (0#32)
            (Scalar.addi (8192#32)
              (Scalar.muli
                (Scalar.select
                  (Scalar.andi
                    (Scalar.cmpi CmpIPredicate.ne
                      (Scalar.subi
                        (Scalar.extui
                          (Scalar.cmpi CmpIPredicate.sgt
                            (Scalar.maxsi (Scalar.subi (Scalar.muli (BitVec.ofNat 32 b.val) 128#32) 8192#32) 0#32)
                            0#32))
                        (Scalar.extui
                          (Scalar.cmpi CmpIPredicate.slt
                            (Scalar.maxsi (Scalar.subi (Scalar.muli (BitVec.ofNat 32 b.val) 128#32) 8192#32) 0#32)
                            0#32)))
                      (Scalar.subi (Scalar.extui (Scalar.cmpi CmpIPredicate.sgt 2048#32 0#32))
                        (Scalar.extui (Scalar.cmpi CmpIPredicate.slt 2048#32 0#32))))
                    (Scalar.cmpi CmpIPredicate.ne
                      (Scalar.remsi
                        (Scalar.maxsi (Scalar.subi (Scalar.muli (BitVec.ofNat 32 b.val) 128#32) 8192#32) 0#32) 2048#32)
                      0#32))
                  (Scalar.subi
                    (Scalar.divsi
                      (Scalar.maxsi (Scalar.subi (Scalar.muli (BitVec.ofNat 32 b.val) 128#32) 8192#32) 0#32) 2048#32)
                    1#32)
                  (Scalar.divsi (Scalar.maxsi (Scalar.subi (Scalar.muli (BitVec.ofNat 32 b.val) 128#32) 8192#32) 0#32)
                    2048#32))
                2048#32)))) = if b.val = 0 ∨ 64 ≤ b.val ∧ b.val % 16 = 0 then 1#1 else 0#1)
  have h2 : ∀ b : Fin 192, _ := (by decide +kernel : ∀ b : Fin 192, (Scalar.cmpi CmpIPredicate.eq (Scalar.addi (Scalar.muli (BitVec.ofNat 32 b.val) 128#32) 128#32)
          (Scalar.addi
            (Scalar.select (Scalar.cmpi CmpIPredicate.slt (Scalar.muli (BitVec.ofNat 32 b.val) 128#32) 8192#32) (0#32)
              (Scalar.addi (8192#32)
                (Scalar.muli
                  (Scalar.select
                    (Scalar.andi
                      (Scalar.cmpi CmpIPredicate.ne
                        (Scalar.subi
                          (Scalar.extui
                            (Scalar.cmpi CmpIPredicate.sgt
                              (Scalar.maxsi (Scalar.subi (Scalar.muli (BitVec.ofNat 32 b.val) 128#32) 8192#32) 0#32)
                              0#32))
                          (Scalar.extui
                            (Scalar.cmpi CmpIPredicate.slt
                              (Scalar.maxsi (Scalar.subi (Scalar.muli (BitVec.ofNat 32 b.val) 128#32) 8192#32) 0#32)
                              0#32)))
                        (Scalar.subi (Scalar.extui (Scalar.cmpi CmpIPredicate.sgt 2048#32 0#32))
                          (Scalar.extui (Scalar.cmpi CmpIPredicate.slt 2048#32 0#32))))
                      (Scalar.cmpi CmpIPredicate.ne
                        (Scalar.remsi
                          (Scalar.maxsi (Scalar.subi (Scalar.muli (BitVec.ofNat 32 b.val) 128#32) 8192#32) 0#32)
                          2048#32)
                        0#32))
                    (Scalar.subi
                      (Scalar.divsi
                        (Scalar.maxsi (Scalar.subi (Scalar.muli (BitVec.ofNat 32 b.val) 128#32) 8192#32) 0#32) 2048#32)
                      1#32)
                    (Scalar.divsi
                      (Scalar.maxsi (Scalar.subi (Scalar.muli (BitVec.ofNat 32 b.val) 128#32) 8192#32) 0#32) 2048#32))
                  2048#32)))
            (Scalar.select (Scalar.cmpi CmpIPredicate.slt (Scalar.muli (BitVec.ofNat 32 b.val) 128#32) 8192#32) 8192#32
              2048#32))) = if b.val = 63 ∨ 64 ≤ b.val ∧ b.val % 16 = 15 then 1#1 else 0#1)
  have h3 : ∀ j : Fin 384, IntOp.cmpi CmpIPredicate.slt (BitVec.ofNat 32 j.val) 128#32 = if j.val < 128 then 1#1 else 0#1 := by decide +kernel
  have h4 : ∀ j : Fin 384, IntOp.cmpi CmpIPredicate.sge (BitVec.ofNat 32 j.val) 256#32 = if 256 ≤ j.val then 1#1 else 0#1 := by decide +kernel
  have e1 := h1 ⟨b, hi⟩
  have e2 := h2 ⟨b, hi⟩
  dsimp only at e1 e2
  rw [e1, e2, h3, h4]
  exact or_and_word _ _ _ _

/-- The group word of stacked row `r` is `r / 128`. -/
theorem group_apply (r : Fin 512) (z : Fin 1) :
    k0_pay7 (iota .tc S512x1 32 [0] iota_S512x1_d0_w32) (ix2 r z) = BitVec.ofNat 32 (r.val / 128) := by
  pointwise [k0_pay7]
  revert r
  decide +kernel

/-- Four blocks stacked, read at row `128 g + q`. -/
theorem stack_apply (q0 q1 q2 q3 : S128x128.Idx → EReal) (g : Fin 4) (q : Fin 128) (r : Fin 512) (hr : r.val = 128 * g.val + q.val) (x : Fin 128) :
    (if h : r.val < 128 then q0 (ix2 ⟨r.val, h⟩ x) else if h : r.val - 128 < 128 then q1 (ix2 ⟨r.val - 128, h⟩ x)
      else if h : r.val - 128 - 128 < 128 then q2 (ix2 ⟨r.val - 128 - 128, h⟩ x)
      else q3 (ix2 ⟨r.val - 128 - 128 - 128, by omega⟩ x)) = (![q0, q1, q2, q3] g) (ix2 q x) := by
  have hq := q.isLt
  match g, hr with
  | 0, hr => rw [dif_pos (by simp at hr; omega)]; exact congrArg (fun a => q0 (ix2 a x)) (Fin.ext (by simp at hr; simp; omega))
  | 1, hr =>
    simp at hr
    rw [dif_neg (by omega), dif_pos (by omega)]; exact congrArg (fun a => q1 (ix2 a x)) (Fin.ext (by simp; omega))
  | 2, hr =>
    simp at hr
    rw [dif_neg (by omega), dif_neg (by omega), dif_pos (by omega)]; exact congrArg (fun a => q2 (ix2 a x)) (Fin.ext (by simp; omega))
  | 3, hr =>
    simp at hr
    rw [dif_neg (by omega), dif_neg (by omega), dif_neg (by omega)]; exact congrArg (fun a => q3 (ix2 a x)) (Fin.ext (by simp; omega))

/-- Three blocks stacked, read at row `j`. -/
def three (k0 k1 k2 : S128x128.Idx → EReal) (j : Fin 384) (x : Fin 128) : EReal :=
  if j.val < 128 then at2 k0 j x else if j.val < 256 then at2 k1 (j - 128) x else at2 k2 (j - 256) x

theorem three_apply (k0 k1 k2 : S128x128.Idx → EReal) (j : Fin 384) (x : Fin 128) :
    (if h : j.val < 128 then k0 (ix2 ⟨j.val, h⟩ x) else if h : j.val - 128 < 128 then k1 (ix2 ⟨j.val - 128, h⟩ x)
      else k2 (ix2 ⟨j.val - 128 - 128, by omega⟩ x)) = three k0 k1 k2 j x := by
  unfold three
  split_ifs <;> first | exact at2_fin _ _ _ | omega | exact (at2_fin _ _ _).trans (congrArg (at2 k2 · x) (by simp; omega))

variable (i : grid0.Coords) (k0 k1 k2 v0 v1 v2 q0 q1 q2 q3 : FVec Ideal S128x128 .bf16) (b : Vec Ideal S1x512x384 .f32)
  (s0 s1 s2 s3 : Elt Ideal .f32)

/-- The scores of one key-value head, stacked by group: for group `g` and row `q`. -/
def tileScore (g : Fin 4) (q : Fin 128) (j : Fin 384) : EReal :=
  if Outside (i 0).val j.val then ⊥
  else (∑ x : Fin 128, (![q0, q1, q2, q3] g) (ix2 q x) * three k0 k1 k2 j x) * isd + at3 b 0 (128 * g + q) j

/-- The score block at an index. -/
theorem scores_apply (g : Fin 4) (q : Fin 128) (r : Fin 512) (hr : r.val = 128 * g.val + q.val) (j : Fin 384) :
    k0_pay10 (k0_pay6 i) (k0_pay8 k0 k1 k2) q0 q1 q2 q3 b (ix2 r j) = tileScore i k0 k1 k2 q0 q1 q2 q3 b g q j := by
  pointwise [k0_pay10, k0_pay8]
  rw [outside_apply, mask_val, isd_val, select_dec]
  simp only [stack_apply q0 q1 q2 q3 g q r hr, three_apply]
  unfold tileScore
  rw [at3_fin (a := 1) (b := 512) (c := 384) b 0 r j, hr]
  rfl

/-- The sink column at an index. -/
theorem sinks_apply (g : Fin 4) (q : Fin 128) (r : Fin 512) (hr : r.val = 128 * g.val + q.val) (z : Fin 1) :
    k0_pay11 (k0_pay7 (iota .tc S512x1 32 [0] iota_S512x1_d0_w32)) s0 s1 s2 s3 (ix2 r z) = ![s0, s1, s2, s3] g := by
  pointwise [k0_pay11]
  have : r.val / 128 = g.val := by omega
  rw [group_apply, this]
  match g with
  | 0 => rfl
  | 1 => rfl
  | 2 => rfl
  | 3 => rfl

/-- The row maxima at an index. -/
theorem tops_apply (g : Fin 4) (q : Fin 128) (r : Fin 512) (hr : r.val = 128 * g.val + q.val) (z : Fin 1) :
    k0_pay12 (k0_pay6 i) (k0_pay7 (iota .tc S512x1 32 [0] iota_S512x1_d0_w32)) (k0_pay8 k0 k1 k2) q0 q1 q2 q3 b s0 s1 s2 s3 (ix2 r z)
      = Row.top (tileScore i k0 k1 k2 q0 q1 q2 q3 b g q) (![s0, s1, s2, s3] g) := by
  pointwise [k0_pay12]
  simp only [scores_apply i k0 k1 k2 q0 q1 q2 q3 b g q r hr, sinks_apply s0 s1 s2 s3 g q r hr, start_val]
  rfl

/-- One key-value head's averaged values, at an index: one row of attention. -/
theorem head_apply (g : Fin 4) (q : Fin 128) (r : Fin 512) (hr : r.val = 128 * g.val + q.val) (d : Fin 128) :
    k0_pay16 (k0_pay9 v0 v1 v2)
      (k0_pay13 (k0_pay6 i) (k0_pay7 (iota .tc S512x1 32 [0] iota_S512x1_d0_w32)) (k0_pay8 k0 k1 k2) q0 q1 q2 q3 b s0 s1 s2 s3)
      (k0_pay14 (k0_pay6 i) (k0_pay7 (iota .tc S512x1 32 [0] iota_S512x1_d0_w32)) (k0_pay8 k0 k1 k2) q0 q1 q2 q3 b s0 s1 s2 s3)
      (k0_pay15 (k0_pay6 i) (k0_pay7 (iota .tc S512x1 32 [0] iota_S512x1_d0_w32)) (k0_pay8 k0 k1 k2) q0 q1 q2 q3 b s0 s1 s2 s3)
      (ix2 r d)
      = Row.late (tileScore i k0 k1 k2 q0 q1 q2 q3 b g q) (![s0, s1, s2, s3] g) (fun j => three v0 v1 v2 j d) := by
  pointwise [k0_pay16, k0_pay13, k0_pay14, k0_pay15, k0_pay9]
  simp only [scores_apply i k0 k1 k2 q0 q1 q2 q3 b g q r hr, sinks_apply s0 s1 s2 s3 g q r hr,
    tops_apply i k0 k1 k2 q0 q1 q2 q3 b s0 s1 s2 s3 g q r hr, three_apply]
  rfl

end
end Cert.KernelIdeal.Attn
-- ==== Proof.Block.lean ====
module

public import proofs.«01_k».proof.Proof.Head

/-! The block of results one grid point writes, as a function of the blocks it reads. -/

@[expose] public section

namespace Cert.KernelIdeal.Attn
open Idealize Idealize.ShloMosaic Cert.KernelIdeal Cert.KernelIdeal.Gen Idealize.ShloMosaic.TcCoe Idealize.SL.Sem Idealize.ShloMosaic.Tactic Band
open Idealize.ShloMosaic.Pipeline (Dat)
set_option maxRecDepth 16384
noncomputable section

/-- Three blocks of 128 rows, one above another, read at row `j`, column `c`. -/
def band (a b c : S128x512.Idx → EReal) (j col : ℕ) : EReal :=
  if j < 128 then at2 a j col else if j < 256 then at2 b (j - 128) col else at2 c (j - 256) col

/-- The score of key `j` for row `q`, key-value head `k`, group `g`, from the blocks. -/
def blockScore (n : ℕ) (x0 : S128x2048.Idx → EReal) (x1 x2 x3 : S128x512.Idx → EReal) (x7 : S4x512x384.Idx → EReal) (k g q : ℕ)
    (j : Fin 384) : EReal :=
  if Outside n j then ⊥
  else (∑ x : Fin 128, at2 x0 q (512 * k + 128 * g + x) * band x1 x2 x3 j (128 * k + x)) * isd + at3 x7 k (128 * g + q) j

/-- The result at row `q`, key-value head `k`, group `g`, lane `d`, from the blocks. -/
def blockVal (n : ℕ) (x0 : S128x2048.Idx → EReal) (x1 x2 x3 x4 x5 x6 : S128x512.Idx → EReal) (x7 : S4x512x384.Idx → EReal)
    (x8 : S16.Idx → EReal) (k g q d : ℕ) : EReal :=
  Row.late (blockScore n x0 x1 x2 x3 x7 k g q) (at1 x8 (4 * k + g)) (fun j => band x4 x5 x6 j (128 * k + d))

/-- A square tile loaded from a matrix. -/
theorem ld_tile {N M : ℕ} (x : Vec Ideal ⟨2, ![N, M]⟩ .bf16) (a o : ℕ)
    (inb : ∀ k, (![a, o] : Fin 2 → ℕ) k + (![128, 128] : Fin 2 → ℕ) k ≤ (⟨2, ![N, M]⟩ : Shape).size k) :
    View.ld x (Rect.unit (s := ⟨2, ![N, M]⟩) ![a, o] ![128, 128] inb) = fun z => at2 x (a + (z 0).val) (o + (z 1).val) := by
  funext z
  have h0 : a + 128 ≤ N := inb 0
  have h1 : o + 128 ≤ M := inb 1
  have z0 : (z 0).val < 128 := (z 0).isLt
  have z1 : (z 1).val < 128 := (z 1).isLt
  unfold at2
  rw [dif_pos ⟨by omega, by omega⟩]
  refine congrArg x (funext fun k => Fin.ext ?_)
  match k with
  | 0 => exact congrArg (a + ·) (Nat.one_mul _)
  | 1 => exact congrArg (o + ·) (Nat.one_mul _)

/-- One member loaded from the stack of biases. -/
theorem ld_bias (x : Vec Ideal S4x512x384 .f32) (k : ℕ)
    (inb : ∀ a, (![k, 0, 0] : Fin 3 → ℕ) a + (![1, 512, 384] : Fin 3 → ℕ) a ≤ S4x512x384.size a) :
    View.ld x (Rect.unit (s := S4x512x384) ![k, 0, 0] ![1, 512, 384] inb) = fun z => at3 x k (z 1).val (z 2).val := by
  funext z
  have h0 : k + 1 ≤ 4 := inb 0
  have z0 : (z 0).val < 1 := (z 0).isLt
  have z1 : (z 1).val < 512 := (z 1).isLt
  have z2 : (z 2).val < 384 := (z 2).isLt
  unfold at3
  rw [dif_pos ⟨by omega, by omega, by omega⟩]
  refine congrArg x (funext fun a => Fin.ext ?_)
  match a with
  | 0 => show k + 1 * (z 0).val = k; omega
  | 1 => show 0 + 1 * (z 1).val = (z 1).val; omega
  | 2 => show 0 + 1 * (z 2).val = (z 2).val; omega

/-- One sink loaded from the sinks. -/
theorem ld_sink (x : Vec Ideal S16 .f32) (k : ℕ) (inb : ∀ a, (![k] : Fin 1 → ℕ) a + (![1] : Fin 1 → ℕ) a ≤ S16.size a)
    (z : (Rect.unit (s := S16) ![k] ![1] inb).shape.Idx) : View.ld x (Rect.unit (s := S16) ![k] ![1] inb) z = at1 x k := by
  have h0 : k + 1 ≤ 16 := inb 0
  have z0 : (z 0).val < 1 := (z 0).isLt
  unfold at1
  rw [dif_pos (by omega)]
  refine congrArg x (funext fun a => Fin.ext ?_)
  match a with
  | 0 => show k + 1 * (z 0).val = k; omega

/-- Three tiles read at row `j` are the band of the blocks they were cut from. -/
theorem three_tiles (a b c : S128x512.Idx → EReal) (o : ℕ) (ho : o + 128 ≤ 512) (j : Fin 384) (x : Fin 128) :
    three (fun z => at2 a (0 + (z 0).val) (o + (z 1).val)) (fun z => at2 b (0 + (z 0).val) (o + (z 1).val))
      (fun z => at2 c (0 + (z 0).val) (o + (z 1).val)) j x = band a b c j (o + x) := by
  have hj := j.isLt
  have hx := x.isLt
  unfold three band
  split_ifs
  all_goals
    conv_lhs => unfold at2
    rw [dif_pos ⟨by omega, hx⟩]
    simp only [ix2_0, ix2_1, Nat.zero_add]
    rfl

theorem piece1_0 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay29 (k0_pay22 v0 v1 v2) (k0_pay26 o gr (k0_pay21 k0 k1 k2) q0 q1 q2 q3 b s0 s1 s2 s3) (k0_pay27 o gr (k0_pay21 k0 k1 k2) q0 q1 q2 q3 b s0 s1 s2 s3)
      = k0_pay17 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece2_0 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay42 (k0_pay34 v0 v1 v2) (k0_pay39 o gr (k0_pay33 k0 k1 k2) q0 q1 q2 q3 b s0 s1 s2 s3) (k0_pay40 o gr (k0_pay33 k0 k1 k2) q0 q1 q2 q3 b s0 s1 s2 s3)
      = k0_pay17 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece3_0 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay2 (k0_pay47 v0 v1 v2) (k0_pay52 o gr (k0_pay46 k0 k1 k2) q0 q1 q2 q3 b s0 s1 s2 s3) (k0_pay53 o gr (k0_pay46 k0 k1 k2) q0 q1 q2 q3 b s0 s1 s2 s3) (constant S512x128 .f32 0x00000000#32)
      = k0_pay17 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece1_1 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay30 (k0_pay22 v0 v1 v2) (k0_pay26 o gr (k0_pay21 k0 k1 k2) q0 q1 q2 q3 b s0 s1 s2 s3) (k0_pay27 o gr (k0_pay21 k0 k1 k2) q0 q1 q2 q3 b s0 s1 s2 s3)
      = k0_pay18 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece2_1 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay43 (k0_pay34 v0 v1 v2) (k0_pay39 o gr (k0_pay33 k0 k1 k2) q0 q1 q2 q3 b s0 s1 s2 s3) (k0_pay40 o gr (k0_pay33 k0 k1 k2) q0 q1 q2 q3 b s0 s1 s2 s3)
      = k0_pay18 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece3_1 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay3 (k0_pay47 v0 v1 v2) (k0_pay52 o gr (k0_pay46 k0 k1 k2) q0 q1 q2 q3 b s0 s1 s2 s3) (k0_pay53 o gr (k0_pay46 k0 k1 k2) q0 q1 q2 q3 b s0 s1 s2 s3) (constant S512x128 .f32 0x00000000#32)
      = k0_pay18 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece1_2 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay31 (k0_pay22 v0 v1 v2) (k0_pay26 o gr (k0_pay21 k0 k1 k2) q0 q1 q2 q3 b s0 s1 s2 s3) (k0_pay27 o gr (k0_pay21 k0 k1 k2) q0 q1 q2 q3 b s0 s1 s2 s3)
      = k0_pay19 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece2_2 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay44 (k0_pay34 v0 v1 v2) (k0_pay39 o gr (k0_pay33 k0 k1 k2) q0 q1 q2 q3 b s0 s1 s2 s3) (k0_pay40 o gr (k0_pay33 k0 k1 k2) q0 q1 q2 q3 b s0 s1 s2 s3)
      = k0_pay19 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece3_2 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay4 (k0_pay47 v0 v1 v2) (k0_pay52 o gr (k0_pay46 k0 k1 k2) q0 q1 q2 q3 b s0 s1 s2 s3) (k0_pay53 o gr (k0_pay46 k0 k1 k2) q0 q1 q2 q3 b s0 s1 s2 s3) (constant S512x128 .f32 0x00000000#32)
      = k0_pay19 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece1_3 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay32 (k0_pay22 v0 v1 v2) (k0_pay26 o gr (k0_pay21 k0 k1 k2) q0 q1 q2 q3 b s0 s1 s2 s3) (k0_pay27 o gr (k0_pay21 k0 k1 k2) q0 q1 q2 q3 b s0 s1 s2 s3)
      = k0_pay20 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece2_3 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay45 (k0_pay34 v0 v1 v2) (k0_pay39 o gr (k0_pay33 k0 k1 k2) q0 q1 q2 q3 b s0 s1 s2 s3) (k0_pay40 o gr (k0_pay33 k0 k1 k2) q0 q1 q2 q3 b s0 s1 s2 s3)
      = k0_pay20 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl
theorem piece3_3 (v0 v1 v2 k0 k1 k2 q0 q1 q2 q3 : FVec Ideal S128x128 .bf16) (o : IVec S512x384 1) (gr : IVec S512x1 32) (b : Vec Ideal S1x512x384 .f32) (s0 s1 s2 s3 : Elt Ideal .f32) :
    k0_pay5 (k0_pay47 v0 v1 v2) (k0_pay52 o gr (k0_pay46 k0 k1 k2) q0 q1 q2 q3 b s0 s1 s2 s3) (k0_pay53 o gr (k0_pay46 k0 k1 k2) q0 q1 q2 q3 b s0 s1 s2 s3) (constant S512x128 .f32 0x00000000#32)
      = k0_pay20 (k0_pay9 v0 v1 v2) (k0_pay13 o gr (k0_pay8 k0 k1 k2) q0 q1 q2 q3 b s0 s1 s2 s3) (k0_pay14 o gr (k0_pay8 k0 k1 k2) q0 q1 q2 q3 b s0 s1 s2 s3) (k0_pay15 o gr (k0_pay8 k0 k1 k2) q0 q1 q2 q3 b s0 s1 s2 s3) := rfl

variable (i : grid0.Coords) (x0 : Vec Ideal S128x2048 .bf16) (x1 x2 x3 x4 x5 x6 : Vec Ideal S128x512 .bf16) (x7 : Vec Ideal S4x512x384 .f32)
  (x8 : Vec Ideal S16 .f32)

/-- The columns of head `o / 128` in the block of queries. -/
def tileQ (o : ℕ) : FVec Ideal S128x128 .bf16 := fun z => at2 x0 (0 + (z 0).val) (o + (z 1).val)
/-- The columns of key-value head `o / 128` in a block of keys or values. -/
def tileK (x : Vec Ideal S128x512 .bf16) (o : ℕ) : FVec Ideal S128x128 .bf16 := fun z => at2 x (0 + (z 0).val) (o + (z 1).val)
/-- The biases of key-value head `k`. -/
def tileB (k : ℕ) : Vec Ideal S1x512x384 .f32 := fun z => at3 x7 k (z 1).val (z 2).val

theorem ld_tileQ (o : ℕ) (inb : ∀ k, (![0, o] : Fin 2 → ℕ) k + (![128, 128] : Fin 2 → ℕ) k ≤ S128x2048.size k) :
    View.ld x0 (Rect.unit (s := S128x2048) ![0, o] ![128, 128] inb) = tileQ x0 o := ld_tile x0 0 o inb
theorem ld_tileK (x : Vec Ideal S128x512 .bf16) (o : ℕ) (inb : ∀ k, (![0, o] : Fin 2 → ℕ) k + (![128, 128] : Fin 2 → ℕ) k ≤ S128x512.size k) :
    View.ld x (Rect.unit (s := S128x512) ![0, o] ![128, 128] inb) = tileK x o := ld_tile x 0 o inb
theorem ld_tileB (k : ℕ) (inb : ∀ a, (![k, 0, 0] : Fin 3 → ℕ) a + (![1, 512, 384] : Fin 3 → ℕ) a ≤ S4x512x384.size a) :
    View.ld x7 (Rect.unit (s := S4x512x384) ![k, 0, 0] ![1, 512, 384] inb) = tileB x7 k := ld_bias x7 k inb

/-- The averaged values of key-value head `k` at group `g`, row `q`, lane `d` are the block's result. -/
theorem head_block (k : ℕ) (hk : k < 4) (g : Fin 4) (q d : Fin 128) (r : Fin 512) (hr : r.val = 128 * g.val + q.val) :
    k0_pay16 (k0_pay9 (tileK x4 (128 * k)) (tileK x5 (128 * k)) (tileK x6 (128 * k)))
      (k0_pay13 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay14 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay15 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (ix2 r d)
      = blockVal (i 0).val x0 x1 x2 x3 x4 x5 x6 x7 x8 k g q d := by
  rw [head_apply (hr := hr)]
  unfold blockVal
  have hg := g.isLt
  have hq := q.isLt
  have e1 : tileScore i (tileK x1 (128 * k)) (tileK x2 (128 * k)) (tileK x3 (128 * k)) (tileQ x0 (512 * k)) (tileQ x0 (512 * k + 128))
      (tileQ x0 (512 * k + 256)) (tileQ x0 (512 * k + 384)) (tileB x7 k) g q = blockScore (i 0).val x0 x1 x2 x3 x7 k g q := by
    funext j
    unfold tileScore blockScore
    have e2 : ∀ x : Fin 128, (![tileQ x0 (512 * k), tileQ x0 (512 * k + 128), tileQ x0 (512 * k + 256), tileQ x0 (512 * k + 384)] g) (ix2 q x)
        = at2 x0 q (512 * k + 128 * g + x) := by
      intro x
      match g with
      | 0 => show at2 x0 (0 + q.val) _ = _; rw [Nat.zero_add]; rfl
      | 1 => show at2 x0 (0 + q.val) _ = _; rw [Nat.zero_add]; rfl
      | 2 => show at2 x0 (0 + q.val) _ = _; rw [Nat.zero_add]; rfl
      | 3 => show at2 x0 (0 + q.val) _ = _; rw [Nat.zero_add]; rfl
    have e3 : at3 (tileB x7 k) 0 (128 * g + q) j = at3 x7 k (128 * g + q) j := by
      conv_lhs => unfold at3
      rw [dif_pos ⟨by omega, by omega, j.isLt⟩]
      rfl
    rw [e3]
    refine if_congr Iff.rfl rfl (congrArg (fun a => a * isd + _) (Finset.sum_congr rfl fun x _ => ?_))
    rw [e2]
    exact congrArg (_ * ·) (three_tiles x1 x2 x3 (128 * k) (by omega) j x)
  have e4 : (![at1 x8 (4 * k), at1 x8 (4 * k + 1), at1 x8 (4 * k + 2), at1 x8 (4 * k + 3)] g) = at1 x8 (4 * k + g) := by
    match g with
    | 0 => rfl
    | 1 => rfl
    | 2 => rfl
    | 3 => rfl
  rw [e1, e4]
  exact congrArg (Row.late _ _) (funext fun j => three_tiles x4 x5 x6 (128 * k) (by omega) j d)

/-- The stored tile of group 0. -/
theorem stored0 (k : ℕ) (hk : k < 4) (z : S128x128.Idx) :
    k0_pay17 (k0_pay9 (tileK x4 (128 * k)) (tileK x5 (128 * k)) (tileK x6 (128 * k)))
      (k0_pay13 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay14 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay15 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3))) z
      = blockVal (i 0).val x0 x1 x2 x3 x4 x5 x6 x7 x8 k 0 (z 0).val (z 1).val := by
  obtain ⟨q, d, rfl⟩ : ∃ q d : Fin 128, z = ix2 q d := ⟨z 0, z 1, eq_ix2 z⟩
  pointwise [k0_pay17]
  exact head_block i x0 x1 x2 x3 x4 x5 x6 x7 x8 k hk 0 q d _ (by simp)

/-- The stored tile of group 1. -/
theorem stored1 (k : ℕ) (hk : k < 4) (z : S128x128.Idx) :
    k0_pay18 (k0_pay9 (tileK x4 (128 * k)) (tileK x5 (128 * k)) (tileK x6 (128 * k)))
      (k0_pay13 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay14 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay15 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3))) z
      = blockVal (i 0).val x0 x1 x2 x3 x4 x5 x6 x7 x8 k 1 (z 0).val (z 1).val := by
  obtain ⟨q, d, rfl⟩ : ∃ q d : Fin 128, z = ix2 q d := ⟨z 0, z 1, eq_ix2 z⟩
  pointwise [k0_pay18]
  exact head_block i x0 x1 x2 x3 x4 x5 x6 x7 x8 k hk 1 q d _ (by simp)

/-- The stored tile of group 2. -/
theorem stored2 (k : ℕ) (hk : k < 4) (z : S128x128.Idx) :
    k0_pay19 (k0_pay9 (tileK x4 (128 * k)) (tileK x5 (128 * k)) (tileK x6 (128 * k)))
      (k0_pay13 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay14 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay15 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3))) z
      = blockVal (i 0).val x0 x1 x2 x3 x4 x5 x6 x7 x8 k 2 (z 0).val (z 1).val := by
  obtain ⟨q, d, rfl⟩ : ∃ q d : Fin 128, z = ix2 q d := ⟨z 0, z 1, eq_ix2 z⟩
  pointwise [k0_pay19]
  exact head_block i x0 x1 x2 x3 x4 x5 x6 x7 x8 k hk 2 q d _ (by simp)

/-- The stored tile of group 3. -/
theorem stored3 (k : ℕ) (hk : k < 4) (z : S128x128.Idx) :
    k0_pay20 (k0_pay9 (tileK x4 (128 * k)) (tileK x5 (128 * k)) (tileK x6 (128 * k)))
      (k0_pay13 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay14 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3)))
      (k0_pay15 (k0_pay6 i) (k0_pay7 (iota .tc S512x1 32 [0] iota_S512x1_d0_w32)) (k0_pay8 (tileK x1 (128 * k)) (tileK x2 (128 * k)) (tileK x3 (128 * k))) (tileQ x0 (512 * k)) (tileQ x0 (512 * k + 128))
        (tileQ x0 (512 * k + 256)) (tileQ x0 (512 * k + 384)) (tileB x7 k) (at1 x8 (4 * k)) (at1 x8 (4 * k + 1)) (at1 x8 (4 * k + 2)) (at1 x8 (4 * k + 3))) z
      = blockVal (i 0).val x0 x1 x2 x3 x4 x5 x6 x7 x8 k 3 (z 0).val (z 1).val := by
  obtain ⟨q, d, rfl⟩ : ∃ q d : Fin 128, z = ix2 q d := ⟨z 0, z 1, eq_ix2 z⟩
  pointwise [k0_pay20]
  exact head_block i x0 x1 x2 x3 x4 x5 x6 x7 x8 k hk 3 q d _ (by simp)

/-- The block of results at index `y`. -/
def blockOut (n : ℕ) (y : S128x2048.Idx) : EReal :=
  blockVal n x0 x1 x2 x3 x4 x5 x6 x7 x8 ((y 1).val / 512) ((y 1).val / 128 % 4) (y 0).val ((y 1).val % 128)

/-- The block of results at an index under the tile of key-value head `k`, group `g`. -/
theorem blockOut_emb (n k g o : ℕ) (hg : g < 4) (ho : o = 512 * k + 128 * g)
    (inb : ∀ a, (![0, o] : Fin 2 → ℕ) a + (![128, 128] : Fin 2 → ℕ) a ≤ S128x2048.size a) (z : (Rect.unit (s := S128x2048) ![0, o] ![128, 128] inb).shape.Idx) :
    blockVal n x0 x1 x2 x3 x4 x5 x6 x7 x8 k g (z 0).val (z 1).val
      = blockOut x0 x1 x2 x3 x4 x5 x6 x7 x8 n ((Rect.unit (s := S128x2048) ![0, o] ![128, 128] inb).emb z) := by
  have z1 : (z 1).val < 128 := (z 1).isLt
  unfold blockOut
  have a0 : (((Rect.unit (s := S128x2048) ![0, o] ![128, 128] inb).emb z) 0).val = (z 0).val := by
    show 0 + 1 * (z 0).val = (z 0).val; omega
  have a1 : (((Rect.unit (s := S128x2048) ![0, o] ![128, 128] inb).emb z) 1).val = o + (z 1).val := by
    show o + 1 * (z 1).val = o + (z 1).val; omega
  rw [a0, a1]
  congr 1 <;> omega

/-- What a grid point leaves in the block of results. -/
theorem out_apply (c : Dev nD) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .smem S16 .f32) (harg9 : arg9.IsWhole) (arg10 : Memref sig .tc .vmem S128x2048 .bf16) (harg10 : arg10.IsWhole) (y : S128x2048.Idx) :
    out0_A_9 c i arg1 harg1 arg2 harg2 arg3 harg3 arg4 harg4 arg5 harg5 arg6 harg6 arg7 harg7 arg8 harg8 arg9 harg9 arg10 harg10 x0 x1 x2 x3 x4 x5 x6 x7 x8 y = blockOut x0 x1 x2 x3 x4 x5 x6 x7 x8 (i 0).val y := by
  have hcov := cover0_A_9 c i arg1 harg1 arg2 harg2 arg3 harg3 arg4 harg4 arg5 harg5 arg6 harg6 arg7 harg7 arg8 harg8 arg9 harg9 arg10 harg10 x0 x1 x2 x3 x4 x5 x6 x7 x8 y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  refine View.canon_apply_of_pieces (blockOut x0 x1 x2 x3 x4 x5 x6 x7 x8 (i 0).val) _ ?_ y hcov
  clear hcov
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  simp only [piece1_0, piece2_0, piece3_0, piece1_1, piece2_1, piece3_1, piece1_2, piece2_2, piece3_2, piece1_3, piece2_3, piece3_3]
  intro p hp z
  simp only [List.mem_cons, List.not_mem_nil, or_false] at hp
  rcases hp with rfl | rfl | rfl | rfl | rfl | rfl | rfl | rfl | rfl | rfl | rfl | rfl | rfl | rfl | rfl | rfl
  · refine Eq.trans ?_ (blockOut_emb x0 x1 x2 x3 x4 x5 x6 x7 x8 (i 0).val 3 3 1920 (by omega) (by omega) inb_S128x2048_S128x128_0_1920 z)
    have h := stored3 i x0 x1 x2 x3 x4 x5 x6 x7 x8 3 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 3 2 1792 (by omega) (by omega) inb_S128x2048_S128x128_0_1792 z)
    have h := stored2 i x0 x1 x2 x3 x4 x5 x6 x7 x8 3 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 3 1 1664 (by omega) (by omega) inb_S128x2048_S128x128_0_1664 z)
    have h := stored1 i x0 x1 x2 x3 x4 x5 x6 x7 x8 3 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 3 0 1536 (by omega) (by omega) inb_S128x2048_S128x128_0_1536 z)
    have h := stored0 i x0 x1 x2 x3 x4 x5 x6 x7 x8 3 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 2 3 1408 (by omega) (by omega) inb_S128x2048_S128x128_0_1408 z)
    have h := stored3 i x0 x1 x2 x3 x4 x5 x6 x7 x8 2 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 2 2 1280 (by omega) (by omega) inb_S128x2048_S128x128_0_1280 z)
    have h := stored2 i x0 x1 x2 x3 x4 x5 x6 x7 x8 2 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 2 1 1152 (by omega) (by omega) inb_S128x2048_S128x128_0_1152 z)
    have h := stored1 i x0 x1 x2 x3 x4 x5 x6 x7 x8 2 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 2 0 1024 (by omega) (by omega) inb_S128x2048_S128x128_0_1024 z)
    have h := stored0 i x0 x1 x2 x3 x4 x5 x6 x7 x8 2 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 1 3 896 (by omega) (by omega) inb_S128x2048_S128x128_0_896 z)
    have h := stored3 i x0 x1 x2 x3 x4 x5 x6 x7 x8 1 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 1 2 768 (by omega) (by omega) inb_S128x2048_S128x128_0_768 z)
    have h := stored2 i x0 x1 x2 x3 x4 x5 x6 x7 x8 1 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 1 1 640 (by omega) (by omega) inb_S128x2048_S128x128_0_640 z)
    have h := stored1 i x0 x1 x2 x3 x4 x5 x6 x7 x8 1 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 1 0 512 (by omega) (by omega) inb_S128x2048_S128x128_0_512 z)
    have h := stored0 i x0 x1 x2 x3 x4 x5 x6 x7 x8 1 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 0 3 384 (by omega) (by omega) inb_S128x2048_S128x128_0_384 z)
    have h := stored3 i x0 x1 x2 x3 x4 x5 x6 x7 x8 0 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 0 2 256 (by omega) (by omega) inb_S128x2048_S128x128_0_256 z)
    have h := stored2 i x0 x1 x2 x3 x4 x5 x6 x7 x8 0 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 0 1 128 (by omega) (by omega) inb_S128x2048_S128x128_0_128 z)
    have h := stored1 i x0 x1 x2 x3 x4 x5 x6 x7 x8 0 (by omega) z
    simp only [Nat.reduceMul, Nat.reduceAdd] at h
    dsimp only
    simp only [ld_tileQ, ld_tileK, ld_tileB, ld_sink x8]
    exact h
  · refine Eq.trans ?_ (blockOut_emb x0 x1 x2 x3 x4 x5 x6 x7 x8 (i 0).val 0 0 0 (by omega) (by omega) inb_S128x2048_S128x128_0_0 z)
    have h := stored0 i x0 x1 x2 x3 x4 x5 x6 x7 x8 0 (by omega) z
    simp only [Nat.reduceMul, Nat.reduceAdd] at h
    dsimp only
    simp only [ld_tileQ, ld_tileK, ld_tileB, ld_sink x8]
    exact h

end
end Cert.KernelIdeal.Attn
-- ==== Proof.Array.lean ====
module

public import proofs.«01_k».proof.Proof.Block
public import Idealize.ShloMosaic.Lib.StableHlo

/-! The kernel's result array: attention at every row and column. -/

@[expose] public section

namespace Cert.KernelIdeal.Attn
open Idealize Idealize.ShloMosaic Cert.KernelIdeal Cert.KernelIdeal.Gen Idealize.ShloMosaic.TcCoe Idealize.SL.Sem Idealize.ShloMosaic.Tactic Band
open Idealize.ShloMosaic.Pipeline (Dat)
set_option maxRecDepth 16384
noncomputable section

variable (m : (ℓ : Loc nD τ sig) → Buf (Elt Ideal) ℓ) (c : Dev nD) (t : Fin cfg0.N)

/-- The queries, keys and values. -/
abbrev A0 : S24576x3072.Idx → EReal := m ((c : Thread nD τ).loc main_arg0)
/-- The biases. -/
abbrev A1 : S16x128x384.Idx → EReal := m ((c : Thread nD τ).loc main_arg1)
/-- The sinks. -/
abbrev A2 : S16.Idx → EReal := m ((c : Thread nD τ).loc main_arg2)

/-- Which block each window reads or writes at a point. -/
theorem index_facts : ∀ t : Fin grid0.N, (grid0.coords t 0).val = t.val
    ∧ win0_0.index t = ![t.val, 0] ∧ win0_1.index t = ![t.val - 1, 4] ∧ win0_2.index t = ![t.val, 4] ∧ win0_3.index t = ![min (t.val + 1) 191, 4]
    ∧ win0_4.index t = ![t.val - 1, 5] ∧ win0_5.index t = ![t.val, 5] ∧ win0_6.index t = ![min (t.val + 1) 191, 5]
    ∧ win0_7.index t = ![0, 0, 0] ∧ win0_8.index t = ![0] ∧ win0_9.index t = ![t.val, 0] := by decide +kernel

/-- The block of keys before, read off the array. -/
theorem blk1 (r col : ℕ) (hr : r < 128) (hc : col < 512) :
    at2 (iblk m c 1 t : Vec Ideal S128x512 .bf16) r col = at2 (A0 m c) (128 * (t.val - 1) + r) (2048 + col) := by
  have ht : t.val < 192 := t.isLt
  have hi := (index_facts t).2.2.1
  unfold at2
  rw [dif_pos ⟨hr, hc⟩, dif_pos ⟨by omega, by omega⟩]
  unfold iblk
  rw [View.read_apply]
  show V m c main_arg0 _ = _
  rw [V_main_arg0]
  refine congrArg (A0 m c) (funext fun a => Fin.ext ?_)
  match a with
  | ⟨0, _⟩ => show win0_1.index t 0 * 128 + 1 * r = 128 * (t.val - 1) + r; rw [hi]; show (t.val - 1) * 128 + 1 * r = _; omega
  | ⟨1, _⟩ => show win0_1.index t 1 * 512 + 1 * col = 2048 + col; rw [hi]; show 4 * 512 + 1 * col = _; omega

/-- The block of keys, read off the array. -/
theorem blk2 (r col : ℕ) (hr : r < 128) (hc : col < 512) :
    at2 (iblk m c 2 t : Vec Ideal S128x512 .bf16) r col = at2 (A0 m c) (128 * (t.val) + r) (2048 + col) := by
  have ht : t.val < 192 := t.isLt
  have hi := (index_facts t).2.2.2.1
  unfold at2
  rw [dif_pos ⟨hr, hc⟩, dif_pos ⟨by omega, by omega⟩]
  unfold iblk
  rw [View.read_apply]
  show V m c main_arg0 _ = _
  rw [V_main_arg0]
  refine congrArg (A0 m c) (funext fun a => Fin.ext ?_)
  match a with
  | ⟨0, _⟩ => show win0_2.index t 0 * 128 + 1 * r = 128 * (t.val) + r; rw [hi]; show (t.val) * 128 + 1 * r = _; omega
  | ⟨1, _⟩ => show win0_2.index t 1 * 512 + 1 * col = 2048 + col; rw [hi]; show 4 * 512 + 1 * col = _; omega

/-- The block of keys after, read off the array. -/
theorem blk3 (r col : ℕ) (hr : r < 128) (hc : col < 512) :
    at2 (iblk m c 3 t : Vec Ideal S128x512 .bf16) r col = at2 (A0 m c) (128 * (min (t.val + 1) 191) + r) (2048 + col) := by
  have ht : t.val < 192 := t.isLt
  have hi := (index_facts t).2.2.2.2.1
  unfold at2
  rw [dif_pos ⟨hr, hc⟩, dif_pos ⟨by omega, by omega⟩]
  unfold iblk
  rw [View.read_apply]
  show V m c main_arg0 _ = _
  rw [V_main_arg0]
  refine congrArg (A0 m c) (funext fun a => Fin.ext ?_)
  match a with
  | ⟨0, _⟩ => show win0_3.index t 0 * 128 + 1 * r = 128 * (min (t.val + 1) 191) + r; rw [hi]; show (min (t.val + 1) 191) * 128 + 1 * r = _; omega
  | ⟨1, _⟩ => show win0_3.index t 1 * 512 + 1 * col = 2048 + col; rw [hi]; show 4 * 512 + 1 * col = _; omega

/-- The block of values before, read off the array. -/
theorem blk4 (r col : ℕ) (hr : r < 128) (hc : col < 512) :
    at2 (iblk m c 4 t : Vec Ideal S128x512 .bf16) r col = at2 (A0 m c) (128 * (t.val - 1) + r) (2560 + col) := by
  have ht : t.val < 192 := t.isLt
  have hi := (index_facts t).2.2.2.2.2.1
  unfold at2
  rw [dif_pos ⟨hr, hc⟩, dif_pos ⟨by omega, by omega⟩]
  unfold iblk
  rw [View.read_apply]
  show V m c main_arg0 _ = _
  rw [V_main_arg0]
  refine congrArg (A0 m c) (funext fun a => Fin.ext ?_)
  match a with
  | ⟨0, _⟩ => show win0_4.index t 0 * 128 + 1 * r = 128 * (t.val - 1) + r; rw [hi]; show (t.val - 1) * 128 + 1 * r = _; omega
  | ⟨1, _⟩ => show win0_4.index t 1 * 512 + 1 * col = 2560 + col; rw [hi]; show 5 * 512 + 1 * col = _; omega

/-- The block of values, read off the array. -/
theorem blk5 (r col : ℕ) (hr : r < 128) (hc : col < 512) :
    at2 (iblk m c 5 t : Vec Ideal S128x512 .bf16) r col = at2 (A0 m c) (128 * (t.val) + r) (2560 + col) := by
  have ht : t.val < 192 := t.isLt
  have hi := (index_facts t).2.2.2.2.2.2.1
  unfold at2
  rw [dif_pos ⟨hr, hc⟩, dif_pos ⟨by omega, by omega⟩]
  unfold iblk
  rw [View.read_apply]
  show V m c main_arg0 _ = _
  rw [V_main_arg0]
  refine congrArg (A0 m c) (funext fun a => Fin.ext ?_)
  match a with
  | ⟨0, _⟩ => show win0_5.index t 0 * 128 + 1 * r = 128 * (t.val) + r; rw [hi]; show (t.val) * 128 + 1 * r = _; omega
  | ⟨1, _⟩ => show win0_5.index t 1 * 512 + 1 * col = 2560 + col; rw [hi]; show 5 * 512 + 1 * col = _; omega

/-- The block of values after, read off the array. -/
theorem blk6 (r col : ℕ) (hr : r < 128) (hc : col < 512) :
    at2 (iblk m c 6 t : Vec Ideal S128x512 .bf16) r col = at2 (A0 m c) (128 * (min (t.val + 1) 191) + r) (2560 + col) := by
  have ht : t.val < 192 := t.isLt
  have hi := (index_facts t).2.2.2.2.2.2.2.1
  unfold at2
  rw [dif_pos ⟨hr, hc⟩, dif_pos ⟨by omega, by omega⟩]
  unfold iblk
  rw [View.read_apply]
  show V m c main_arg0 _ = _
  rw [V_main_arg0]
  refine congrArg (A0 m c) (funext fun a => Fin.ext ?_)
  match a with
  | ⟨0, _⟩ => show win0_6.index t 0 * 128 + 1 * r = 128 * (min (t.val + 1) 191) + r; rw [hi]; show (min (t.val + 1) 191) * 128 + 1 * r = _; omega
  | ⟨1, _⟩ => show win0_6.index t 1 * 512 + 1 * col = 2560 + col; rw [hi]; show 5 * 512 + 1 * col = _; omega

/-- The block of queries, read off the array. -/
theorem blk0 (r col : ℕ) (hr : r < 128) (hc : col < 2048) :
    at2 (X0_0 m c t : Vec Ideal S128x2048 .bf16) r col = at2 (A0 m c) (128 * t.val + r) col := by
  have ht : t.val < 192 := t.isLt
  have hi := (index_facts t).2.1
  unfold at2
  rw [dif_pos ⟨hr, hc⟩, dif_pos ⟨by omega, by omega⟩]
  unfold X0_0 Pipeline.Window.fill
  rw [dif_pos (moved0_0 t _)]
  unfold iblk
  rw [View.read_apply]
  show V m c main_arg0 _ = _
  rw [V_main_arg0]
  refine congrArg (A0 m c) (funext fun a => Fin.ext ?_)
  match a with
  | ⟨0, _⟩ => show win0_0.index t 0 * 128 + 1 * r = 128 * t.val + r; rw [hi]; show t.val * 128 + 1 * r = _; omega
  | ⟨1, _⟩ => show win0_0.index t 1 * 2048 + 1 * col = col; rw [hi]; show 0 * 2048 + 1 * col = _; omega

/-- The sinks are staged whole. -/
theorem blk8 (k : ℕ) (hk : k < 16) : at1 (iblk m c 8 t : Vec Ideal S16 .f32) k = at1 (A2 m c) k := by
  have hi := (index_facts t).2.2.2.2.2.2.2.2.2.1
  unfold at1
  rw [dif_pos hk, dif_pos hk]
  unfold iblk
  rw [View.read_apply]
  show V m c main_arg2 _ = _
  rw [V_main_arg2]
  refine congrArg (A2 m c) (funext fun a => Fin.ext ?_)
  match a with
  | ⟨0, _⟩ => show win0_8.index t 0 * 16 + 1 * k = k; rw [hi]; show 0 * 16 + 1 * k = _; omega

/-- The biases are staged whole, four heads stacked. -/
theorem blk7 (k g q j : ℕ) (hk : k < 4) (hg : g < 4) (hq : q < 128) (hj : j < 384) :
    at3 (iblk m c 7 t : Vec Ideal S4x512x384 .f32) k (128 * g + q) j = at3 (A1 m c) (4 * k + g) q j := by
  have hi := (index_facts t).2.2.2.2.2.2.2.2.1
  unfold at3
  rw [dif_pos ⟨hk, by omega, hj⟩, dif_pos ⟨by omega, hq, hj⟩]
  unfold iblk
  rw [View.read_apply]
  show V m c main_v0 _ = _
  have e : (V m c main_v0 : Vec Ideal S4x512x384 .f32) = shapeCast S4x512x384 (A1 m c) shapeCasts_S16x128x384_S4x512x384 := by
    show StableHlo.after hostOps0 _ (Proc.devRef .tc main_v0) = _
    after_results
    rfl
  rw [e]
  refine shapeCast_apply _ _ _ _ ?_
  rw [Shape.rowMajor_val_three, Shape.rowMajor_val_three]
  show ((4 * k + g) * 128 + q) * 384 + j = ((win0_7.index t 0 * 4 + 1 * k) * 512 + (win0_7.index t 1 * 512 + 1 * (128 * g + q))) * 384 + (win0_7.index t 2 * 384 + 1 * j)
  rw [hi]
  show ((4 * k + g) * 128 + q) * 384 + j = ((0 * 4 + 1 * k) * 512 + (0 * 512 + 1 * (128 * g + q))) * 384 + (0 * 384 + 1 * j)
  omega

/-- Inside its sequence, a key of the band is a row of the array. -/
theorem band_keys (j col : ℕ) (hj : j < 384) (hc : col < 512) (ho : ¬ Outside t.val j) :
    band (iblk m c 1 t) (iblk m c 2 t) (iblk m c 3 t) j col = at2 (A0 m c) (128 * t.val + j - 128) (2048 + col) := by
  have ht : t.val < 192 := t.isLt
  unfold Outside at ho
  unfold band
  split_ifs with h1 h2
  · rw [blk1 m c t j col h1 hc]; exact congrArg (at2 (A0 m c) · _) (by omega)
  · rw [blk2 m c t _ col (by omega) hc]; exact congrArg (at2 (A0 m c) · _) (by omega)
  · rw [blk3 m c t _ col (by omega) hc]; exact congrArg (at2 (A0 m c) · _) (by omega)
/-- Inside its sequence, a value of the band is a row of the array. -/
theorem band_values (j col : ℕ) (hj : j < 384) (hc : col < 512) (ho : ¬ Outside t.val j) :
    band (iblk m c 4 t) (iblk m c 5 t) (iblk m c 6 t) j col = at2 (A0 m c) (128 * t.val + j - 128) (2560 + col) := by
  have ht : t.val < 192 := t.isLt
  unfold Outside at ho
  unfold band
  split_ifs with h1 h2
  · rw [blk4 m c t j col h1 hc]; exact congrArg (at2 (A0 m c) · _) (by omega)
  · rw [blk5 m c t _ col (by omega) hc]; exact congrArg (at2 (A0 m c) · _) (by omega)
  · rw [blk6 m c t _ col (by omega) hc]; exact congrArg (at2 (A0 m c) · _) (by omega)

/-- A point's block of results is attention on its rows. -/
theorem block_attn (k g q d : ℕ) (hk : k < 4) (hg : g < 4) (hq : q < 128) (hd : d < 128) :
    blockVal t.val (X0_0 m c t) (iblk m c 1 t) (iblk m c 2 t) (iblk m c 3 t) (iblk m c 4 t) (iblk m c 5 t) (iblk m c 6 t) (iblk m c 7 t)
      (iblk m c 8 t) k g q d = attn (A0 m c) (A1 m c) (A2 m c) t.val q (4 * k + g) d := by
  unfold blockVal attn
  have e : blockScore t.val (X0_0 m c t) (iblk m c 1 t) (iblk m c 2 t) (iblk m c 3 t) (iblk m c 7 t) k g q
      = score (A0 m c) (A1 m c) t.val q (4 * k + g) := by
    funext j
    unfold blockScore score
    by_cases ho : Outside t.val j.val
    · rw [if_pos ho, if_pos ho]
    · rw [if_neg ho, if_neg ho, blk7 m c t k g q j hk hg hq j.isLt]
      refine congrArg (fun a => a * isd + _) (Finset.sum_congr rfl fun x _ => ?_)
      have hx := x.isLt
      have e1 : 512 * k + 128 * g + x.val = 128 * (4 * k + g) + x.val := by omega
      have e2 : 2048 + (128 * k + x.val) = 2048 + 128 * ((4 * k + g) / 4) + x.val := by omega
      rw [blk0 m c t q _ hq (by omega), band_keys m c t j _ j.isLt (by omega) ho, e1, e2]
  rw [e, blk8 m c t _ (by omega)]
  refine Row.late_congr fun j => ?_
  by_cases ho : Outside t.val j.val
  · exact .inl (by unfold score; rw [if_pos ho])
  · refine .inr ?_
    rw [band_values m c t j _ j.isLt (by omega) ho]
    exact congrArg (at2 (A0 m c) _) (by omega)

/-- What a point writes back. -/
theorem flushed_apply (y : S128x2048.Idx) : (dats m 0 c).flushed 9 t y
    = blockOut (X0_0 m c t) (iblk m c 1 t) (iblk m c 2 t) (iblk m c 3 t) (iblk m c 4 t) (iblk m c 5 t) (iblk m c 6 t) (iblk m c 7 t) (iblk m c 8 t) t.val y := by
  rw [Value.flushed9_A]
  refine (out_apply (grid0.coords t) (X0_0 m c t) (iblk m c 1 t) (iblk m c 2 t) (iblk m c 3 t) (iblk m c 4 t) (iblk m c 5 t) (iblk m c 6 t) (iblk m c 7 t) (iblk m c 8 t) c _ _ _ _ _ _ _ _ _ _ _ _ _ _ _ _ _ _ _ _ y).trans ?_
  rw [(index_facts t).1]

/-- The kernel's result array. -/
theorem array_eq : (dats m 0 c).arrAt 9 cfg0.N
    = fun i : S24576x2048.Idx => attn (A0 m c) (A1 m c) (A2 m c) ((i 0).val / 128) ((i 0).val % 128) ((i 1).val / 128) ((i 1).val % 128) := by
  funext i
  have h0 : (i 0).val < 24576 := (i 0).isLt
  have h1 : (i 1).val < 2048 := (i 1).isLt
  let t : Fin cfg0.N := ⟨(i 0).val / 128, by show (i 0).val / 128 < 192; omega⟩
  have hi := (index_facts t).2.2.2.2.2.2.2.2.2.2
  let y : S128x2048.Idx := ix2 ⟨(i 0).val % 128, by omega⟩ (i 1)
  have hemb : ((cfg0.win 9).blk t).view.emb y = i := by
    funext a
    apply Fin.ext
    match a with
    | ⟨0, _⟩ => show win0_9.index t 0 * 128 + 1 * ((i 0).val % 128) = (i 0).val; rw [hi]; show (i 0).val / 128 * 128 + 1 * ((i 0).val % 128) = _; omega
    | ⟨1, _⟩ => show win0_9.index t 1 * 2048 + 1 * (i 1).val = (i 1).val; rw [hi]; show 0 * 2048 + 1 * (i 1).val = _; omega
  have hv := (dats m 0 c).arrAt_emb_eq_flushed 9 Value.disjoint9 t (flush0_9 t) y
  rw [hemb] at hv
  rw [hv]
  refine (cast_eq _ _).trans ?_
  rw [flushed_apply m c t y]
  unfold blockOut
  refine (block_attn m c t _ _ _ _ ?_ ?_ ?_ ?_).trans ?_
  · show (i 1).val / 512 < 4; omega
  · omega
  · show (i 0).val % 128 < 128; omega
  · omega
  · show attn _ _ _ ((i 0).val / 128) ((i 0).val % 128) (4 * ((i 1).val / 512) + (i 1).val / 128 % 4) ((i 1).val % 128) = _
    rw [show 4 * ((i 1).val / 512) + (i 1).val / 128 % 4 = (i 1).val / 128 by omega]
end
end Cert.KernelIdeal.Attn
-- ==== Proof.Common.lean ====
module

public import proofs.«01_k».proof.Proof.Band

/-! Small facts the reading of the reference's attention uses. -/

@[expose] public section

namespace Band
open Idealize.ShloMosaic
noncomputable section

/-- An element of a matrix, by the values of its coordinates. -/
theorem at2_eq {a b : ℕ} (x : (⟨2, ![a, b]⟩ : Shape).Idx → EReal) (z : (⟨2, ![a, b]⟩ : Shape).Idx) (r c : ℕ)
    (h0 : (z 0).val = r) (h1 : (z 1).val = c) : x z = at2 x r c := by
  subst h0 h1
  rw [eq_ix2 z]
  exact at2_fin x _ _
/-- An element of a stack of matrices, by the values of its coordinates. -/
theorem at3_eq {a b c : ℕ} (x : (⟨3, ![a, b, c]⟩ : Shape).Idx → EReal) (z : (⟨3, ![a, b, c]⟩ : Shape).Idx) (r s t : ℕ)
    (h0 : (z 0).val = r) (h1 : (z 1).val = s) (h2 : (z 2).val = t) : x z = at3 x r s t := by
  subst h0 h1 h2
  rw [eq_ix3 z]
  exact at3_fin x _ _ _
/-- An element of a vector, by the value of its coordinate. -/
theorem at1_eq {a : ℕ} (x : (⟨1, ![a]⟩ : Shape).Idx → EReal) (z : (⟨1, ![a]⟩ : Shape).Idx) (r : ℕ) (h0 : (z 0).val = r) : x z = at1 x r := by
  subst h0
  rw [eq_ix1 z]
  exact at1_fin x _

/-- The start of the running maximum. -/
theorem start_bot : Ideal.ofBits FTy.f32 4286578688#32 = (⊥ : EReal) := by simp [Ideal.ofBits, Ideal.ieee]

/-- Dividing by the square root of 128 is multiplying by the scale. -/
theorem div_sqrt (x : EReal) : Ideal.div x (Ideal.sqrt (Ideal.ofBits .f32 0x43000000#32)) = x * isd := by
  have h : Ideal.ofBits .f32 0x43000000#32 = ((128 : ℝ) : EReal) := by simp [Ideal.ofBits, Ideal.ieee, -EReal.coe_mul]; norm_num
  have h0 : (0 : ℝ) < Real.sqrt 128 := Real.sqrt_pos.2 (by norm_num)
  rw [h, show Ideal.sqrt ((128 : ℝ) : EReal) = ((Real.sqrt 128 : ℝ) : EReal) by
    show (if (128 : ℝ) < 0 then (⊥ : EReal) else _) = _; rw [if_neg (by norm_num)], Ideal.div_coe h0.ne', one_div]
  rfl

/-- The converted zero word is zero. -/
theorem zero_word : (FloatOps.sitofp (F := Ideal) .f32 (0#32) : EReal) = 0 := by
  show (((0#32 : BitVec 32).toInt : ℝ) : EReal) = 0
  simp

/-- A choice by a word that is zero exactly when `p` holds. -/
theorem select_not {α : Type} (p : Prop) [Decidable p] (x y : α) : Scalar.select (if p then 0#1 else 1#1) x y = if p then y else x := by
  unfold Scalar.select; split_ifs <;> simp_all

end
end Band
-- ==== Proof.Prompt.lean ====
module

public import proofs.«01_k».proof.Proof.Common
public import proofs.«01_k».proof.Proof.Gen.ReferenceIdeal.Read
public import Idealize.ShloMosaic.Lib.KernelVsHost

/-! The reference's attention over the prompt sequence: every stage read at an index, down to the result. -/

@[expose] public section

namespace Cert.ReferenceIdeal.Prompt
open Idealize.ShloMosaic Cert.ReferenceIdeal Cert.ReferenceIdeal.Gen Cert.ReferenceIdeal.Read Idealize.ShloMosaic.Tactic Band
set_option maxRecDepth 16384
noncomputable section

variable (x0 : S24576x3072.Idx → EReal) (x1 : S16x128x384.Idx → EReal) (x2 : S16.Idx → EReal)

/-- The rows of these sequences. -/
theorem rows (i : S1x8192x3072.Idx) : val_main_v2 (F := Ideal) x0 i = at2 x0 (0 + (i 0).val * 8192 + (i 1).val) (i 2).val := by
  have h0 : (i 0).val < 1 := (i 0).isLt
  have h1 : (i 1).val < 8192 := (i 1).isLt
  have h2 : (i 2).val < 3072 := (i 2).isLt
  rw [val_main_v2_apply, val_main_v1_apply, val_main_v0_apply]
  refine at2_eq x0 _ _ _ ?_ ?_
  · show (((i 0).val * 8192 + (i 1).val) * 3072 + (i 2).val) / 3072 = _
    omega
  · show (((i 0).val * 8192 + (i 1).val) * 3072 + (i 2).val) % 3072 = _
    omega

/-- The queries, by block, row, head and lane. -/
theorem queries (i : S1x64x128x4x4x128.Idx) : val_main_v6 (F := Ideal) x0 i
    = at2 x0 (128 * (0 + (i 0).val * 64 + (i 1).val) + (i 2).val) (128 * (4 * (i 3).val + (i 4).val) + (i 5).val) := by
  have h0 : (i 0).val < 1 := (i 0).isLt
  have h1 : (i 1).val < 64 := (i 1).isLt
  have h2 : (i 2).val < 128 := (i 2).isLt
  have h3 : (i 3).val < 4 := (i 3).isLt
  have h4 : (i 4).val < 4 := (i 4).isLt
  have h5 : (i 5).val < 128 := (i 5).isLt
  conv_lhs => rw [eq_ix6 i]
  pointwise [val_main_v6]
  rw [val_main_v3_apply, rows]
  refine congrArg₂ (at2 x0) ?_ ?_
  · show 0 + 0 * 8192 + ((i 1).val * 128 + (i 2).val) = _
    omega
  · show (i 3).val * 512 + (i 4).val * 128 + (i 5).val = _
    omega

/-- The keys, by row, head and lane. -/
theorem keys (i : S1x8192x4x128.Idx) : val_main_v7 (F := Ideal) x0 i
    = at2 x0 (0 + (i 0).val * 8192 + (i 1).val) (2048 + (128 * (i 2).val + (i 3).val)) := by
  have h0 : (i 0).val < 1 := (i 0).isLt
  have h1 : (i 1).val < 8192 := (i 1).isLt
  have h2 : (i 2).val < 4 := (i 2).isLt
  have h3 : (i 3).val < 128 := (i 3).isLt
  rw [val_main_v7_apply, val_main_v4_apply, rows]
  refine congrArg₂ (at2 x0) ?_ ?_
  · show 0 + (0) * 8192 + ((((i 0).val * 8192 + (i 1).val) * 4 + (i 2).val) * 128 + (i 3).val) / 512 % 8192 = _
    omega
  · show 2048 + ((((i 0).val * 8192 + (i 1).val) * 4 + (i 2).val) * 128 + (i 3).val) % 512 = _
    omega

/-- The keys with a block of zeros on either side of a sequence. -/
theorem keys_padded (i : S1x8448x4x128.Idx) : val_main_v8 (F := Ideal) x0 i
    = if 128 ≤ (i 1).val ∧ (i 1).val < 8320 then at2 x0 (0 + (i 0).val * 8192 + ((i 1).val - 128)) (2048 + (128 * (i 2).val + (i 3).val)) else 0 := by
  unfold val_main_v8
  split_ifs with h
  · refine (pad_apply_of_inside _ _ _ _ _ _ _ _ (ix4 (i 0) ⟨(i 1).val - 128, by omega⟩ (i 2) (i 3) : S1x8192x4x128.Idx) fun a => ?_).trans ?_
    · match a with
      | ⟨0, _⟩ => show (i 0).val = 0 + (i 0).val * (0 + 1); omega
      | ⟨1, _⟩ => show (i 1).val = 128 + ((i 1).val - 128) * (0 + 1); omega
      | ⟨2, _⟩ => show (i 2).val = 0 + (i 2).val * (0 + 1); omega
      | ⟨3, _⟩ => show (i 3).val = 0 + (i 3).val * (0 + 1); omega
    · exact keys x0 _
  · refine (pad_apply_of_not_inside _ _ _ _ _ _ _ _ (1 : Fin 4) ?_).trans zero_word
    show ¬(128 ≤ (i 1).val ∧ ((i 1).val - 128) % (0 + 1) = 0 ∧ ((i 1).val - 128) / (0 + 1) < 8192)
    omega

/-- The padded keys by block. -/
theorem keys_blocks (i : S1x66x128x4x128.Idx) : val_main_v9 (F := Ideal) x0 i
    = if 128 ≤ 128 * (i 1).val + (i 2).val ∧ 128 * (i 1).val + (i 2).val < 8320 then
        at2 x0 (0 + (i 0).val * 8192 + (128 * (i 1).val + (i 2).val - 128)) (2048 + (128 * (i 3).val + (i 4).val)) else 0 := by
  have h0 : (i 0).val < 1 := (i 0).isLt
  have h1 : (i 1).val < 66 := (i 1).isLt
  have h2 : (i 2).val < 128 := (i 2).isLt
  have h3 : (i 3).val < 4 := (i 3).isLt
  have h4 : (i 4).val < 128 := (i 4).isLt
  rw [val_main_v9_apply, keys_padded]
  have e0 : (idx_main_v9 i 0).val = (i 0).val := by
    show 0 = _
    omega
  have e1 : (idx_main_v9 i 1).val = 128 * (i 1).val + (i 2).val := by
    show (((((i 0).val * 66 + (i 1).val) * 128 + (i 2).val) * 4 + (i 3).val) * 128 + (i 4).val) / 512 % 8448 = _
    omega
  have e2 : (idx_main_v9 i 2).val = (i 3).val := by
    show (((((i 0).val * 66 + (i 1).val) * 128 + (i 2).val) * 4 + (i 3).val) * 128 + (i 4).val) / 128 % 4 = _
    omega
  have e3 : (idx_main_v9 i 3).val = (i 4).val := by
    show (((((i 0).val * 66 + (i 1).val) * 128 + (i 2).val) * 4 + (i 3).val) * 128 + (i 4).val) % 128 = _
    omega
  rw [e0, e1, e2, e3]

/-- The band of keys around a block. -/
theorem keys_band (i : S1x64x384x4x128.Idx) : val_main_v13 (F := Ideal) x0 i
    = if Outside (0 + (i 0).val * 64 + (i 1).val) (i 2).val then 0
      else at2 x0 (128 * (0 + (i 0).val * 64 + (i 1).val) + (i 2).val - 128) (2048 + (128 * (i 3).val + (i 4).val)) := by
  have h0 : (i 0).val < 1 := (i 0).isLt
  have h1 : (i 1).val < 64 := (i 1).isLt
  have h2 : (i 2).val < 384 := (i 2).isLt
  have key : val_main_v13 (F := Ideal) x0 i = if 128 ≤ 128 * (i 1).val + (i 2).val ∧ 128 * (i 1).val + (i 2).val < 8320 then
      at2 x0 (0 + (i 0).val * 8192 + (128 * (i 1).val + (i 2).val - 128)) (2048 + (128 * (i 3).val + (i 4).val)) else 0 := by
    conv_lhs => rw [eq_ix5 i]
    pointwise [val_main_v13]
    by_cases c1 : (i 2).val < 128
    · rw [dif_pos c1, val_main_v10_apply, keys_blocks]
      refine if_congr ?_ (congrArg₂ (at2 x0) ?_ rfl) rfl
      · show 128 ≤ 128 * (i 1).val + (i 2).val ∧ 128 * (i 1).val + (i 2).val < 8320 ↔ _
        omega
      · show 0 + 0 * 8192 + (128 * (i 1).val + (i 2).val - 128) = _
        omega
    by_cases c2 : (i 2).val - 128 < 128
    · rw [dif_neg c1, dif_pos c2, val_main_v11_apply, keys_blocks]
      refine if_congr ?_ (congrArg₂ (at2 x0) ?_ rfl) rfl
      · show 128 ≤ 128 * (1 + (i 1).val) + ((i 2).val - 128) ∧ 128 * (1 + (i 1).val) + ((i 2).val - 128) < 8320 ↔ _
        omega
      · show 0 + 0 * 8192 + (128 * (1 + (i 1).val) + ((i 2).val - 128) - 128) = _
        omega
    · rw [dif_neg c1, dif_neg c2, val_main_v12_apply, keys_blocks]
      refine if_congr ?_ (congrArg₂ (at2 x0) ?_ rfl) rfl
      · show 128 ≤ 128 * (2 + (i 1).val) + ((i 2).val - 128 - 128) ∧ 128 * (2 + (i 1).val) + ((i 2).val - 128 - 128) < 8320 ↔ _
        omega
      · show 0 + 0 * 8192 + (128 * (2 + (i 1).val) + ((i 2).val - 128 - 128) - 128) = _
        omega
  rw [key]
  by_cases ho : Outside (0 + (i 0).val * 64 + (i 1).val) (i 2).val
  · rw [if_pos ho, if_neg (by unfold Outside at ho; omega)]
  · rw [if_neg ho, if_pos (by unfold Outside at ho; omega)]
    exact congrArg (at2 x0 · _) (by unfold Outside at ho; omega)

/-- The values, by row, head and lane. -/
theorem values (i : S1x8192x4x128.Idx) : val_main_v14 (F := Ideal) x0 i
    = at2 x0 (0 + (i 0).val * 8192 + (i 1).val) (2560 + (128 * (i 2).val + (i 3).val)) := by
  have h0 : (i 0).val < 1 := (i 0).isLt
  have h1 : (i 1).val < 8192 := (i 1).isLt
  have h2 : (i 2).val < 4 := (i 2).isLt
  have h3 : (i 3).val < 128 := (i 3).isLt
  rw [val_main_v14_apply, val_main_v5_apply, rows]
  refine congrArg₂ (at2 x0) ?_ ?_
  · show 0 + (0) * 8192 + ((((i 0).val * 8192 + (i 1).val) * 4 + (i 2).val) * 128 + (i 3).val) / 512 % 8192 = _
    omega
  · show 2560 + ((((i 0).val * 8192 + (i 1).val) * 4 + (i 2).val) * 128 + (i 3).val) % 512 = _
    omega

/-- The values with a block of zeros on either side of a sequence. -/
theorem values_padded (i : S1x8448x4x128.Idx) : val_main_v15 (F := Ideal) x0 i
    = if 128 ≤ (i 1).val ∧ (i 1).val < 8320 then at2 x0 (0 + (i 0).val * 8192 + ((i 1).val - 128)) (2560 + (128 * (i 2).val + (i 3).val)) else 0 := by
  unfold val_main_v15
  split_ifs with h
  · refine (pad_apply_of_inside _ _ _ _ _ _ _ _ (ix4 (i 0) ⟨(i 1).val - 128, by omega⟩ (i 2) (i 3) : S1x8192x4x128.Idx) fun a => ?_).trans ?_
    · match a with
      | ⟨0, _⟩ => show (i 0).val = 0 + (i 0).val * (0 + 1); omega
      | ⟨1, _⟩ => show (i 1).val = 128 + ((i 1).val - 128) * (0 + 1); omega
      | ⟨2, _⟩ => show (i 2).val = 0 + (i 2).val * (0 + 1); omega
      | ⟨3, _⟩ => show (i 3).val = 0 + (i 3).val * (0 + 1); omega
    · exact values x0 _
  · refine (pad_apply_of_not_inside _ _ _ _ _ _ _ _ (1 : Fin 4) ?_).trans zero_word
    show ¬(128 ≤ (i 1).val ∧ ((i 1).val - 128) % (0 + 1) = 0 ∧ ((i 1).val - 128) / (0 + 1) < 8192)
    omega

/-- The padded values by block. -/
theorem values_blocks (i : S1x66x128x4x128.Idx) : val_main_v16 (F := Ideal) x0 i
    = if 128 ≤ 128 * (i 1).val + (i 2).val ∧ 128 * (i 1).val + (i 2).val < 8320 then
        at2 x0 (0 + (i 0).val * 8192 + (128 * (i 1).val + (i 2).val - 128)) (2560 + (128 * (i 3).val + (i 4).val)) else 0 := by
  have h0 : (i 0).val < 1 := (i 0).isLt
  have h1 : (i 1).val < 66 := (i 1).isLt
  have h2 : (i 2).val < 128 := (i 2).isLt
  have h3 : (i 3).val < 4 := (i 3).isLt
  have h4 : (i 4).val < 128 := (i 4).isLt
  rw [val_main_v16_apply, values_padded]
  have e0 : (idx_main_v16 i 0).val = (i 0).val := by
    show 0 = _
    omega
  have e1 : (idx_main_v16 i 1).val = 128 * (i 1).val + (i 2).val := by
    show (((((i 0).val * 66 + (i 1).val) * 128 + (i 2).val) * 4 + (i 3).val) * 128 + (i 4).val) / 512 % 8448 = _
    omega
  have e2 : (idx_main_v16 i 2).val = (i 3).val := by
    show (((((i 0).val * 66 + (i 1).val) * 128 + (i 2).val) * 4 + (i 3).val) * 128 + (i 4).val) / 128 % 4 = _
    omega
  have e3 : (idx_main_v16 i 3).val = (i 4).val := by
    show (((((i 0).val * 66 + (i 1).val) * 128 + (i 2).val) * 4 + (i 3).val) * 128 + (i 4).val) % 128 = _
    omega
  rw [e0, e1, e2, e3]

/-- The band of values around a block. -/
theorem values_band (i : S1x64x384x4x128.Idx) : val_main_v20 (F := Ideal) x0 i
    = if Outside (0 + (i 0).val * 64 + (i 1).val) (i 2).val then 0
      else at2 x0 (128 * (0 + (i 0).val * 64 + (i 1).val) + (i 2).val - 128) (2560 + (128 * (i 3).val + (i 4).val)) := by
  have h0 : (i 0).val < 1 := (i 0).isLt
  have h1 : (i 1).val < 64 := (i 1).isLt
  have h2 : (i 2).val < 384 := (i 2).isLt
  have key : val_main_v20 (F := Ideal) x0 i = if 128 ≤ 128 * (i 1).val + (i 2).val ∧ 128 * (i 1).val + (i 2).val < 8320 then
      at2 x0 (0 + (i 0).val * 8192 + (128 * (i 1).val + (i 2).val - 128)) (2560 + (128 * (i 3).val + (i 4).val)) else 0 := by
    conv_lhs => rw [eq_ix5 i]
    pointwise [val_main_v20]
    by_cases c1 : (i 2).val < 128
    · rw [dif_pos c1, val_main_v17_apply, values_blocks]
      refine if_congr ?_ (congrArg₂ (at2 x0) ?_ rfl) rfl
      · show 128 ≤ 128 * (i 1).val + (i 2).val ∧ 128 * (i 1).val + (i 2).val < 8320 ↔ _
        omega
      · show 0 + 0 * 8192 + (128 * (i 1).val + (i 2).val - 128) = _
        omega
    by_cases c2 : (i 2).val - 128 < 128
    · rw [dif_neg c1, dif_pos c2, val_main_v18_apply, values_blocks]
      refine if_congr ?_ (congrArg₂ (at2 x0) ?_ rfl) rfl
      · show 128 ≤ 128 * (1 + (i 1).val) + ((i 2).val - 128) ∧ 128 * (1 + (i 1).val) + ((i 2).val - 128) < 8320 ↔ _
        omega
      · show 0 + 0 * 8192 + (128 * (1 + (i 1).val) + ((i 2).val - 128) - 128) = _
        omega
    · rw [dif_neg c1, dif_neg c2, val_main_v19_apply, values_blocks]
      refine if_congr ?_ (congrArg₂ (at2 x0) ?_ rfl) rfl
      · show 128 ≤ 128 * (2 + (i 1).val) + ((i 2).val - 128 - 128) ∧ 128 * (2 + (i 1).val) + ((i 2).val - 128 - 128) < 8320 ↔ _
        omega
      · show 0 + 0 * 8192 + (128 * (2 + (i 1).val) + ((i 2).val - 128 - 128) - 128) = _
        omega
  rw [key]
  by_cases ho : Outside (0 + (i 0).val * 64 + (i 1).val) (i 2).val
  · rw [if_pos ho, if_neg (by unfold Outside at ho; omega)]
  · rw [if_neg ho, if_pos (by unfold Outside at ho; omega)]
    exact congrArg (at2 x0 · _) (by unfold Outside at ho; omega)

/-- The reference's mask is zero exactly at the keys outside the block's sequence. -/
theorem mask (i : S1x64x4x4x128x384.Idx) : val_main_call2_v1 (F := Ideal) i
    = if Outside (0 + (i 0).val * 64 + (i 1).val) (i 5).val then 0#1 else 1#1 := by
  have h0 : (i 0).val < 1 := (i 0).isLt
  have h1 : (i 1).val < 64 := (i 1).isLt
  have hw : ∀ (n : Fin 64) (j : Fin 384),
      IntOp.andi (IntOp.cmpi .sge (IntOp.addi (IntOp.muli (BitVec.ofNat 32 n.val) 128#32) (IntOp.subi (BitVec.ofNat 32 j.val) 128#32)) 0#32)
        (IntOp.cmpi .slt (IntOp.addi (IntOp.muli (BitVec.ofNat 32 n.val) 128#32) (IntOp.subi (BitVec.ofNat 32 j.val) 128#32)) 8192#32)
      = if (n.val = 0 ∧ j.val < 128) ∨ (n.val = 63 ∧ 256 ≤ j.val) then 0#1 else 1#1 := by decide +kernel
  rw [val_main_call2_v1_apply, val_main_v44_apply, val_main_v43_apply, val_main_v42_apply, val_main_v39_apply, val_main_v41_apply, val_main_v37_apply, val_main_v38_apply, val_main_v40_apply, val_main_v35_apply, val_main_v36_apply, val_main_v34_apply, val_main_v29_apply, val_main_v32_apply, val_main_v33_apply, val_main_v27_apply, val_main_v28_apply, val_main_v31_apply, val_main_v26_apply]
  refine (hw (i 1) (i 5)).trans (if_congr ?_ rfl rfl)
  unfold Outside
  omega

/-- The masked scores. -/
theorem scores (i : S1x64x4x4x128x384.Idx) : val_main_v48 (F := Ideal) x0 x1 i
    = score x0 x1 (0 + (i 0).val * 64 + (i 1).val) (i 4).val (4 * (i 2).val + (i 3).val) (i 5) := by
  have h2 : (i 2).val < 4 := (i 2).isLt
  have h3 : (i 3).val < 4 := (i 3).isLt
  have h4 : (i 4).val < 128 := (i 4).isLt
  have h5 : (i 5).val < 384 := (i 5).isLt
  rw [val_main_v48_apply, mask, select_not]
  unfold score
  by_cases ho : Outside (0 + (i 0).val * 64 + (i 1).val) (i 5).val
  · rw [if_pos ho, if_pos ho, val_main_call2_v2_apply]
    exact start_bot
  · rw [if_neg ho, if_neg ho, val_main_v47_apply, val_main_v46_apply, val_main_v45_apply, val_main_v30_apply, val_main_v25_apply, val_main_v24_apply, val_main_v23_apply, val_main_v22_apply, val_main_v21_apply]
    refine congrArg₂ (· + ·) ((div_sqrt _).trans (congrArg (· * isd) (Finset.sum_congr rfl fun d _ => ?_))) ?_
    · rw [queries, keys_band, mul_comm]
      refine congrArg₂ (· * ·) rfl ?_
      rw [if_neg ho]
      exact congrArg (at2 x0 _) (by show 2048 + (128 * (i 2).val + d.val) = 2048 + 128 * ((4 * (i 2).val + (i 3).val) / 4) + d.val; omega)
    · refine at3_eq x1 _ _ _ _ ?_ ?_ ?_
      · show (((( i 2).val * 4 + (i 3).val) * 128 + (i 4).val) * 384 + (i 5).val) / 49152 = _
        omega
      · show (((( i 2).val * 4 + (i 3).val) * 128 + (i 4).val) * 384 + (i 5).val) / 384 % 128 = _
        omega
      · show (((( i 2).val * 4 + (i 3).val) * 128 + (i 4).val) * 384 + (i 5).val) % 384 = _
        omega

/-- The sinks by head. -/
theorem sinks (i : S1x1x4x4x1x1.Idx) : val_main_v49 (F := Ideal) x2 i = at1 x2 (4 * (i 2).val + (i 3).val) := by
  conv_lhs => rw [eq_ix6 i]
  pointwise [val_main_v49]
  exact at1_eq x2 _ _ (by show (i 2).val * 4 + (i 3).val = _; omega)

/-- The largest score of a row. -/
theorem largest (i : S1x64x4x4x128.Idx) : val_main_v50 (F := Ideal) x0 x1 i
    = Finset.univ.fold max ⊥ (score x0 x1 (0 + (i 0).val * 64 + (i 1).val) (i 4).val (4 * (i 2).val + (i 3).val)) := by
  unfold val_main_v50
  rw [Host.reduce_eq_fold_single _ _ _ _ (by decide) _]
  refine congrArg₂ (fun a f => Finset.univ.fold max a f) start_bot (funext fun k => ?_)
  exact scores x0 x1 _

/-- The shift of a row: its largest score or sink. -/
theorem tops (i : S1x64x4x4x128x1.Idx) : val_main_v53 (F := Ideal) x0 x1 x2 i
    = Row.top (score x0 x1 (0 + (i 0).val * 64 + (i 1).val) (i 4).val (4 * (i 2).val + (i 3).val)) (at1 x2 (4 * (i 2).val + (i 3).val)) := by
  have h0 : (i 0).val < 1 := (i 0).isLt
  rw [val_main_v53_apply, val_main_v51_apply, val_main_v52_apply, largest, sinks]
  refine congrArg₂ max (congrArg (fun b => Finset.univ.fold max ⊥ (score x0 x1 b _ _)) ?_) rfl
  show 0 + 0 * 64 + (i 1).val = _
  omega

/-- The weights of a row. -/
theorem weights (i : S1x64x4x4x128x384.Idx) : val_main_v56 (F := Ideal) x0 x1 x2 i
    = Row.weight (score x0 x1 (0 + (i 0).val * 64 + (i 1).val) (i 4).val (4 * (i 2).val + (i 3).val)) (at1 x2 (4 * (i 2).val + (i 3).val)) (i 5) := by
  have h0 : (i 0).val < 1 := (i 0).isLt
  rw [val_main_v56_apply, val_main_v55_apply, val_main_v54_apply, scores, tops]
  refine congrArg (fun b => Ideal.exp (_ - Row.top (score x0 x1 b _ _) _)) ?_
  show 0 + 0 * 64 + (i 1).val = _
  omega

/-- The denominator of a row. -/
theorem masses (i : S1x64x4x4x128x1.Idx) : val_main_v62 (F := Ideal) x0 x1 x2 i
    = Row.mass (score x0 x1 (0 + (i 0).val * 64 + (i 1).val) (i 4).val (4 * (i 2).val + (i 3).val)) (at1 x2 (4 * (i 2).val + (i 3).val)) := by
  have h0 : (i 0).val < 1 := (i 0).isLt
  have e : 0 + ((⟨0, Nat.one_pos⟩ : Fin 1)).val * 64 + (i 1).val = 0 + (i 0).val * 64 + (i 1).val := by
    show 0 + 0 * 64 + (i 1).val = _
    omega
  rw [val_main_v62_apply, val_main_v61_apply, val_main_v60_apply, val_main_v59_apply, val_main_v58_apply, val_main_v57_apply, tops, sinks]
  refine congrArg₂ (· + ·) ?_ rfl
  refine (congrArg₂ (· + ·) Ideal.ofBits_zero_f32 (Finset.sum_congr rfl fun k _ => weights x0 x1 x2 _)).trans ?_
  rw [zero_add]
  exact congrArg (fun b => ∑ k : Fin 384, Row.weight (score x0 x1 b _ _) _ k) e

/-- The denominator of a row, by block, row and head. -/
theorem masses_at (i : S1x64x4x4x128x1.Idx) (b q h : ℕ) (hb : 0 + (i 0).val * 64 + (i 1).val = b) (hq : (i 4).val = q)
    (hh : 4 * (i 2).val + (i 3).val = h) : val_main_v62 (F := Ideal) x0 x1 x2 i = Row.mass (score x0 x1 b q h) (at1 x2 h) := by
  subst hb hq hh
  exact masses x0 x1 x2 i

/-- The weights of a row after the division. -/
theorem shares (i : S1x64x4x4x128x384.Idx) : val_main_v64 (F := Ideal) x0 x1 x2 i
    = Ideal.div (Row.weight (score x0 x1 (0 + (i 0).val * 64 + (i 1).val) (i 4).val (4 * (i 2).val + (i 3).val)) (at1 x2 (4 * (i 2).val + (i 3).val)) (i 5))
      (Row.mass (score x0 x1 (0 + (i 0).val * 64 + (i 1).val) (i 4).val (4 * (i 2).val + (i 3).val)) (at1 x2 (4 * (i 2).val + (i 3).val))) := by
  have h0 : (i 0).val < 1 := (i 0).isLt
  have hm : val_main_v63 (F := Ideal) x0 x1 x2 i = Row.mass (score x0 x1 (0 + (i 0).val * 64 + (i 1).val) (i 4).val (4 * (i 2).val + (i 3).val)) (at1 x2 (4 * (i 2).val + (i 3).val)) := by
    rw [val_main_v63_apply]
    refine masses_at x0 x1 x2 _ _ _ _ ?_ rfl rfl
    show 0 + 0 * 64 + (i 1).val = _
    omega
  rw [val_main_v64_apply, weights, hm]
  rfl

/-- One head's averaged values. -/
theorem averages (i : S1x64x4x128x4x128.Idx) : val_main_v65 (F := Ideal) x0 x1 x2 i
    = Row.early (score x0 x1 (0 + (i 0).val * 64 + (i 1).val) (i 5).val (4 * (i 2).val + (i 4).val)) (at1 x2 (4 * (i 2).val + (i 4).val))
      (fun j => if Outside (0 + (i 0).val * 64 + (i 1).val) j.val then 0
        else at2 x0 (128 * (0 + (i 0).val * 64 + (i 1).val) + j.val - 128) (2560 + (128 * (i 2).val + (i 3).val))) := by
  rw [val_main_v65_apply]
  unfold Row.early
  refine Finset.sum_congr rfl fun j _ => ?_
  have hv := values_band x0 (lidx_main_v65 i j)
  have hs := shares x0 x1 x2 (ridx_main_v65 i j)
  rw [hv, hs, mul_comm]
  rfl

/-- The flattened result, read by block, row, group, head and lane. -/
theorem flat (i : S8192x2048.Idx) (b0 : 0 < 1) (b1 : (i 0).val / 128 < 64) (b2 : (i 0).val % 128 < 128)
    (b3 : (i 1).val / 512 < 4) (b4 : (i 1).val / 128 % 4 < 4) (b5 : (i 1).val % 128 < 128) :
    val_main_v67 (F := Ideal) x0 x1 x2 i = val_main_v66 (F := Ideal) x0 x1 x2 (ix6 ⟨_, b0⟩ ⟨_, b1⟩ ⟨_, b2⟩ ⟨_, b3⟩ ⟨_, b4⟩ ⟨_, b5⟩) := by
  conv_lhs => rw [eq_ix2 i]
  pointwise [val_main_v67]

/-- The result of these sequences, divided late. -/
theorem result (h1 : ∀ b q h j, score x0 x1 b q h j ≠ ⊤) (h2 : ∀ h, at1 x2 h ≠ ⊥) (h3 : ∀ h, at1 x2 h ≠ ⊤) (i : S8192x2048.Idx) :
    val_main_v67 (F := Ideal) x0 x1 x2 i
      = attn x0 x1 x2 (0 + (i 0).val / 128) ((i 0).val % 128) ((i 1).val / 128) ((i 1).val % 128) := by
  have h0 : (i 0).val < 8192 := (i 0).isLt
  have h0' : (i 1).val < 2048 := (i 1).isLt
  rw [flat x0 x1 x2 i (by omega) (by omega) (by omega) (by omega) (by omega) (by omega), val_main_v66_apply, averages, ← Row.late_eq_early _ (fun j => h1 _ _ _ j) (h2 _) (h3 _)]
  have eb : 0 + 0 * 64 + (i 0).val / 128 = 0 + (i 0).val / 128 := by omega
  have eh : 4 * ((i 1).val / 512) + (i 1).val / 128 % 4 = (i 1).val / 128 := by omega
  have ek : 2560 + (128 * ((i 1).val / 512) + (i 1).val % 128) = 2560 + 128 * ((i 1).val / 128 / 4) + (i 1).val % 128 := by omega
  have main : ∀ (b h k b' h' k' : ℕ), b = b' → h = h' → k = k' →
      Row.late (score x0 x1 b ((i 0).val % 128) h) (at1 x2 h) (fun j => if Outside b j.val then 0 else at2 x0 (128 * b + j.val - 128) k)
        = Row.late (score x0 x1 b' ((i 0).val % 128) h') (at1 x2 h') (fun j => at2 x0 (128 * b' + j.val - 128) k') := by
    rintro b h k _ _ _ rfl rfl rfl
    refine Row.late_congr fun j => ?_
    by_cases ho : Outside b j.val
    · exact .inl (by unfold score; rw [if_pos ho])
    · exact .inr (if_neg ho)
  exact main _ _ _ _ _ _ eb eh ek
end
end Cert.ReferenceIdeal.Prompt
-- ==== Proof.Sample.lean ====
module

public import proofs.«01_k».proof.Proof.Common
public import proofs.«01_k».proof.Proof.Gen.ReferenceIdeal.Read
public import Idealize.ShloMosaic.Lib.KernelVsHost

/-! The reference's attention over the sample sequences: every stage read at an index, down to the result. -/

@[expose] public section

namespace Cert.ReferenceIdeal.Sample
open Idealize.ShloMosaic Cert.ReferenceIdeal Cert.ReferenceIdeal.Gen Cert.ReferenceIdeal.Read Idealize.ShloMosaic.Tactic Band
set_option maxRecDepth 16384
noncomputable section

variable (x0 : S24576x3072.Idx → EReal) (x1 : S16x128x384.Idx → EReal) (x2 : S16.Idx → EReal)

/-- The rows of these sequences. -/
theorem rows (i : S8x2048x3072.Idx) : val_main_v69 (F := Ideal) x0 i = at2 x0 (8192 + (i 0).val * 2048 + (i 1).val) (i 2).val := by
  have h0 : (i 0).val < 8 := (i 0).isLt
  have h1 : (i 1).val < 2048 := (i 1).isLt
  have h2 : (i 2).val < 3072 := (i 2).isLt
  rw [val_main_v69_apply, val_main_v68_apply, val_main_v0_apply]
  refine at2_eq x0 _ _ _ ?_ ?_
  · show 8192 + (((i 0).val * 2048 + (i 1).val) * 3072 + (i 2).val) / 3072 = _
    omega
  · show (((i 0).val * 2048 + (i 1).val) * 3072 + (i 2).val) % 3072 = _
    omega

/-- The queries, by block, row, head and lane. -/
theorem queries (i : S8x16x128x4x4x128.Idx) : val_main_v73 (F := Ideal) x0 i
    = at2 x0 (128 * (64 + (i 0).val * 16 + (i 1).val) + (i 2).val) (128 * (4 * (i 3).val + (i 4).val) + (i 5).val) := by
  have h0 : (i 0).val < 8 := (i 0).isLt
  have h1 : (i 1).val < 16 := (i 1).isLt
  have h2 : (i 2).val < 128 := (i 2).isLt
  have h3 : (i 3).val < 4 := (i 3).isLt
  have h4 : (i 4).val < 4 := (i 4).isLt
  have h5 : (i 5).val < 128 := (i 5).isLt
  conv_lhs => rw [eq_ix6 i]
  pointwise [val_main_v73]
  rw [val_main_v70_apply, rows]
  refine congrArg₂ (at2 x0) ?_ ?_
  · show 8192 + (i 0).val * 2048 + ((i 1).val * 128 + (i 2).val) = _
    omega
  · show (i 3).val * 512 + (i 4).val * 128 + (i 5).val = _
    omega

/-- The keys, by row, head and lane. -/
theorem keys (i : S8x2048x4x128.Idx) : val_main_v74 (F := Ideal) x0 i
    = at2 x0 (8192 + (i 0).val * 2048 + (i 1).val) (2048 + (128 * (i 2).val + (i 3).val)) := by
  have h0 : (i 0).val < 8 := (i 0).isLt
  have h1 : (i 1).val < 2048 := (i 1).isLt
  have h2 : (i 2).val < 4 := (i 2).isLt
  have h3 : (i 3).val < 128 := (i 3).isLt
  rw [val_main_v74_apply, val_main_v71_apply, rows]
  refine congrArg₂ (at2 x0) ?_ ?_
  · show 8192 + (((((i 0).val * 2048 + (i 1).val) * 4 + (i 2).val) * 128 + (i 3).val) / 1048576) * 2048 + ((((i 0).val * 2048 + (i 1).val) * 4 + (i 2).val) * 128 + (i 3).val) / 512 % 2048 = _
    omega
  · show 2048 + ((((i 0).val * 2048 + (i 1).val) * 4 + (i 2).val) * 128 + (i 3).val) % 512 = _
    omega

/-- The keys with a block of zeros on either side of a sequence. -/
theorem keys_padded (i : S8x2304x4x128.Idx) : val_main_v75 (F := Ideal) x0 i
    = if 128 ≤ (i 1).val ∧ (i 1).val < 2176 then at2 x0 (8192 + (i 0).val * 2048 + ((i 1).val - 128)) (2048 + (128 * (i 2).val + (i 3).val)) else 0 := by
  unfold val_main_v75
  split_ifs with h
  · refine (pad_apply_of_inside _ _ _ _ _ _ _ _ (ix4 (i 0) ⟨(i 1).val - 128, by omega⟩ (i 2) (i 3) : S8x2048x4x128.Idx) fun a => ?_).trans ?_
    · match a with
      | ⟨0, _⟩ => show (i 0).val = 0 + (i 0).val * (0 + 1); omega
      | ⟨1, _⟩ => show (i 1).val = 128 + ((i 1).val - 128) * (0 + 1); omega
      | ⟨2, _⟩ => show (i 2).val = 0 + (i 2).val * (0 + 1); omega
      | ⟨3, _⟩ => show (i 3).val = 0 + (i 3).val * (0 + 1); omega
    · exact keys x0 _
  · refine (pad_apply_of_not_inside _ _ _ _ _ _ _ _ (1 : Fin 4) ?_).trans zero_word
    show ¬(128 ≤ (i 1).val ∧ ((i 1).val - 128) % (0 + 1) = 0 ∧ ((i 1).val - 128) / (0 + 1) < 2048)
    omega

/-- The padded keys by block. -/
theorem keys_blocks (i : S8x18x128x4x128.Idx) : val_main_v76 (F := Ideal) x0 i
    = if 128 ≤ 128 * (i 1).val + (i 2).val ∧ 128 * (i 1).val + (i 2).val < 2176 then
        at2 x0 (8192 + (i 0).val * 2048 + (128 * (i 1).val + (i 2).val - 128)) (2048 + (128 * (i 3).val + (i 4).val)) else 0 := by
  have h0 : (i 0).val < 8 := (i 0).isLt
  have h1 : (i 1).val < 18 := (i 1).isLt
  have h2 : (i 2).val < 128 := (i 2).isLt
  have h3 : (i 3).val < 4 := (i 3).isLt
  have h4 : (i 4).val < 128 := (i 4).isLt
  rw [val_main_v76_apply, keys_padded]
  have e0 : (idx_main_v76 i 0).val = (i 0).val := by
    show (((((i 0).val * 18 + (i 1).val) * 128 + (i 2).val) * 4 + (i 3).val) * 128 + (i 4).val) / 1179648 = _
    omega
  have e1 : (idx_main_v76 i 1).val = 128 * (i 1).val + (i 2).val := by
    show (((((i 0).val * 18 + (i 1).val) * 128 + (i 2).val) * 4 + (i 3).val) * 128 + (i 4).val) / 512 % 2304 = _
    omega
  have e2 : (idx_main_v76 i 2).val = (i 3).val := by
    show (((((i 0).val * 18 + (i 1).val) * 128 + (i 2).val) * 4 + (i 3).val) * 128 + (i 4).val) / 128 % 4 = _
    omega
  have e3 : (idx_main_v76 i 3).val = (i 4).val := by
    show (((((i 0).val * 18 + (i 1).val) * 128 + (i 2).val) * 4 + (i 3).val) * 128 + (i 4).val) % 128 = _
    omega
  rw [e0, e1, e2, e3]

/-- The band of keys around a block. -/
theorem keys_band (i : S8x16x384x4x128.Idx) : val_main_v80 (F := Ideal) x0 i
    = if Outside (64 + (i 0).val * 16 + (i 1).val) (i 2).val then 0
      else at2 x0 (128 * (64 + (i 0).val * 16 + (i 1).val) + (i 2).val - 128) (2048 + (128 * (i 3).val + (i 4).val)) := by
  have h0 : (i 0).val < 8 := (i 0).isLt
  have h1 : (i 1).val < 16 := (i 1).isLt
  have h2 : (i 2).val < 384 := (i 2).isLt
  have key : val_main_v80 (F := Ideal) x0 i = if 128 ≤ 128 * (i 1).val + (i 2).val ∧ 128 * (i 1).val + (i 2).val < 2176 then
      at2 x0 (8192 + (i 0).val * 2048 + (128 * (i 1).val + (i 2).val - 128)) (2048 + (128 * (i 3).val + (i 4).val)) else 0 := by
    conv_lhs => rw [eq_ix5 i]
    pointwise [val_main_v80]
    by_cases c1 : (i 2).val < 128
    · rw [dif_pos c1, val_main_v77_apply, keys_blocks]
      refine if_congr ?_ (congrArg₂ (at2 x0) ?_ rfl) rfl
      · show 128 ≤ 128 * (i 1).val + (i 2).val ∧ 128 * (i 1).val + (i 2).val < 2176 ↔ _
        omega
      · show 8192 + (i 0).val * 2048 + (128 * (i 1).val + (i 2).val - 128) = _
        omega
    by_cases c2 : (i 2).val - 128 < 128
    · rw [dif_neg c1, dif_pos c2, val_main_v78_apply, keys_blocks]
      refine if_congr ?_ (congrArg₂ (at2 x0) ?_ rfl) rfl
      · show 128 ≤ 128 * (1 + (i 1).val) + ((i 2).val - 128) ∧ 128 * (1 + (i 1).val) + ((i 2).val - 128) < 2176 ↔ _
        omega
      · show 8192 + (i 0).val * 2048 + (128 * (1 + (i 1).val) + ((i 2).val - 128) - 128) = _
        omega
    · rw [dif_neg c1, dif_neg c2, val_main_v79_apply, keys_blocks]
      refine if_congr ?_ (congrArg₂ (at2 x0) ?_ rfl) rfl
      · show 128 ≤ 128 * (2 + (i 1).val) + ((i 2).val - 128 - 128) ∧ 128 * (2 + (i 1).val) + ((i 2).val - 128 - 128) < 2176 ↔ _
        omega
      · show 8192 + (i 0).val * 2048 + (128 * (2 + (i 1).val) + ((i 2).val - 128 - 128) - 128) = _
        omega
  rw [key]
  by_cases ho : Outside (64 + (i 0).val * 16 + (i 1).val) (i 2).val
  · rw [if_pos ho, if_neg (by unfold Outside at ho; omega)]
  · rw [if_neg ho, if_pos (by unfold Outside at ho; omega)]
    exact congrArg (at2 x0 · _) (by unfold Outside at ho; omega)

/-- The values, by row, head and lane. -/
theorem values (i : S8x2048x4x128.Idx) : val_main_v81 (F := Ideal) x0 i
    = at2 x0 (8192 + (i 0).val * 2048 + (i 1).val) (2560 + (128 * (i 2).val + (i 3).val)) := by
  have h0 : (i 0).val < 8 := (i 0).isLt
  have h1 : (i 1).val < 2048 := (i 1).isLt
  have h2 : (i 2).val < 4 := (i 2).isLt
  have h3 : (i 3).val < 128 := (i 3).isLt
  rw [val_main_v81_apply, val_main_v72_apply, rows]
  refine congrArg₂ (at2 x0) ?_ ?_
  · show 8192 + (((((i 0).val * 2048 + (i 1).val) * 4 + (i 2).val) * 128 + (i 3).val) / 1048576) * 2048 + ((((i 0).val * 2048 + (i 1).val) * 4 + (i 2).val) * 128 + (i 3).val) / 512 % 2048 = _
    omega
  · show 2560 + ((((i 0).val * 2048 + (i 1).val) * 4 + (i 2).val) * 128 + (i 3).val) % 512 = _
    omega

/-- The values with a block of zeros on either side of a sequence. -/
theorem values_padded (i : S8x2304x4x128.Idx) : val_main_v82 (F := Ideal) x0 i
    = if 128 ≤ (i 1).val ∧ (i 1).val < 2176 then at2 x0 (8192 + (i 0).val * 2048 + ((i 1).val - 128)) (2560 + (128 * (i 2).val + (i 3).val)) else 0 := by
  unfold val_main_v82
  split_ifs with h
  · refine (pad_apply_of_inside _ _ _ _ _ _ _ _ (ix4 (i 0) ⟨(i 1).val - 128, by omega⟩ (i 2) (i 3) : S8x2048x4x128.Idx) fun a => ?_).trans ?_
    · match a with
      | ⟨0, _⟩ => show (i 0).val = 0 + (i 0).val * (0 + 1); omega
      | ⟨1, _⟩ => show (i 1).val = 128 + ((i 1).val - 128) * (0 + 1); omega
      | ⟨2, _⟩ => show (i 2).val = 0 + (i 2).val * (0 + 1); omega
      | ⟨3, _⟩ => show (i 3).val = 0 + (i 3).val * (0 + 1); omega
    · exact values x0 _
  · refine (pad_apply_of_not_inside _ _ _ _ _ _ _ _ (1 : Fin 4) ?_).trans zero_word
    show ¬(128 ≤ (i 1).val ∧ ((i 1).val - 128) % (0 + 1) = 0 ∧ ((i 1).val - 128) / (0 + 1) < 2048)
    omega

/-- The padded values by block. -/
theorem values_blocks (i : S8x18x128x4x128.Idx) : val_main_v83 (F := Ideal) x0 i
    = if 128 ≤ 128 * (i 1).val + (i 2).val ∧ 128 * (i 1).val + (i 2).val < 2176 then
        at2 x0 (8192 + (i 0).val * 2048 + (128 * (i 1).val + (i 2).val - 128)) (2560 + (128 * (i 3).val + (i 4).val)) else 0 := by
  have h0 : (i 0).val < 8 := (i 0).isLt
  have h1 : (i 1).val < 18 := (i 1).isLt
  have h2 : (i 2).val < 128 := (i 2).isLt
  have h3 : (i 3).val < 4 := (i 3).isLt
  have h4 : (i 4).val < 128 := (i 4).isLt
  rw [val_main_v83_apply, values_padded]
  have e0 : (idx_main_v83 i 0).val = (i 0).val := by
    show (((((i 0).val * 18 + (i 1).val) * 128 + (i 2).val) * 4 + (i 3).val) * 128 + (i 4).val) / 1179648 = _
    omega
  have e1 : (idx_main_v83 i 1).val = 128 * (i 1).val + (i 2).val := by
    show (((((i 0).val * 18 + (i 1).val) * 128 + (i 2).val) * 4 + (i 3).val) * 128 + (i 4).val) / 512 % 2304 = _
    omega
  have e2 : (idx_main_v83 i 2).val = (i 3).val := by
    show (((((i 0).val * 18 + (i 1).val) * 128 + (i 2).val) * 4 + (i 3).val) * 128 + (i 4).val) / 128 % 4 = _
    omega
  have e3 : (idx_main_v83 i 3).val = (i 4).val := by
    show (((((i 0).val * 18 + (i 1).val) * 128 + (i 2).val) * 4 + (i 3).val) * 128 + (i 4).val) % 128 = _
    omega
  rw [e0, e1, e2, e3]

/-- The band of values around a block. -/
theorem values_band (i : S8x16x384x4x128.Idx) : val_main_v87 (F := Ideal) x0 i
    = if Outside (64 + (i 0).val * 16 + (i 1).val) (i 2).val then 0
      else at2 x0 (128 * (64 + (i 0).val * 16 + (i 1).val) + (i 2).val - 128) (2560 + (128 * (i 3).val + (i 4).val)) := by
  have h0 : (i 0).val < 8 := (i 0).isLt
  have h1 : (i 1).val < 16 := (i 1).isLt
  have h2 : (i 2).val < 384 := (i 2).isLt
  have key : val_main_v87 (F := Ideal) x0 i = if 128 ≤ 128 * (i 1).val + (i 2).val ∧ 128 * (i 1).val + (i 2).val < 2176 then
      at2 x0 (8192 + (i 0).val * 2048 + (128 * (i 1).val + (i 2).val - 128)) (2560 + (128 * (i 3).val + (i 4).val)) else 0 := by
    conv_lhs => rw [eq_ix5 i]
    pointwise [val_main_v87]
    by_cases c1 : (i 2).val < 128
    · rw [dif_pos c1, val_main_v84_apply, values_blocks]
      refine if_congr ?_ (congrArg₂ (at2 x0) ?_ rfl) rfl
      · show 128 ≤ 128 * (i 1).val + (i 2).val ∧ 128 * (i 1).val + (i 2).val < 2176 ↔ _
        omega
      · show 8192 + (i 0).val * 2048 + (128 * (i 1).val + (i 2).val - 128) = _
        omega
    by_cases c2 : (i 2).val - 128 < 128
    · rw [dif_neg c1, dif_pos c2, val_main_v85_apply, values_blocks]
      refine if_congr ?_ (congrArg₂ (at2 x0) ?_ rfl) rfl
      · show 128 ≤ 128 * (1 + (i 1).val) + ((i 2).val - 128) ∧ 128 * (1 + (i 1).val) + ((i 2).val - 128) < 2176 ↔ _
        omega
      · show 8192 + (i 0).val * 2048 + (128 * (1 + (i 1).val) + ((i 2).val - 128) - 128) = _
        omega
    · rw [dif_neg c1, dif_neg c2, val_main_v86_apply, values_blocks]
      refine if_congr ?_ (congrArg₂ (at2 x0) ?_ rfl) rfl
      · show 128 ≤ 128 * (2 + (i 1).val) + ((i 2).val - 128 - 128) ∧ 128 * (2 + (i 1).val) + ((i 2).val - 128 - 128) < 2176 ↔ _
        omega
      · show 8192 + (i 0).val * 2048 + (128 * (2 + (i 1).val) + ((i 2).val - 128 - 128) - 128) = _
        omega
  rw [key]
  by_cases ho : Outside (64 + (i 0).val * 16 + (i 1).val) (i 2).val
  · rw [if_pos ho, if_neg (by unfold Outside at ho; omega)]
  · rw [if_neg ho, if_pos (by unfold Outside at ho; omega)]
    exact congrArg (at2 x0 · _) (by unfold Outside at ho; omega)

/-- The reference's mask is zero exactly at the keys outside the block's sequence. -/
theorem mask (i : S8x16x4x4x128x384.Idx) : val_main_call5_v1 (F := Ideal) i
    = if Outside (64 + (i 0).val * 16 + (i 1).val) (i 5).val then 0#1 else 1#1 := by
  have h0 : (i 0).val < 8 := (i 0).isLt
  have h1 : (i 1).val < 16 := (i 1).isLt
  have hw : ∀ (n : Fin 16) (j : Fin 384),
      IntOp.andi (IntOp.cmpi .sge (IntOp.addi (IntOp.muli (BitVec.ofNat 32 n.val) 128#32) (IntOp.subi (BitVec.ofNat 32 j.val) 128#32)) 0#32)
        (IntOp.cmpi .slt (IntOp.addi (IntOp.muli (BitVec.ofNat 32 n.val) 128#32) (IntOp.subi (BitVec.ofNat 32 j.val) 128#32)) 2048#32)
      = if (n.val = 0 ∧ j.val < 128) ∨ (n.val = 15 ∧ 256 ≤ j.val) then 0#1 else 1#1 := by decide +kernel
  rw [val_main_call5_v1_apply, val_main_v111_apply, val_main_v110_apply, val_main_v109_apply, val_main_v106_apply, val_main_v108_apply, val_main_v104_apply, val_main_v105_apply, val_main_v107_apply, val_main_v102_apply, val_main_v103_apply, val_main_v101_apply, val_main_v96_apply, val_main_v99_apply, val_main_v100_apply, val_main_v94_apply, val_main_v95_apply, val_main_v98_apply, val_main_v93_apply]
  refine (hw (i 1) (i 5)).trans (if_congr ?_ rfl rfl)
  unfold Outside
  omega

/-- The masked scores. -/
theorem scores (i : S8x16x4x4x128x384.Idx) : val_main_v115 (F := Ideal) x0 x1 i
    = score x0 x1 (64 + (i 0).val * 16 + (i 1).val) (i 4).val (4 * (i 2).val + (i 3).val) (i 5) := by
  have h2 : (i 2).val < 4 := (i 2).isLt
  have h3 : (i 3).val < 4 := (i 3).isLt
  have h4 : (i 4).val < 128 := (i 4).isLt
  have h5 : (i 5).val < 384 := (i 5).isLt
  rw [val_main_v115_apply, mask, select_not]
  unfold score
  by_cases ho : Outside (64 + (i 0).val * 16 + (i 1).val) (i 5).val
  · rw [if_pos ho, if_pos ho, val_main_call5_v2_apply]
    exact start_bot
  · rw [if_neg ho, if_neg ho, val_main_v114_apply, val_main_v113_apply, val_main_v112_apply, val_main_v97_apply, val_main_v92_apply, val_main_v91_apply, val_main_v90_apply, val_main_v89_apply, val_main_v88_apply]
    refine congrArg₂ (· + ·) ((div_sqrt _).trans (congrArg (· * isd) (Finset.sum_congr rfl fun d _ => ?_))) ?_
    · rw [queries, keys_band, mul_comm]
      refine congrArg₂ (· * ·) rfl ?_
      rw [if_neg ho]
      exact congrArg (at2 x0 _) (by show 2048 + (128 * (i 2).val + d.val) = 2048 + 128 * ((4 * (i 2).val + (i 3).val) / 4) + d.val; omega)
    · refine at3_eq x1 _ _ _ _ ?_ ?_ ?_
      · show (((( i 2).val * 4 + (i 3).val) * 128 + (i 4).val) * 384 + (i 5).val) / 49152 = _
        omega
      · show (((( i 2).val * 4 + (i 3).val) * 128 + (i 4).val) * 384 + (i 5).val) / 384 % 128 = _
        omega
      · show (((( i 2).val * 4 + (i 3).val) * 128 + (i 4).val) * 384 + (i 5).val) % 384 = _
        omega

/-- The sinks by head. -/
theorem sinks (i : S1x1x4x4x1x1.Idx) : val_main_v116 (F := Ideal) x2 i = at1 x2 (4 * (i 2).val + (i 3).val) := by
  conv_lhs => rw [eq_ix6 i]
  pointwise [val_main_v116]
  exact at1_eq x2 _ _ (by show (i 2).val * 4 + (i 3).val = _; omega)

/-- The largest score of a row. -/
theorem largest (i : S8x16x4x4x128.Idx) : val_main_v117 (F := Ideal) x0 x1 i
    = Finset.univ.fold max ⊥ (score x0 x1 (64 + (i 0).val * 16 + (i 1).val) (i 4).val (4 * (i 2).val + (i 3).val)) := by
  unfold val_main_v117
  rw [Host.reduce_eq_fold_single _ _ _ _ (by decide) _]
  refine congrArg₂ (fun a f => Finset.univ.fold max a f) start_bot (funext fun k => ?_)
  exact scores x0 x1 _

/-- The shift of a row: its largest score or sink. -/
theorem tops (i : S8x16x4x4x128x1.Idx) : val_main_v120 (F := Ideal) x0 x1 x2 i
    = Row.top (score x0 x1 (64 + (i 0).val * 16 + (i 1).val) (i 4).val (4 * (i 2).val + (i 3).val)) (at1 x2 (4 * (i 2).val + (i 3).val)) := by
  have h0 : (i 0).val < 8 := (i 0).isLt
  rw [val_main_v120_apply, val_main_v118_apply, val_main_v119_apply, largest, sinks]
  refine congrArg₂ max (congrArg (fun b => Finset.univ.fold max ⊥ (score x0 x1 b _ _)) ?_) rfl
  show 64 + (i 0).val * 16 + (i 1).val = _
  omega

/-- The weights of a row. -/
theorem weights (i : S8x16x4x4x128x384.Idx) : val_main_v123 (F := Ideal) x0 x1 x2 i
    = Row.weight (score x0 x1 (64 + (i 0).val * 16 + (i 1).val) (i 4).val (4 * (i 2).val + (i 3).val)) (at1 x2 (4 * (i 2).val + (i 3).val)) (i 5) := by
  have h0 : (i 0).val < 8 := (i 0).isLt
  rw [val_main_v123_apply, val_main_v122_apply, val_main_v121_apply, scores, tops]
  refine congrArg (fun b => Ideal.exp (_ - Row.top (score x0 x1 b _ _) _)) ?_
  show 64 + (i 0).val * 16 + (i 1).val = _
  omega

/-- The denominator of a row. -/
theorem masses (i : S8x16x4x4x128x1.Idx) : val_main_v129 (F := Ideal) x0 x1 x2 i
    = Row.mass (score x0 x1 (64 + (i 0).val * 16 + (i 1).val) (i 4).val (4 * (i 2).val + (i 3).val)) (at1 x2 (4 * (i 2).val + (i 3).val)) := by
  have h0 : (i 0).val < 8 := (i 0).isLt
  have e : 64 + ((i 0 : Fin 8)).val * 16 + (i 1).val = 64 + (i 0).val * 16 + (i 1).val := by
    show 64 + (i 0).val * 16 + (i 1).val = _
    omega
  rw [val_main_v129_apply, val_main_v128_apply, val_main_v127_apply, val_main_v126_apply, val_main_v125_apply, val_main_v124_apply, tops, sinks]
  refine congrArg₂ (· + ·) ?_ rfl
  refine (congrArg₂ (· + ·) Ideal.ofBits_zero_f32 (Finset.sum_congr rfl fun k _ => weights x0 x1 x2 _)).trans ?_
  rw [zero_add]
  exact congrArg (fun b => ∑ k : Fin 384, Row.weight (score x0 x1 b _ _) _ k) e

/-- The denominator of a row, by block, row and head. -/
theorem masses_at (i : S8x16x4x4x128x1.Idx) (b q h : ℕ) (hb : 64 + (i 0).val * 16 + (i 1).val = b) (hq : (i 4).val = q)
    (hh : 4 * (i 2).val + (i 3).val = h) : val_main_v129 (F := Ideal) x0 x1 x2 i = Row.mass (score x0 x1 b q h) (at1 x2 h) := by
  subst hb hq hh
  exact masses x0 x1 x2 i

/-- The weights of a row after the division. -/
theorem shares (i : S8x16x4x4x128x384.Idx) : val_main_v131 (F := Ideal) x0 x1 x2 i
    = Ideal.div (Row.weight (score x0 x1 (64 + (i 0).val * 16 + (i 1).val) (i 4).val (4 * (i 2).val + (i 3).val)) (at1 x2 (4 * (i 2).val + (i 3).val)) (i 5))
      (Row.mass (score x0 x1 (64 + (i 0).val * 16 + (i 1).val) (i 4).val (4 * (i 2).val + (i 3).val)) (at1 x2 (4 * (i 2).val + (i 3).val))) := by
  have h0 : (i 0).val < 8 := (i 0).isLt
  have hm : val_main_v130 (F := Ideal) x0 x1 x2 i = Row.mass (score x0 x1 (64 + (i 0).val * 16 + (i 1).val) (i 4).val (4 * (i 2).val + (i 3).val)) (at1 x2 (4 * (i 2).val + (i 3).val)) := by
    rw [val_main_v130_apply]
    refine masses_at x0 x1 x2 _ _ _ _ ?_ rfl rfl
    show 64 + (i 0).val * 16 + (i 1).val = _
    omega
  rw [val_main_v131_apply, weights, hm]
  rfl

/-- One head's averaged values. -/
theorem averages (i : S8x16x4x128x4x128.Idx) : val_main_v132 (F := Ideal) x0 x1 x2 i
    = Row.early (score x0 x1 (64 + (i 0).val * 16 + (i 1).val) (i 5).val (4 * (i 2).val + (i 4).val)) (at1 x2 (4 * (i 2).val + (i 4).val))
      (fun j => if Outside (64 + (i 0).val * 16 + (i 1).val) j.val then 0
        else at2 x0 (128 * (64 + (i 0).val * 16 + (i 1).val) + j.val - 128) (2560 + (128 * (i 2).val + (i 3).val))) := by
  rw [val_main_v132_apply]
  unfold Row.early
  refine Finset.sum_congr rfl fun j _ => ?_
  have hv := values_band x0 (lidx_main_v132 i j)
  have hs := shares x0 x1 x2 (ridx_main_v132 i j)
  rw [hv, hs, mul_comm]
  rfl

/-- The flattened result, read by block, row, group, head and lane. -/
theorem flat (i : S16384x2048.Idx) (b0 : (i 0).val / 2048 < 8) (b1 : (i 0).val / 128 % 16 < 16) (b2 : (i 0).val % 128 < 128)
    (b3 : (i 1).val / 512 < 4) (b4 : (i 1).val / 128 % 4 < 4) (b5 : (i 1).val % 128 < 128) :
    val_main_v134 (F := Ideal) x0 x1 x2 i = val_main_v133 (F := Ideal) x0 x1 x2 (ix6 ⟨_, b0⟩ ⟨_, b1⟩ ⟨_, b2⟩ ⟨_, b3⟩ ⟨_, b4⟩ ⟨_, b5⟩) := by
  conv_lhs => rw [eq_ix2 i]
  pointwise [val_main_v134]

/-- The result of these sequences, divided late. -/
theorem result (h1 : ∀ b q h j, score x0 x1 b q h j ≠ ⊤) (h2 : ∀ h, at1 x2 h ≠ ⊥) (h3 : ∀ h, at1 x2 h ≠ ⊤) (i : S16384x2048.Idx) :
    val_main_v134 (F := Ideal) x0 x1 x2 i
      = attn x0 x1 x2 (64 + (i 0).val / 128) ((i 0).val % 128) ((i 1).val / 128) ((i 1).val % 128) := by
  have h0 : (i 0).val < 16384 := (i 0).isLt
  have h0' : (i 1).val < 2048 := (i 1).isLt
  rw [flat x0 x1 x2 i (by omega) (by omega) (by omega) (by omega) (by omega) (by omega), val_main_v133_apply, averages, ← Row.late_eq_early _ (fun j => h1 _ _ _ j) (h2 _) (h3 _)]
  have eb : 64 + ((i 0).val / 2048) * 16 + (i 0).val / 128 % 16 = 64 + (i 0).val / 128 := by omega
  have eh : 4 * ((i 1).val / 512) + (i 1).val / 128 % 4 = (i 1).val / 128 := by omega
  have ek : 2560 + (128 * ((i 1).val / 512) + (i 1).val % 128) = 2560 + 128 * ((i 1).val / 128 / 4) + (i 1).val % 128 := by omega
  have main : ∀ (b h k b' h' k' : ℕ), b = b' → h = h' → k = k' →
      Row.late (score x0 x1 b ((i 0).val % 128) h) (at1 x2 h) (fun j => if Outside b j.val then 0 else at2 x0 (128 * b + j.val - 128) k)
        = Row.late (score x0 x1 b' ((i 0).val % 128) h') (at1 x2 h') (fun j => at2 x0 (128 * b' + j.val - 128) k') := by
    rintro b h k _ _ _ rfl rfl rfl
    refine Row.late_congr fun j => ?_
    by_cases ho : Outside b j.val
    · exact .inl (by unfold score; rw [if_pos ho])
    · exact .inr (if_neg ho)
  exact main _ _ _ _ _ _ eb eh ek
end
end Cert.ReferenceIdeal.Sample
-- ==== Proof.Result.lean ====
module

public import proofs.«01_k».proof.Proof.Prompt
public import proofs.«01_k».proof.Proof.Sample

/-! The reference's whole result: the prompt's rows above the samples'. -/

@[expose] public section

namespace Cert.ReferenceIdeal.Attn
open Idealize.ShloMosaic Cert.ReferenceIdeal Cert.ReferenceIdeal.Gen Cert.ReferenceIdeal.Read Idealize.ShloMosaic.Tactic Band
set_option maxRecDepth 16384
noncomputable section

variable (x0 : S24576x3072.Idx → EReal) (x1 : S16x128x384.Idx → EReal) (x2 : S16.Idx → EReal)

/-- The result above row 8192 is the prompt's. -/
theorem above (i : S24576x2048.Idx) (h : (i 0).val < 8192) :
    val_main_v136 (F := Ideal) x0 x1 x2 i = val_main_v67 (F := Ideal) x0 x1 x2 (ix2 ⟨(i 0).val, h⟩ (i 1)) := by
  conv_lhs => rw [eq_ix2 i]
  pointwise [val_main_v136, val_main_v135]
  exact dif_pos h

/-- The result from row 8192 on is the samples'. -/
theorem below (i : S24576x2048.Idx) (h : ¬(i 0).val < 8192) (h' : (i 0).val - 8192 < 16384) :
    val_main_v136 (F := Ideal) x0 x1 x2 i = val_main_v134 (F := Ideal) x0 x1 x2 (ix2 ⟨(i 0).val - 8192, h'⟩ (i 1)) := by
  conv_lhs => rw [eq_ix2 i]
  pointwise [val_main_v136, val_main_v135]
  exact dif_neg h

/-- The reference computes attention of every block of rows. -/
theorem result (h1 : ∀ b q h j, score x0 x1 b q h j ≠ ⊤) (h2 : ∀ h, at1 x2 h ≠ ⊥) (h3 : ∀ h, at1 x2 h ≠ ⊤) :
    val_main_v136 (F := Ideal) x0 x1 x2
      = fun i => attn x0 x1 x2 ((i 0).val / 128) ((i 0).val % 128) ((i 1).val / 128) ((i 1).val % 128) := by
  funext i
  have h0 : (i 0).val < 24576 := (i 0).isLt
  by_cases h : (i 0).val < 8192
  · rw [above x0 x1 x2 i h, Prompt.result x0 x1 x2 h1 h2 h3]
    show attn x0 x1 x2 (0 + (i 0).val / 128) _ _ _ = _
    rw [Nat.zero_add]
    rfl
  · rw [below x0 x1 x2 i h (by omega), Sample.result x0 x1 x2 h1 h2 h3]
    have e1 : 64 + ((i 0).val - 8192) / 128 = (i 0).val / 128 := by omega
    have e2 : ((i 0).val - 8192) % 128 = (i 0).val % 128 := by omega
    show attn x0 x1 x2 (64 + ((i 0).val - 8192) / 128) (((i 0).val - 8192) % 128) _ _ = _
    rw [e1, e2]
    rfl
end
end Cert.ReferenceIdeal.Attn
-- ==== Proof.Finite.lean ====
module

public import proofs.«01_k».proof.Pre_finite_inputs
public import proofs.«01_k».proof.Proof.Common
public import Idealize.ShloMosaic.Lib.KernelVsHost

/-! What finite inputs give: no score is plus infinity, and no sink logit is infinite. -/

@[expose] public section

namespace Finite
open Idealize.ShloMosaic Idealize.ShloMosaic.Tactic Band
noncomputable section

/-- The precondition's side conditions. -/
theorem facts : Cert.Pre_finite_inputs.Facts :=
  ⟨by decide, ⟨fun i => i.elim0, fun i => i.elim0⟩, ⟨fun i => i.elim0, fun i => i.elim0⟩, ⟨fun i => i.elim0, fun i => i.elim0⟩⟩

/-- The word of plus infinity. -/
theorem inf_word : Ideal.ofBits .f32 0x7F800000#32 = ⊤ := by simp [Ideal.ofBits, Ideal.ieee]

/-- A comparison that answers one holds. -/
theorem lt_of_one {a b : EReal} (h : BitVec.ofBool (decide (a < b)) = 1#1) : a < b := by
  by_contra hn
  rw [decide_eq_false hn] at h
  exact absurd h (by decide)

/-- A number of finite size is not infinite. -/
theorem finite_of_abs {a : EReal} (h : max a (-a) < ⊤) : a ≠ ⊥ ∧ a ≠ ⊤ := by
  constructor <;> rintro rfl <;> simp at h

variable (x0 : (⟨2, ![24576, 3072]⟩ : Shape).Idx → EReal) (x1 : (⟨3, ![16, 128, 384]⟩ : Shape).Idx → EReal) (x2 : (⟨1, ![16]⟩ : Shape).Idx → EReal)

/-- The precondition, element by element. -/
theorem elements [Cert.Pre_finite_inputs.Facts]
    (h0 : (Cert.Pre_finite_inputs.fn (F := Ideal) x0 x1 x2).1 = fun _ => 1#1)
    (h1 : (Cert.Pre_finite_inputs.fn (F := Ideal) x0 x1 x2).2.1 = fun _ => 1#1)
    (h2 : (Cert.Pre_finite_inputs.fn (F := Ideal) x0 x1 x2).2.2 = fun _ => 1#1) :
    (∀ i, x0 i ≠ ⊥ ∧ x0 i ≠ ⊤) ∧ (∀ i, x1 i ≠ ⊤) ∧ (∀ i, x2 i ≠ ⊥ ∧ x2 i ≠ ⊤) := by
  refine ⟨fun i => ?_, fun i => ?_, fun i => ?_⟩
  · have e : BitVec.ofBool (decide (max (x0 i) (-(x0 i)) < Ideal.ofBits .f32 0x7F800000#32)) = 1#1 := congrFun h0 i
    rw [inf_word] at e
    exact finite_of_abs (lt_of_one e)
  · have e : BitVec.ofBool (decide (x1 i < Ideal.ofBits .f32 0x7F800000#32)) = 1#1 := congrFun h1 i
    rw [inf_word] at e
    exact (lt_of_one e).ne
  · have e : BitVec.ofBool (decide (max (x2 i) (-(x2 i)) < Ideal.ofBits .f32 0x7F800000#32)) = 1#1 := congrFun h2 i
    rw [inf_word] at e
    exact finite_of_abs (lt_of_one e)

/-- An array of finite entries reads as real numbers. -/
theorem at2_real (h : ∀ i, x0 i ≠ ⊥ ∧ x0 i ≠ ⊤) (i j : ℕ) : ∃ r : ℝ, at2 x0 i j = r := by
  unfold at2
  split_ifs
  · exact ⟨_, (EReal.coe_toReal (h _).2 (h _).1).symm⟩
  · exact ⟨0, rfl⟩

/-- A sum of real products is real. -/
theorem sum_real {n : ℕ} (f g : Fin n → EReal) (hf : ∀ i, ∃ r : ℝ, f i = r) (hg : ∀ i, ∃ r : ℝ, g i = r) :
    ∃ r : ℝ, ∑ i, f i * g i = r := by
  refine Finset.sum_induction _ (fun x : EReal => ∃ r : ℝ, x = r) ?_ ⟨0, rfl⟩ fun i _ => ?_
  · rintro _ _ ⟨a, rfl⟩ ⟨b, rfl⟩
    exact ⟨a + b, (EReal.coe_add a b).symm⟩
  · obtain ⟨a, ha⟩ := hf i
    obtain ⟨b, hb⟩ := hg i
    exact ⟨a * b, by rw [ha, hb, EReal.coe_mul]⟩

/-- No score is plus infinity. -/
theorem score_ne_top (h0 : ∀ i, x0 i ≠ ⊥ ∧ x0 i ≠ ⊤) (h1 : ∀ i, x1 i ≠ ⊤) (b q h : ℕ) (j : Fin 384) : score x0 x1 b q h j ≠ ⊤ := by
  unfold score
  split_ifs
  · exact bot_ne_top
  · obtain ⟨r, hr⟩ := sum_real (fun d : Fin 128 => at2 x0 (128 * b + q) (128 * h + d)) (fun d => at2 x0 (128 * b + j - 128) (2048 + 128 * (h / 4) + d))
      (fun _ => at2_real x0 h0 _ _) (fun _ => at2_real x0 h0 _ _)
    rw [hr]
    unfold isd
    rw [← EReal.coe_mul]
    refine EReal.add_ne_top (EReal.coe_ne_top _) ?_
    unfold at3
    split_ifs
    · exact h1 _
    · exact EReal.zero_ne_top

/-- A finite vector reads as finite numbers. -/
theorem at1_finite (h2 : ∀ i, x2 i ≠ ⊥ ∧ x2 i ≠ ⊤) (h : ℕ) : at1 x2 h ≠ ⊥ ∧ at1 x2 h ≠ ⊤ := by
  unfold at1
  split_ifs
  · exact h2 _
  · exact ⟨EReal.zero_ne_bot, EReal.zero_ne_top⟩
end
end Finite
-- ==== Proof.Ffn.lean ====
module

public import Idealize.ShloMosaic.Lib.Pointwise
public import proofs.«01_k».proof.Proof.Band

/-! The feed-forward layer of one row over the extended reals, at once and in eleven tiles of 512 columns. -/

@[expose] public section

namespace Ffn
open Idealize Idealize.ShloMosaic Band
noncomputable section

/-- One half, as the programs write it. -/
def half : EReal := Ideal.ofBits .f32 0x3F000000#32

theorem half_eq : half = ((1 / 2 : ℝ) : EReal) := by
  unfold half
  simp [Ideal.ofBits, Ideal.ieee]
  rw [← EReal.coe_mul]
  norm_num

/-- One, as the programs write it. -/
theorem one_word : Ideal.ofBits .f32 0x3F800000#32 = 1 := by
  simp [Ideal.ofBits, Ideal.ieee]
  rw [← EReal.coe_mul]
  norm_num

/-- A row over the root of its mean square, times a gain. -/
def norm (x g : Fin 2048 → EReal) (c : Fin 2048) : EReal :=
  x c * Ideal.rsqrt (Ideal.div (∑ k, x k * x k) (Ideal.ofBits .f32 0x45000000#32) + Ideal.ofBits .f32 0x358637BD#32) * g c

/-- The gate's function. -/
def silu (a : EReal) : EReal := a * Ideal.logistic a

/-- What 512 hidden columns add to a result. -/
def tile (h : Fin 2048 → EReal) (wg wu : Fin 2048 → Fin 512 → EReal) (wo : Fin 512 → EReal) : EReal :=
  ∑ f, silu (∑ k, h k * wg k f) * (half * ∑ k, h k * wu k f) * wo f

/-- What the columns `512 j`, …, `512 j + 511` of the hidden layer add to a result. -/
def part (h : Fin 2048 → EReal) (wg wu : Fin 2048 → ℕ → EReal) (wo : ℕ → EReal) (j : ℕ) : EReal :=
  tile h (fun k f => wg k (512 * j + f)) (fun k f => wu k (512 * j + f)) (fun f => wo (512 * j + f))

/-- The whole layer: the row, and half of what the hidden columns add. -/
def layer (x g : Fin 2048 → EReal) (wg wu : Fin 2048 → ℕ → EReal) (wo : ℕ → Fin 2048 → EReal) (c : Fin 2048) : EReal :=
  x c + half * ∑ f : Fin 5632, silu (∑ k, norm x g k * wg k f) * (∑ k, norm x g k * wu k f) * wo f c

/-- A positive number goes into a sum. -/
theorem half_mul_sum {ι : Type} (s : Finset ι) (F : ι → EReal) : half * ∑ i ∈ s, F i = ∑ i ∈ s, half * F i := by
  classical
  induction s using Finset.induction_on with
  | empty => simp
  | insert a s ha ih =>
    rw [Finset.sum_insert ha, Finset.sum_insert ha, ← ih, half_eq]
    exact EReal.left_distrib_of_nonneg_of_ne_top (by exact_mod_cast (by norm_num : (0:ℝ) ≤ 1 / 2)) (EReal.coe_ne_top _) _ _

/-- A sum over tiles is the sum over everything. -/
theorem sum_tiles (F : ℕ → EReal) (m : ℕ) : ∀ n : ℕ,
    ∑ j ∈ Finset.range n, ∑ f : Fin m, F (m * j + f) = ∑ f ∈ Finset.range (m * n), F f
  | 0 => by simp
  | n + 1 => by
    rw [Finset.sum_range_succ, sum_tiles F m n, Nat.mul_succ, Finset.sum_range_add, Finset.sum_range (fun f => F (m * n + f))]

/-- The layer, tile by tile. -/
theorem layer_eq (x g : Fin 2048 → EReal) (wg wu : Fin 2048 → ℕ → EReal) (wo : ℕ → Fin 2048 → EReal) (c : Fin 2048) :
    x c + ∑ j ∈ Finset.range 11, part (norm x g) wg wu (fun f => wo f c) j = layer x g wg wu wo c := by
  unfold layer part tile
  rw [sum_tiles (fun f => silu (∑ k, norm x g k * wg k f) * (half * ∑ k, norm x g k * wu k f) * wo f c) 512 11, half_mul_sum,
    Finset.sum_range (n := 5632)]
  refine congrArg (x c + ·) (Finset.sum_congr rfl fun f _ => ?_)
  rw [mul_left_comm _ half, mul_assoc half]

/-- Row `r` of the layer number `l`, from the whole arrays. -/
def rowOut (x : (⟨2, ![24576, 2048]⟩ : Shape).Idx → EReal) (g : Fin 2048 → EReal) (wi : (⟨3, ![4, 2048, 11264]⟩ : Shape).Idx → EReal)
    (wo : (⟨3, ![4, 5632, 2048]⟩ : Shape).Idx → EReal) (l r : ℕ) (c : Fin 2048) : EReal :=
  layer (fun k => at2 x r k) g (fun k f => at3 wi l k f) (fun k f => at3 wi l k (5632 + f)) (fun f c => at3 wo l f c) c

/-- A row of gains, read through its reshape. -/
theorem row_apply (g : (⟨1, ![2048]⟩ : Shape).Idx → EReal) (h : (⟨1, ![2048]⟩ : Shape).ShapeCasts ⟨2, ![1, 2048]⟩) (k : Fin 2048)
    (i : (⟨2, ![1, 2048]⟩ : Shape).Idx) (h0 : (i 0).val = 0) (h1 : (i 1).val = k.val) : shapeCast ⟨2, ![1, 2048]⟩ g h i = at1 g k := by
  unfold at1
  rw [dif_pos k.isLt]
  refine shapeCast_apply _ _ _ _ ?_
  rw [Shape.rowMajor_val_one, Shape.rowMajor_val_two]
  show k.val = (i 0).val * 2048 + (i 1).val
  omega

section
variable {N : ℕ} (b s : (n : ℕ) → n < N → Fin 1024 → Fin 2048 → EReal) (x : ℕ → Fin 1024 → Fin 2048 → EReal) (g gf : Fin 2048 → EReal)
  (wg wu : Fin 2048 → ℕ → EReal) (wo : ℕ → Fin 2048 → EReal)

/-- The first of eleven steps over a block of rows: it keeps the normalised rows and adds the first tile to the rows. -/
def First : Prop := ∀ n h, n % 11 = 0 → ∀ r, (∀ c, b n h r c = x (n / 11) r c + part (norm (x (n / 11) r) g) wg wu (fun f => wo f c) (n % 11))
  ∧ ∀ k, s n h r k = norm (x (n / 11) r) g k
/-- A later step, up to number `e`: it adds its tile. -/
def Middle (e : ℕ) : Prop := ∀ n h, ¬n % 11 = 0 → n % 11 < e → ∀ (hp : n - 1 < N) (r : Fin 1024),
  (∀ c, b n h r c = b (n - 1) hp r c + part (s (n - 1) hp r) wg wu (fun f => wo f c) (n % 11)) ∧ ∀ k, s n h r k = s (n - 1) hp r k
/-- The last step: it adds its tile and normalises the result. -/
def Last : Prop := ∀ n h, n % 11 = 10 → ∀ (hp : n - 1 < N) (r : Fin 1024) (c : Fin 2048),
  b n h r c = norm (fun k => b (n - 1) hp r k + part (s (n - 1) hp r) wg wu (fun f => wo f k) (n % 11)) gf c

variable {b s x g gf wg wu wo} {e : ℕ}

/-- The tiles so far. -/
theorem upTo (first : First b s x g wg wu wo) (middle : Middle b s wg wu wo e) (he : e ≤ 11) (q : ℕ) (r : Fin 1024) : ∀ (j : ℕ) (_ : j < e) (h : 11 * q + j < N),
    (∀ c, b (11 * q + j) h r c = x q r c + ∑ i ∈ Finset.range (j + 1), part (norm (x q r) g) wg wu (fun f => wo f c) i)
    ∧ ∀ k, s (11 * q + j) h r k = norm (x q r) g k
  | 0, _, h => by
    have f := first (11 * q + 0) h (by omega) r
    rw [show (11 * q + 0) / 11 = q by omega, show (11 * q + 0) % 11 = 0 by omega] at f
    refine ⟨fun c => ?_, f.2⟩
    rw [f.1 c, Nat.zero_add, Finset.sum_range_one]
  | j + 1, hj, h => by
    have hp : 11 * q + j < N := Nat.lt_of_succ_lt h
    obtain ⟨i1, i2⟩ := upTo first middle he q r j (by omega) hp
    obtain ⟨e1, e2⟩ := middle (11 * q + (j + 1)) h (by omega) (by omega) hp r
    have i3 : s (11 * q + j) hp r = norm (x q r) g := funext i2
    refine ⟨fun c => ?_, fun k => (e2 k).trans (i2 k)⟩
    refine (e1 c).trans ?_
    show b (11 * q + j) hp r c + part (s (11 * q + j) hp r) _ _ _ ((11 * q + (j + 1)) % 11) = _
    rw [i1, i3, show (11 * q + (j + 1)) % 11 = j + 1 by omega, Finset.sum_range_succ _ (j + 1), add_assoc]

/-- After the last step, where it is like the others: the layer. -/
theorem all (first : First b s x g wg wu wo) (middle : Middle b s wg wu wo 11) (q : ℕ) (r : Fin 1024)
    (h : 11 * q + 10 < N) (c : Fin 2048) : b (11 * q + 10) h r c = layer (x q r) g wg wu wo c := by
  rw [(upTo first middle (by omega) q r 10 (by omega) h).1 c, ← layer_eq]

/-- After the last step: the layer, normalised. -/
theorem steps (first : First b s x g wg wu wo) (middle : Middle b s wg wu wo 10) (last : Last b s gf wg wu wo) (q : ℕ) (r : Fin 1024)
    (h : 11 * q + 10 < N) (c : Fin 2048) : b (11 * q + 10) h r c = norm (layer (x q r) g wg wu wo) gf c := by
  have hp : 11 * q + 9 < N := Nat.lt_of_succ_lt h
  obtain ⟨i1, i2⟩ := upTo first middle (by omega) q r 9 (by omega) hp
  have i3 : s (11 * q + 9) hp r = norm (x q r) g := funext i2
  rw [last (11 * q + 10) h (by omega) hp r c]
  refine congrArg (fun y => norm y gf c) (funext fun k => ?_)
  show b (11 * q + 9) hp r k + part (s (11 * q + 9) hp r) _ _ _ ((11 * q + 10) % 11) = _
  rw [i1, i3, show (11 * q + 10) % 11 = 10 by omega, ← layer_eq, Finset.sum_range_succ _ 10, add_assoc]

end

end
end Ffn
-- ==== Proof.LastBlock.lean ====
module

public import proofs.«01_k».proof.Proof.Gen.LastIdeal.Value
public import proofs.«01_k».proof.Proof.Ffn

/-! What one grid point of the last feed-forward call on the prompt leaves in its block and in its scratch. -/

@[expose] public section

namespace Cert.LastIdeal.Layer
open Idealize Idealize.ShloMosaic Cert.LastIdeal Cert.LastIdeal.Gen Idealize.ShloMosaic.TcCoe Idealize.SL.Sem Idealize.ShloMosaic.Tactic
set_option maxRecDepth 16384
noncomputable section

/-- The normalised rows, as kept in the scratch. -/
theorem scratch_apply (x : S1024x2048.Idx → EReal) (g : S1x2048.Idx → EReal) (r : Fin 1024) (k : Fin 2048) :
    k0_pay5 (F := Ideal) x g (ix2 r k) = Ffn.norm (fun k => x (ix2 r k)) (fun k => g (ix2 0 k)) k := by
  pointwise [k0_pay5, k0_pay4]
  rfl

/-- The final norm. -/
theorem final_apply (x : S1024x2048.Idx → EReal) (g : S1x2048.Idx → EReal) (r : Fin 1024) (k : Fin 2048) :
    k0_pay3 (F := Ideal) x g (ix2 r k) = Ffn.norm (fun k => x (ix2 r k)) (fun k => g (ix2 0 k)) k := by
  pointwise [k0_pay3]
  rfl

/-- A step's sum. -/
theorem step_apply (o : S1024x2048.Idx → EReal) (h : S1024x2048.Idx → EReal) (wg wu : S1x2048x512.Idx → EReal) (wo : S1x512x2048.Idx → EReal)
    (r : Fin 1024) (c : Fin 2048) :
    k0_pay2 (F := Ideal) o h wg wu wo (ix2 r c)
      = o (ix2 r c) + Ffn.tile (fun k => h (ix2 r k)) (fun k f => wg (ix3 0 k f)) (fun k f => wu (ix3 0 k f)) (fun f => wo (ix3 0 f c)) := by
  pointwise [k0_pay2]
  rfl

/-- The first step's sum. -/
theorem first_apply (x : S1024x2048.Idx → EReal) (g : S1x2048.Idx → EReal) (wg wu : S1x2048x512.Idx → EReal) (wo : S1x512x2048.Idx → EReal)
    (r : Fin 1024) (c : Fin 2048) :
    k0_pay1 (F := Ideal) x (k0_pay6 x g wg wu wo) (ix2 r c)
      = x (ix2 r c) + Ffn.tile (Ffn.norm (fun k => x (ix2 r k)) (fun k => g (ix2 0 k))) (fun k f => wg (ix3 0 k f)) (fun k f => wu (ix3 0 k f)) (fun f => wo (ix3 0 f c)) := by
  pointwise [k0_pay1, k0_pay6, k0_pay4]
  rfl

theorem z2 : (![0, 0] : Fin 2 → Nat) = fun _ => 0 := funext fun a => by fin_cases a <;> rfl
theorem z3 : (![0, 0, 0] : Fin 3 → Nat) = fun _ => 0 := funext fun a => by fin_cases a <;> rfl

section
variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S1x2048x512 .bf16) (h4 : a4.IsWhole) (a5 : Memref sig .tc .vmem S1x2048x512 .bf16) (h5 : a5.IsWhole)
    (a6 : Memref sig .tc .vmem S1x512x2048 .bf16) (h6 : a6.IsWhole) (a7 : Memref sig .tc .vmem S1x2048 .f32) (h7 : a7.IsWhole)
    (a8 : Memref sig .tc .vmem S1024x2048 .f32) (h8 : a8.IsWhole) (a9 : Memref sig .tc .vmem S1024x2048 .bf16) (h9 : a9.IsWhole)
    (x0 : Vec Ideal S1024x2048 .f32) (x1 : Vec Ideal S1x2048 .f32) (x2 x3 : Vec Ideal S1x2048x512 .bf16) (x4 : Vec Ideal S1x512x2048 .bf16)
    (x5 : Vec Ideal S1x2048 .f32) (xo : Vec Ideal S1024x2048 .f32) (xs : Vec Ideal S1024x2048 .bf16)

/-- The block after a first step. -/
theorem out_A (k0 : cond0_0 i) (k1 : ¬cond0_1 i) (k2 : ¬cond0_2 i) :
    out0_A_6 c i a2 h2 a3 h3 a4 h4 a5 h5 a6 h6 a7 h7 a8 h8 a9 h9 k0 k1 k2 x0 x1 x2 x3 x4 x5 = k0_pay1 x0 (k0_pay6 x0 x1 x2 x3 x4) := by
  unfold out0_A_6
  rw [View.read_writes_eq_canon _ _ _ (cover0_A_6 c i a2 h2 a3 h3 a4 h4 a5 h5 a6 h6 a7 h7 a8 h8 a9 h9 k0 k1 k2 x0 x1 x2 x3 x4 x5)]
  unfold kernelRun0_A
  dsimp only
  sl_unfold_words
  rw [View.canon_unit_zero z2]
  simp only [View.readAt_eq_ld, h2.read_unread, h3.read_unread, h4.read_unread, h5.read_unread, h6.read_unread,
    View.ld_unit_zero (S := S1024x2048) z2, View.ld_unit_zero (S := S1x2048) z2, View.ld_unit_zero (S := S1x2048x512) z3, View.ld_unit_zero (S := S1x512x2048) z3]

/-- The scratch after a first step. -/
theorem scratch_A (k0 : cond0_0 i) (k1 : ¬cond0_1 i) (k2 : ¬cond0_2 i) :
    sout0_A_0 c i a2 h2 a3 h3 a4 h4 a5 h5 a6 h6 a7 h7 a8 h8 a9 h9 k0 k1 k2 x0 x1 x2 x3 x4 x5 = k0_pay5 x0 x1 := by
  unfold sout0_A_0
  rw [View.read_writes_eq_canon _ _ _ (scover0_A_0 c i a2 h2 a3 h3 a4 h4 a5 h5 a6 h6 a7 h7 a8 h8 a9 h9 k0 k1 k2 x0 x1 x2 x3 x4 x5)]
  unfold kernelRun0_A
  dsimp only
  sl_unfold_words
  rw [View.canon_unit_zero z2]
  simp only [View.readAt_eq_ld, h2.read_unread, h3.read_unread,
    View.ld_unit_zero (S := S1024x2048) z2, View.ld_unit_zero (S := S1x2048) z2]

/-- The block after a middle step. -/
theorem out_B (k0 : ¬cond0_0 i) (k1 : cond0_1 i) (k2 : ¬cond0_2 i) :
    out0_B_6 c i a2 h2 a3 h3 a4 h4 a5 h5 a6 h6 a7 h7 a8 h8 a9 h9 k0 k1 k2 x0 x1 x2 x3 x4 x5 xo xs = k0_pay2 xo xs x2 x3 x4 := by
  unfold out0_B_6
  rw [View.read_writes_eq_canon _ _ _ (cover0_B_6 c i a2 h2 a3 h3 a4 h4 a5 h5 a6 h6 a7 h7 a8 h8 a9 h9 k0 k1 k2 x0 x1 x2 x3 x4 x5 xo xs)]
  unfold kernelRun0_B
  dsimp only
  sl_unfold_words
  rw [View.canon_unit_zero z2]
  simp only [View.readAt_eq_ld, h4.read_unread, h5.read_unread, h6.read_unread, h8.read_unread, h9.read_unread,
    View.ld_unit_zero (S := S1024x2048) z2, View.ld_unit_zero (S := S1x2048) z2, View.ld_unit_zero (S := S1x2048x512) z3, View.ld_unit_zero (S := S1x512x2048) z3]

/-- The block after a last step. -/
theorem out_C (k0 : ¬cond0_0 i) (k1 : cond0_1 i) (k2 : cond0_2 i) :
    out0_C_6 c i a2 h2 a3 h3 a4 h4 a5 h5 a6 h6 a7 h7 a8 h8 a9 h9 k0 k1 k2 x0 x1 x2 x3 x4 x5 xo xs = k0_pay3 (k0_pay2 xo xs x2 x3 x4) x5 := by
  unfold out0_C_6
  rw [View.read_writes_eq_canon _ _ _ (cover0_C_6 c i a2 h2 a3 h3 a4 h4 a5 h5 a6 h6 a7 h7 a8 h8 a9 h9 k0 k1 k2 x0 x1 x2 x3 x4 x5 xo xs)]
  unfold kernelRun0_C
  dsimp only
  sl_unfold_words
  rw [View.canon_cons_unit_zero (S := S1024x2048) z2]
  simp only [View.readAt_eq_ld, View.readCov_unit_zero (S := S1024x2048) _ z2, h4.read_unread, h5.read_unread, h6.read_unread, h7.read_unread, h8.read_unread, h9.read_unread,
    View.ld_unit_zero (S := S1024x2048) z2, View.ld_unit_zero (S := S1x2048) z2, View.ld_unit_zero (S := S1x2048x512) z3, View.ld_unit_zero (S := S1x512x2048) z3]

end

end
end Cert.LastIdeal.Layer
-- ==== Proof.LastArray.lean ====
module

public import proofs.«01_k».proof.Proof.LastBlock

/-! The result array of the last feed-forward call on the prompt. -/

@[expose] public section

namespace Cert.LastIdeal.Layer
open Idealize Idealize.ShloMosaic Cert.LastIdeal Cert.LastIdeal.Gen Idealize.ShloMosaic.TcCoe Idealize.SL.Sem Idealize.ShloMosaic.Tactic Band
open Idealize.ShloMosaic.Pipeline (Dat)
set_option maxRecDepth 16384
noncomputable section

variable (m : (ℓ : Loc nD τ sig) → Buf (Elt Ideal) ℓ) (c : Dev nD) (t : Fin cfg0.N)

/-- The rows. -/
abbrev A0 : S24576x2048.Idx → EReal := m ((c : Thread nD τ).loc main_arg0)
/-- The layer's gains. -/
abbrev A1 : S2048.Idx → EReal := m ((c : Thread nD τ).loc main_arg1)
/-- The weights into the hidden layer. -/
abbrev A2 : S4x2048x11264.Idx → EReal := m ((c : Thread nD τ).loc main_arg2)
/-- The weights out of it. -/
abbrev A3 : S4x5632x2048.Idx → EReal := m ((c : Thread nD τ).loc main_arg3)
/-- The final gains. -/
abbrev A4 : S2048.Idx → EReal := m ((c : Thread nD τ).loc main_arg4)

/-- Which block each window reads or writes at a point. -/
theorem index_facts : ∀ t : Fin grid0.N, win0_0.index t = ![t.val / 11, 0] ∧ win0_1.index t = ![0, 0] ∧ win0_2.index t = ![3, 0, t.val % 11]
    ∧ win0_3.index t = ![3, 0, t.val % 11 + 11] ∧ win0_4.index t = ![3, t.val % 11, 0] ∧ win0_5.index t = ![0, 0]
    ∧ win0_6.index t = ![t.val / 11, 0] := by decide +kernel

/-- The block of rows. -/
theorem blk0 (r : Fin 1024) (k : Fin 2048) : (iblk m c 0 t : Vec Ideal S1024x2048 .f32) (ix2 r k) = at2 (A0 m c) (1024 * (t.val / 11) + r) k := by
  have ht : t.val < 88 := t.isLt
  have hi := (index_facts t).1
  unfold at2
  rw [dif_pos ⟨by omega, k.isLt⟩]
  unfold iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 11) + r.val; rw [hi]; show t.val / 11 * 1024 + 1 * r.val = _; omega
  | ⟨1, _⟩ => show win0_0.index t 1 * 2048 + 1 * k.val = k.val; rw [hi]; show 0 * 2048 + 1 * k.val = _; omega

/-- The gains, as the call is handed them. -/
theorem gains : (V m c main_v2 : Vec Ideal S1x2048 .f32) = shapeCast S1x2048 (A1 m c) shapeCasts_S2048_S1x2048 := by
  show StableHlo.after hostOps0 _ (Proc.devRef .tc main_v2) = _
  after_results
  rfl

/-- The final gains, as the call is handed them. -/
theorem finals : (V m c main_v3 : Vec Ideal S1x2048 .f32) = shapeCast S1x2048 (A4 m c) shapeCasts_S2048_S1x2048 := by
  show StableHlo.after hostOps0 _ (Proc.devRef .tc main_v3) = _
  after_results
  rfl

/-- The weights into the hidden layer, as the call is handed them. -/
theorem into : (V m c main_v0 : Vec Ideal S4x2048x11264 .bf16) = A2 m c := by
  show StableHlo.after hostOps0 _ (Proc.devRef .tc main_v0) = _
  after_results
  rfl

/-- The weights out of the hidden layer, as the call is handed them. -/
theorem outOf : (V m c main_v1 : Vec Ideal S4x5632x2048 .bf16) = A3 m c := by
  show StableHlo.after hostOps0 _ (Proc.devRef .tc main_v1) = _
  after_results
  rfl

/-- The block of gains. -/
theorem blk1 (k : Fin 2048) : (iblk m c 1 t : Vec Ideal S1x2048 .f32) (ix2 0 k) = at1 (A1 m c) k := by
  have hi := (index_facts t).2.1
  unfold iblk
  rw [View.read_apply]
  show V m c main_v2 _ = _
  rw [gains]
  refine Ffn.row_apply _ _ _ _ ?_ ?_
  · show win0_1.index t 0 * 1 + 1 * 0 = 0; rw [hi]; rfl
  · show win0_1.index t 1 * 2048 + 1 * k.val = k.val; rw [hi]; show 0 * 2048 + 1 * k.val = _; omega

/-- The block of final gains. -/
theorem blk5 (k : Fin 2048) : (iblk m c 5 t : Vec Ideal S1x2048 .f32) (ix2 0 k) = at1 (A4 m c) k := by
  have hi := (index_facts t).2.2.2.2.2.1
  unfold iblk
  rw [View.read_apply]
  show V m c main_v3 _ = _
  rw [finals]
  refine Ffn.row_apply _ _ _ _ ?_ ?_
  · show win0_5.index t 0 * 1 + 1 * 0 = 0; rw [hi]; rfl
  · show win0_5.index t 1 * 2048 + 1 * k.val = k.val; rw [hi]; show 0 * 2048 + 1 * k.val = _; omega

/-- The block of gate weights. -/
theorem blk2 (k : Fin 2048) (f : Fin 512) :
    (iblk m c 2 t : Vec Ideal S1x2048x512 .bf16) (ix3 0 k f) = at3 (A2 m c) 3 k (512 * (t.val % 11) + f) := by
  have hi := (index_facts t).2.2.1
  unfold at3
  rw [dif_pos ⟨by omega, k.isLt, by omega⟩]
  unfold iblk
  rw [View.read_apply]
  show V m c main_v0 _ = _
  rw [into]
  refine congrArg (A2 m c) (funext fun a => Fin.ext ?_)
  match a with
  | ⟨0, _⟩ => show win0_2.index t 0 * 1 + 1 * 0 = 3; rw [hi]; rfl
  | ⟨1, _⟩ => show win0_2.index t 1 * 2048 + 1 * k.val = k.val; rw [hi]; show 0 * 2048 + 1 * k.val = _; omega
  | ⟨2, _⟩ => show win0_2.index t 2 * 512 + 1 * f.val = 512 * (t.val % 11) + f.val; rw [hi]; show t.val % 11 * 512 + 1 * f.val = _; omega

/-- The block of weights that are gated. -/
theorem blk3 (k : Fin 2048) (f : Fin 512) :
    (iblk m c 3 t : Vec Ideal S1x2048x512 .bf16) (ix3 0 k f) = at3 (A2 m c) 3 k (5632 + (512 * (t.val % 11) + f)) := by
  have hi := (index_facts t).2.2.2.1
  unfold at3
  rw [dif_pos ⟨by omega, k.isLt, by omega⟩]
  unfold iblk
  rw [View.read_apply]
  show V m c main_v0 _ = _
  rw [into]
  refine congrArg (A2 m c) (funext fun a => Fin.ext ?_)
  match a with
  | ⟨0, _⟩ => show win0_3.index t 0 * 1 + 1 * 0 = 3; rw [hi]; rfl
  | ⟨1, _⟩ => show win0_3.index t 1 * 2048 + 1 * k.val = k.val; rw [hi]; show 0 * 2048 + 1 * k.val = _; omega
  | ⟨2, _⟩ => show win0_3.index t 2 * 512 + 1 * f.val = 5632 + (512 * (t.val % 11) + f.val); rw [hi]; show (t.val % 11 + 11) * 512 + 1 * f.val = _; omega

/-- The block of weights out of the hidden layer. -/
theorem blk4 (f : Fin 512) (k : Fin 2048) :
    (iblk m c 4 t : Vec Ideal S1x512x2048 .bf16) (ix3 0 f k) = at3 (A3 m c) 3 (512 * (t.val % 11) + f) k := by
  have hi := (index_facts t).2.2.2.2.1
  unfold at3
  rw [dif_pos ⟨by omega, by omega, k.isLt⟩]
  unfold iblk
  rw [View.read_apply]
  show V m c main_v1 _ = _
  rw [outOf]
  refine congrArg (A3 m c) (funext fun a => Fin.ext ?_)
  match a with
  | ⟨0, _⟩ => show win0_4.index t 0 * 1 + 1 * 0 = 3; rw [hi]; rfl
  | ⟨1, _⟩ => show win0_4.index t 1 * 512 + 1 * f.val = 512 * (t.val % 11) + f.val; rw [hi]; show t.val % 11 * 512 + 1 * f.val = _; omega
  | ⟨2, _⟩ => show win0_4.index t 2 * 2048 + 1 * k.val = k.val; rw [hi]; show 0 * 2048 + 1 * k.val = _; omega

/-- The columns of the gate. -/
abbrev wg (k : Fin 2048) (f : ℕ) : EReal := at3 (A2 m c) 3 k f
/-- The columns that are gated. -/
abbrev wu (k : Fin 2048) (f : ℕ) : EReal := at3 (A2 m c) 3 k (5632 + f)
/-- The weights out of the hidden layer. -/
abbrev wo (f : ℕ) (col : Fin 2048) : EReal := at3 (A3 m c) 3 f col
/-- The rows a block starts from. -/
abbrev rows (q : ℕ) (r : Fin 1024) : Fin 2048 → EReal := fun k => at2 (A0 m c) (1024 * q + r) k
/-- The block after a point. -/
abbrev block (n : ℕ) (h : n < cfg0.N) (r : Fin 1024) (col : Fin 2048) : EReal := (outsAt0 m c n h).1 (ix2 r col)
/-- The scratch after a point. -/
abbrev kept (n : ℕ) (h : n < cfg0.N) (r : Fin 1024) (k : Fin 2048) : EReal := (outsAt0 m c n h).2 (ix2 r k)

/-- A step's tile is its part of the whole. -/
theorem tile_eq (h : Fin 2048 → EReal) (col : Fin 2048) :
    Ffn.tile h (fun k f => (iblk m c 2 t : Vec Ideal S1x2048x512 .bf16) (ix3 0 k f)) (fun k f => (iblk m c 3 t : Vec Ideal S1x2048x512 .bf16) (ix3 0 k f))
      (fun f => (iblk m c 4 t : Vec Ideal S1x512x2048 .bf16) (ix3 0 f col))
      = Ffn.part h (wg m c) (wu m c) (fun f => wo m c f col) (t.val % 11) := by
  simp only [blk2, blk3, blk4]
  rfl

theorem first : Ffn.First (block m c) (kept m c) (rows m c) (fun k => at1 (A1 m c) k) (wg m c) (wu m c) (wo m c) := fun n hn h r => by
  have e := outsAt0_A m c ⟨n, hn⟩ h (by show ¬1 ≤ n % 11; omega) (by show ¬n % 11 = 10; omega)
  dsimp only at e
  rw [out_A, scratch_A] at e
  unfold block kept
  rw [e]
  constructor
  · intro col
    refine (first_apply _ _ _ _ _ r col).trans ?_
    rw [tile_eq]
    simp only [blk0, blk1]
  · intro k
    refine (scratch_apply _ _ r k).trans ?_
    simp only [blk0, blk1]

theorem middle : Ffn.Middle (block m c) (kept m c) (wg m c) (wu m c) (wo m c) 10 := fun n hn h h' hp r => by
  have e := outsAt0_B m c ⟨n, hn⟩ h (by show 1 ≤ n % 11; omega) (by show ¬n % 11 = 10; omega)
  dsimp only at e
  rw [out_B] at e
  unfold block kept
  rw [e]
  constructor
  · intro col
    refine (step_apply _ _ _ _ _ r col).trans ?_
    rw [tile_eq]
  · intro k
    rfl

theorem last : Ffn.Last (block m c) (kept m c) (fun k => at1 (A4 m c) k) (wg m c) (wu m c) (wo m c) := fun n hn h hp r col => by
  have e := outsAt0_C m c ⟨n, hn⟩ (by show ¬n % 11 = 0; omega) (by show 1 ≤ n % 11; omega) h
  dsimp only at e
  rw [out_C] at e
  unfold block kept
  rw [e]
  refine (final_apply _ _ r col).trans ?_
  simp only [blk5]
  refine congrArg (fun x => Ffn.norm x _ col) (funext fun k => ?_)
  refine (step_apply _ _ _ _ _ r k).trans ?_
  rw [tile_eq]

/-- No two blocks that are written back overlap. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne =>
  (cfg0.win 6).disjoint_blk fun e => hne (Fin.ext (by
    have h1 := (flush0_6 t).mp h
    have h2 := (flush0_6 t').mp h'
    have e' : win0_6.index t 0 = win0_6.index t' 0 := congrFun e 0
    rw [(index_facts t).2.2.2.2.2.2, (index_facts t').2.2.2.2.2.2] at e'
    have e3 : t.val / 11 = t'.val / 11 := e'
    omega))

/-- The call's result array. -/
theorem array_eq : (dats m 0 c).arrAt 6 cfg0.N
    = fun i : S8192x2048.Idx => Ffn.norm (Ffn.rowOut (A0 m c) (fun k => at1 (A1 m c) k) (A2 m c) (A3 m c) 3 (i 0).val) (fun k => at1 (A4 m c) k) (i 1) := by
  funext i
  have h0 : (i 0).val < 8192 := (i 0).isLt
  let t : Fin cfg0.N := ⟨11 * ((i 0).val / 1024) + 10, by show 11 * ((i 0).val / 1024) + 10 < 88; omega⟩
  have hi := (index_facts t).2.2.2.2.2.2
  have e1 : (11 * ((i 0).val / 1024) + 10) / 11 = (i 0).val / 1024 := by omega
  let y : S1024x2048.Idx := ix2 ⟨(i 0).val % 1024, by omega⟩ (i 1)
  have hemb : ((cfg0.win 6).blk t).view.emb y = i := by
    funext a
    apply Fin.ext
    match a with
    | ⟨0, _⟩ =>
      show win0_6.index t 0 * 1024 + 1 * ((i 0).val % 1024) = (i 0).val
      rw [hi]
      show (11 * ((i 0).val / 1024) + 10) / 11 * 1024 + 1 * ((i 0).val % 1024) = _
      omega
    | ⟨1, _⟩ => show win0_6.index t 1 * 2048 + 1 * (i 1).val = (i 1).val; rw [hi]; show 0 * 2048 + 1 * (i 1).val = _; omega
  have hv := (dats m 0 c).arrAt_emb_eq_flushed 6 disjoint6 t ((flush0_6 t).mpr (by show (11 * ((i 0).val / 1024) + 10) % 11 = 10; omega)) y
  rw [hemb] at hv
  rw [hv]
  refine (cast_eq _ _).trans ?_
  rw [Value.flushed6]
  refine (Ffn.steps (first m c) (middle m c) (last m c) ((i 0).val / 1024) ⟨(i 0).val % 1024, by omega⟩ t.isLt (i 1)).trans ?_
  unfold Ffn.rowOut rows
  dsimp only
  rw [show 1024 * ((i 0).val / 1024) + (i 0).val % 1024 = (i 0).val by omega]

end
end Cert.LastIdeal.Layer
-- ==== Proof.LastSampleBlock.lean ====
module

public import proofs.«01_k».proof.Proof.Gen.LastSampleIdeal.Value
public import proofs.«01_k».proof.Proof.LastBlock

/-! What one grid point of the last feed-forward call on the sample leaves in its block and in its scratch. -/

@[expose] public section

namespace Cert.LastSampleIdeal.Layer
open Cert.LastIdeal.Layer (z2 z3)
open Idealize Idealize.ShloMosaic Cert.LastSampleIdeal Cert.LastSampleIdeal.Gen Idealize.ShloMosaic.TcCoe Idealize.SL.Sem Idealize.ShloMosaic.Tactic
set_option maxRecDepth 16384
noncomputable section

/-- The normalised rows, as kept in the scratch. -/
theorem scratch_apply (x : S1024x2048.Idx → EReal) (g : S1x2048.Idx → EReal) (r : Fin 1024) (k : Fin 2048) :
    k0_pay5 (F := Ideal) x g (ix2 r k) = Ffn.norm (fun k => x (ix2 r k)) (fun k => g (ix2 0 k)) k :=
  Cert.LastIdeal.Layer.scratch_apply x g r k

/-- The final norm. -/
theorem final_apply (x : S1024x2048.Idx → EReal) (g : S1x2048.Idx → EReal) (r : Fin 1024) (k : Fin 2048) :
    k0_pay3 (F := Ideal) x g (ix2 r k) = Ffn.norm (fun k => x (ix2 r k)) (fun k => g (ix2 0 k)) k :=
  Cert.LastIdeal.Layer.final_apply x g r k

/-- A step's sum. -/
theorem step_apply (o : S1024x2048.Idx → EReal) (h : S1024x2048.Idx → EReal) (wg wu : S1x2048x512.Idx → EReal) (wo : S1x512x2048.Idx → EReal)
    (r : Fin 1024) (c : Fin 2048) :
    k0_pay2 (F := Ideal) o h wg wu wo (ix2 r c)
      = o (ix2 r c) + Ffn.tile (fun k => h (ix2 r k)) (fun k f => wg (ix3 0 k f)) (fun k f => wu (ix3 0 k f)) (fun f => wo (ix3 0 f c)) :=
  Cert.LastIdeal.Layer.step_apply o h wg wu wo r c

/-- The first step's sum. -/
theorem first_apply (x : S1024x2048.Idx → EReal) (g : S1x2048.Idx → EReal) (wg wu : S1x2048x512.Idx → EReal) (wo : S1x512x2048.Idx → EReal)
    (r : Fin 1024) (c : Fin 2048) :
    k0_pay1 (F := Ideal) x (k0_pay6 x g wg wu wo) (ix2 r c)
      = x (ix2 r c) + Ffn.tile (Ffn.norm (fun k => x (ix2 r k)) (fun k => g (ix2 0 k))) (fun k f => wg (ix3 0 k f)) (fun k f => wu (ix3 0 k f)) (fun f => wo (ix3 0 f c)) :=
  Cert.LastIdeal.Layer.first_apply x g wg wu wo r c

section
variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S1x2048x512 .bf16) (h4 : a4.IsWhole) (a5 : Memref sig .tc .vmem S1x2048x512 .bf16) (h5 : a5.IsWhole)
    (a6 : Memref sig .tc .vmem S1x512x2048 .bf16) (h6 : a6.IsWhole) (a7 : Memref sig .tc .vmem S1x2048 .f32) (h7 : a7.IsWhole)
    (a8 : Memref sig .tc .vmem S1024x2048 .f32) (h8 : a8.IsWhole) (a9 : Memref sig .tc .vmem S1024x2048 .bf16) (h9 : a9.IsWhole)
    (x0 : Vec Ideal S1024x2048 .f32) (x1 : Vec Ideal S1x2048 .f32) (x2 x3 : Vec Ideal S1x2048x512 .bf16) (x4 : Vec Ideal S1x512x2048 .bf16)
    (x5 : Vec Ideal S1x2048 .f32) (xo : Vec Ideal S1024x2048 .f32) (xs : Vec Ideal S1024x2048 .bf16)

/-- The block after a first step. -/
theorem out_A (k0 : cond0_0 i) (k1 : ¬cond0_1 i) (k2 : ¬cond0_2 i) :
    out0_A_6 c i a2 h2 a3 h3 a4 h4 a5 h5 a6 h6 a7 h7 a8 h8 a9 h9 k0 k1 k2 x0 x1 x2 x3 x4 x5 = k0_pay1 x0 (k0_pay6 x0 x1 x2 x3 x4) := by
  unfold out0_A_6
  rw [View.read_writes_eq_canon _ _ _ (cover0_A_6 c i a2 h2 a3 h3 a4 h4 a5 h5 a6 h6 a7 h7 a8 h8 a9 h9 k0 k1 k2 x0 x1 x2 x3 x4 x5)]
  unfold kernelRun0_A
  dsimp only
  sl_unfold_words
  rw [View.canon_unit_zero z2]
  simp only [View.readAt_eq_ld, h2.read_unread, h3.read_unread, h4.read_unread, h5.read_unread, h6.read_unread,
    View.ld_unit_zero (S := S1024x2048) z2, View.ld_unit_zero (S := S1x2048) z2, View.ld_unit_zero (S := S1x2048x512) z3, View.ld_unit_zero (S := S1x512x2048) z3]

/-- The scratch after a first step. -/
theorem scratch_A (k0 : cond0_0 i) (k1 : ¬cond0_1 i) (k2 : ¬cond0_2 i) :
    sout0_A_0 c i a2 h2 a3 h3 a4 h4 a5 h5 a6 h6 a7 h7 a8 h8 a9 h9 k0 k1 k2 x0 x1 x2 x3 x4 x5 = k0_pay5 x0 x1 := by
  unfold sout0_A_0
  rw [View.read_writes_eq_canon _ _ _ (scover0_A_0 c i a2 h2 a3 h3 a4 h4 a5 h5 a6 h6 a7 h7 a8 h8 a9 h9 k0 k1 k2 x0 x1 x2 x3 x4 x5)]
  unfold kernelRun0_A
  dsimp only
  sl_unfold_words
  rw [View.canon_unit_zero z2]
  simp only [View.readAt_eq_ld, h2.read_unread, h3.read_unread,
    View.ld_unit_zero (S := S1024x2048) z2, View.ld_unit_zero (S := S1x2048) z2]

/-- The block after a middle step. -/
theorem out_B (k0 : ¬cond0_0 i) (k1 : cond0_1 i) (k2 : ¬cond0_2 i) :
    out0_B_6 c i a2 h2 a3 h3 a4 h4 a5 h5 a6 h6 a7 h7 a8 h8 a9 h9 k0 k1 k2 x0 x1 x2 x3 x4 x5 xo xs = k0_pay2 xo xs x2 x3 x4 := by
  unfold out0_B_6
  rw [View.read_writes_eq_canon _ _ _ (cover0_B_6 c i a2 h2 a3 h3 a4 h4 a5 h5 a6 h6 a7 h7 a8 h8 a9 h9 k0 k1 k2 x0 x1 x2 x3 x4 x5 xo xs)]
  unfold kernelRun0_B
  dsimp only
  sl_unfold_words
  rw [View.canon_unit_zero z2]
  simp only [View.readAt_eq_ld, h4.read_unread, h5.read_unread, h6.read_unread, h8.read_unread, h9.read_unread,
    View.ld_unit_zero (S := S1024x2048) z2, View.ld_unit_zero (S := S1x2048) z2, View.ld_unit_zero (S := S1x2048x512) z3, View.ld_unit_zero (S := S1x512x2048) z3]

/-- The block after a last step. -/
theorem out_C (k0 : ¬cond0_0 i) (k1 : cond0_1 i) (k2 : cond0_2 i) :
    out0_C_6 c i a2 h2 a3 h3 a4 h4 a5 h5 a6 h6 a7 h7 a8 h8 a9 h9 k0 k1 k2 x0 x1 x2 x3 x4 x5 xo xs = k0_pay3 (k0_pay2 xo xs x2 x3 x4) x5 := by
  unfold out0_C_6
  rw [View.read_writes_eq_canon _ _ _ (cover0_C_6 c i a2 h2 a3 h3 a4 h4 a5 h5 a6 h6 a7 h7 a8 h8 a9 h9 k0 k1 k2 x0 x1 x2 x3 x4 x5 xo xs)]
  unfold kernelRun0_C
  dsimp only
  sl_unfold_words
  rw [View.canon_cons_unit_zero (S := S1024x2048) z2]
  simp only [View.readAt_eq_ld, View.readCov_unit_zero (S := S1024x2048) _ z2, h4.read_unread, h5.read_unread, h6.read_unread, h7.read_unread, h8.read_unread, h9.read_unread,
    View.ld_unit_zero (S := S1024x2048) z2, View.ld_unit_zero (S := S1x2048) z2, View.ld_unit_zero (S := S1x2048x512) z3, View.ld_unit_zero (S := S1x512x2048) z3]

end

end
end Cert.LastSampleIdeal.Layer
-- ==== Proof.LastSampleArray.lean ====
module

public import proofs.«01_k».proof.Proof.LastSampleBlock

/-! The result array of the last feed-forward call on the sample. -/

@[expose] public section

namespace Cert.LastSampleIdeal.Layer
open Idealize Idealize.ShloMosaic Cert.LastSampleIdeal Cert.LastSampleIdeal.Gen Idealize.ShloMosaic.TcCoe Idealize.SL.Sem Idealize.ShloMosaic.Tactic Band
open Idealize.ShloMosaic.Pipeline (Dat)
set_option maxRecDepth 16384
noncomputable section

variable (m : (ℓ : Loc nD τ sig) → Buf (Elt Ideal) ℓ) (c : Dev nD) (t : Fin cfg0.N)

/-- The rows. -/
abbrev A0 : S24576x2048.Idx → EReal := m ((c : Thread nD τ).loc main_arg0)
/-- The layer's gains. -/
abbrev A1 : S2048.Idx → EReal := m ((c : Thread nD τ).loc main_arg1)
/-- The weights into the hidden layer. -/
abbrev A2 : S4x2048x11264.Idx → EReal := m ((c : Thread nD τ).loc main_arg2)
/-- The weights out of it. -/
abbrev A3 : S4x5632x2048.Idx → EReal := m ((c : Thread nD τ).loc main_arg3)
/-- The final gains. -/
abbrev A4 : S2048.Idx → EReal := m ((c : Thread nD τ).loc main_arg4)

/-- Which block each window reads or writes at a point. -/
theorem index_facts : ∀ t : Fin grid0.N, win0_0.index t = ![8 + t.val / 11, 0] ∧ win0_1.index t = ![0, 0] ∧ win0_2.index t = ![3, 0, t.val % 11]
    ∧ win0_3.index t = ![3, 0, t.val % 11 + 11] ∧ win0_4.index t = ![3, t.val % 11, 0] ∧ win0_5.index t = ![0, 0]
    ∧ win0_6.index t = ![t.val / 11, 0] := by decide +kernel

/-- The block of rows. -/
theorem blk0 (r : Fin 1024) (k : Fin 2048) : (iblk m c 0 t : Vec Ideal S1024x2048 .f32) (ix2 r k) = at2 (A0 m c) (8192 + (1024 * (t.val / 11) + r)) k := by
  have ht : t.val < 176 := t.isLt
  have hi := (index_facts t).1
  unfold at2
  rw [dif_pos ⟨by omega, k.isLt⟩]
  unfold iblk
  rw [View.read_apply]
  show V m c main_arg0 _ = _
  rw [V_main_arg0]
  refine congrArg (A0 m c) (funext fun a => Fin.ext ?_)
  match a with
  | ⟨0, _⟩ => show win0_0.index t 0 * 1024 + 1 * r.val = 8192 + (1024 * (t.val / 11) + r.val); rw [hi]; show (8 + t.val / 11) * 1024 + 1 * r.val = _; omega
  | ⟨1, _⟩ => show win0_0.index t 1 * 2048 + 1 * k.val = k.val; rw [hi]; show 0 * 2048 + 1 * k.val = _; omega

/-- The gains, as the call is handed them. -/
theorem gains : (V m c main_v2 : Vec Ideal S1x2048 .f32) = shapeCast S1x2048 (A1 m c) shapeCasts_S2048_S1x2048 := by
  show StableHlo.after hostOps0 _ (Proc.devRef .tc main_v2) = _
  after_results
  rfl

/-- The final gains, as the call is handed them. -/
theorem finals : (V m c main_v3 : Vec Ideal S1x2048 .f32) = shapeCast S1x2048 (A4 m c) shapeCasts_S2048_S1x2048 := by
  show StableHlo.after hostOps0 _ (Proc.devRef .tc main_v3) = _
  after_results
  rfl

/-- The weights into the hidden layer, as the call is handed them. -/
theorem into : (V m c main_v0 : Vec Ideal S4x2048x11264 .bf16) = A2 m c := by
  show StableHlo.after hostOps0 _ (Proc.devRef .tc main_v0) = _
  after_results
  rfl

/-- The weights out of the hidden layer, as the call is handed them. -/
theorem outOf : (V m c main_v1 : Vec Ideal S4x5632x2048 .bf16) = A3 m c := by
  show StableHlo.after hostOps0 _ (Proc.devRef .tc main_v1) = _
  after_results
  rfl

/-- The block of gains. -/
theorem blk1 (k : Fin 2048) : (iblk m c 1 t : Vec Ideal S1x2048 .f32) (ix2 0 k) = at1 (A1 m c) k := by
  have hi := (index_facts t).2.1
  unfold iblk
  rw [View.read_apply]
  show V m c main_v2 _ = _
  rw [gains]
  refine Ffn.row_apply _ _ _ _ ?_ ?_
  · show win0_1.index t 0 * 1 + 1 * 0 = 0; rw [hi]; rfl
  · show win0_1.index t 1 * 2048 + 1 * k.val = k.val; rw [hi]; show 0 * 2048 + 1 * k.val = _; omega

/-- The block of final gains. -/
theorem blk5 (k : Fin 2048) : (iblk m c 5 t : Vec Ideal S1x2048 .f32) (ix2 0 k) = at1 (A4 m c) k := by
  have hi := (index_facts t).2.2.2.2.2.1
  unfold iblk
  rw [View.read_apply]
  show V m c main_v3 _ = _
  rw [finals]
  refine Ffn.row_apply _ _ _ _ ?_ ?_
  · show win0_5.index t 0 * 1 + 1 * 0 = 0; rw [hi]; rfl
  · show win0_5.index t 1 * 2048 + 1 * k.val = k.val; rw [hi]; show 0 * 2048 + 1 * k.val = _; omega

/-- The block of gate weights. -/
theorem blk2 (k : Fin 2048) (f : Fin 512) :
    (iblk m c 2 t : Vec Ideal S1x2048x512 .bf16) (ix3 0 k f) = at3 (A2 m c) 3 k (512 * (t.val % 11) + f) := by
  have hi := (index_facts t).2.2.1
  unfold at3
  rw [dif_pos ⟨by omega, k.isLt, by omega⟩]
  unfold iblk
  rw [View.read_apply]
  show V m c main_v0 _ = _
  rw [into]
  refine congrArg (A2 m c) (funext fun a => Fin.ext ?_)
  match a with
  | ⟨0, _⟩ => show win0_2.index t 0 * 1 + 1 * 0 = 3; rw [hi]; rfl
  | ⟨1, _⟩ => show win0_2.index t 1 * 2048 + 1 * k.val = k.val; rw [hi]; show 0 * 2048 + 1 * k.val = _; omega
  | ⟨2, _⟩ => show win0_2.index t 2 * 512 + 1 * f.val = 512 * (t.val % 11) + f.val; rw [hi]; show t.val % 11 * 512 + 1 * f.val = _; omega

/-- The block of weights that are gated. -/
theorem blk3 (k : Fin 2048) (f : Fin 512) :
    (iblk m c 3 t : Vec Ideal S1x2048x512 .bf16) (ix3 0 k f) = at3 (A2 m c) 3 k (5632 + (512 * (t.val % 11) + f)) := by
  have hi := (index_facts t).2.2.2.1
  unfold at3
  rw [dif_pos ⟨by omega, k.isLt, by omega⟩]
  unfold iblk
  rw [View.read_apply]
  show V m c main_v0 _ = _
  rw [into]
  refine congrArg (A2 m c) (funext fun a => Fin.ext ?_)
  match a with
  | ⟨0, _⟩ => show win0_3.index t 0 * 1 + 1 * 0 = 3; rw [hi]; rfl
  | ⟨1, _⟩ => show win0_3.index t 1 * 2048 + 1 * k.val = k.val; rw [hi]; show 0 * 2048 + 1 * k.val = _; omega
  | ⟨2, _⟩ => show win0_3.index t 2 * 512 + 1 * f.val = 5632 + (512 * (t.val % 11) + f.val); rw [hi]; show (t.val % 11 + 11) * 512 + 1 * f.val = _; omega

/-- The block of weights out of the hidden layer. -/
theorem blk4 (f : Fin 512) (k : Fin 2048) :
    (iblk m c 4 t : Vec Ideal S1x512x2048 .bf16) (ix3 0 f k) = at3 (A3 m c) 3 (512 * (t.val % 11) + f) k := by
  have hi := (index_facts t).2.2.2.2.1
  unfold at3
  rw [dif_pos ⟨by omega, by omega, k.isLt⟩]
  unfold iblk
  rw [View.read_apply]
  show V m c main_v1 _ = _
  rw [outOf]
  refine congrArg (A3 m c) (funext fun a => Fin.ext ?_)
  match a with
  | ⟨0, _⟩ => show win0_4.index t 0 * 1 + 1 * 0 = 3; rw [hi]; rfl
  | ⟨1, _⟩ => show win0_4.index t 1 * 512 + 1 * f.val = 512 * (t.val % 11) + f.val; rw [hi]; show t.val % 11 * 512 + 1 * f.val = _; omega
  | ⟨2, _⟩ => show win0_4.index t 2 * 2048 + 1 * k.val = k.val; rw [hi]; show 0 * 2048 + 1 * k.val = _; omega

/-- The columns of the gate. -/
abbrev wg (k : Fin 2048) (f : ℕ) : EReal := at3 (A2 m c) 3 k f
/-- The columns that are gated. -/
abbrev wu (k : Fin 2048) (f : ℕ) : EReal := at3 (A2 m c) 3 k (5632 + f)
/-- The weights out of the hidden layer. -/
abbrev wo (f : ℕ) (col : Fin 2048) : EReal := at3 (A3 m c) 3 f col
/-- The rows a block starts from. -/
abbrev rows (q : ℕ) (r : Fin 1024) : Fin 2048 → EReal := fun k => at2 (A0 m c) (8192 + (1024 * q + r)) k
/-- The block after a point. -/
abbrev block (n : ℕ) (h : n < cfg0.N) (r : Fin 1024) (col : Fin 2048) : EReal := (outsAt0 m c n h).1 (ix2 r col)
/-- The scratch after a point. -/
abbrev kept (n : ℕ) (h : n < cfg0.N) (r : Fin 1024) (k : Fin 2048) : EReal := (outsAt0 m c n h).2 (ix2 r k)

/-- A step's tile is its part of the whole. -/
theorem tile_eq (h : Fin 2048 → EReal) (col : Fin 2048) :
    Ffn.tile h (fun k f => (iblk m c 2 t : Vec Ideal S1x2048x512 .bf16) (ix3 0 k f)) (fun k f => (iblk m c 3 t : Vec Ideal S1x2048x512 .bf16) (ix3 0 k f))
      (fun f => (iblk m c 4 t : Vec Ideal S1x512x2048 .bf16) (ix3 0 f col))
      = Ffn.part h (wg m c) (wu m c) (fun f => wo m c f col) (t.val % 11) := by
  simp only [blk2, blk3, blk4]
  rfl

theorem first : Ffn.First (block m c) (kept m c) (rows m c) (fun k => at1 (A1 m c) k) (wg m c) (wu m c) (wo m c) := fun n hn h r => by
  have e := outsAt0_A m c ⟨n, hn⟩ h (by show ¬1 ≤ n % 11; omega) (by show ¬n % 11 = 10; omega)
  dsimp only at e
  rw [out_A, scratch_A] at e
  unfold block kept
  rw [e]
  constructor
  · intro col
    refine (first_apply _ _ _ _ _ r col).trans ?_
    rw [tile_eq]
    simp only [blk0, blk1]
  · intro k
    refine (scratch_apply _ _ r k).trans ?_
    simp only [blk0, blk1]

theorem middle : Ffn.Middle (block m c) (kept m c) (wg m c) (wu m c) (wo m c) 10 := fun n hn h h' hp r => by
  have e := outsAt0_B m c ⟨n, hn⟩ h (by show 1 ≤ n % 11; omega) (by show ¬n % 11 = 10; omega)
  dsimp only at e
  rw [out_B] at e
  unfold block kept
  rw [e]
  constructor
  · intro col
    refine (step_apply _ _ _ _ _ r col).trans ?_
    rw [tile_eq]
  · intro k
    rfl

theorem last : Ffn.Last (block m c) (kept m c) (fun k => at1 (A4 m c) k) (wg m c) (wu m c) (wo m c) := fun n hn h hp r col => by
  have e := outsAt0_C m c ⟨n, hn⟩ (by show ¬n % 11 = 0; omega) (by show 1 ≤ n % 11; omega) h
  dsimp only at e
  rw [out_C] at e
  unfold block kept
  rw [e]
  refine (final_apply _ _ r col).trans ?_
  simp only [blk5]
  refine congrArg (fun x => Ffn.norm x _ col) (funext fun k => ?_)
  refine (step_apply _ _ _ _ _ r k).trans ?_
  rw [tile_eq]

/-- No two blocks that are written back overlap. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne =>
  (cfg0.win 6).disjoint_blk fun e => hne (Fin.ext (by
    have h1 := (flush0_6 t).mp h
    have h2 := (flush0_6 t').mp h'
    have e' : win0_6.index t 0 = win0_6.index t' 0 := congrFun e 0
    rw [(index_facts t).2.2.2.2.2.2, (index_facts t').2.2.2.2.2.2] at e'
    have e3 : t.val / 11 = t'.val / 11 := e'
    omega))

/-- The call's result array. -/
theorem array_eq : (dats m 0 c).arrAt 6 cfg0.N
    = fun i : S16384x2048.Idx => Ffn.norm (Ffn.rowOut (A0 m c) (fun k => at1 (A1 m c) k) (A2 m c) (A3 m c) 3 (8192 + (i 0).val)) (fun k => at1 (A4 m c) k) (i 1) := by
  funext i
  have h0 : (i 0).val < 16384 := (i 0).isLt
  let t : Fin cfg0.N := ⟨11 * ((i 0).val / 1024) + 10, by show 11 * ((i 0).val / 1024) + 10 < 176; omega⟩
  have hi := (index_facts t).2.2.2.2.2.2
  have e1 : (11 * ((i 0).val / 1024) + 10) / 11 = (i 0).val / 1024 := by omega
  let y : S1024x2048.Idx := ix2 ⟨(i 0).val % 1024, by omega⟩ (i 1)
  have hemb : ((cfg0.win 6).blk t).view.emb y = i := by
    funext a
    apply Fin.ext
    match a with
    | ⟨0, _⟩ =>
      show win0_6.index t 0 * 1024 + 1 * ((i 0).val % 1024) = (i 0).val
      rw [hi]
      show (11 * ((i 0).val / 1024) + 10) / 11 * 1024 + 1 * ((i 0).val % 1024) = _
      omega
    | ⟨1, _⟩ => show win0_6.index t 1 * 2048 + 1 * (i 1).val = (i 1).val; rw [hi]; show 0 * 2048 + 1 * (i 1).val = _; omega
  have hv := (dats m 0 c).arrAt_emb_eq_flushed 6 disjoint6 t ((flush0_6 t).mpr (by show (11 * ((i 0).val / 1024) + 10) % 11 = 10; omega)) y
  rw [hemb] at hv
  rw [hv]
  refine (cast_eq _ _).trans ?_
  rw [Value.flushed6]
  refine (Ffn.steps (first m c) (middle m c) (last m c) ((i 0).val / 1024) ⟨(i 0).val % 1024, by omega⟩ t.isLt (i 1)).trans ?_
  unfold Ffn.rowOut rows
  dsimp only
  rw [show 1024 * ((i 0).val / 1024) + (i 0).val % 1024 = (i 0).val by omega]

end
end Cert.LastSampleIdeal.Layer
-- ==== Proof.LastReference.lean ====
module

public import proofs.«01_k».proof.Proof.Gen.LastReferenceIdeal.Read
public import proofs.«01_k».proof.Proof.Gen.LastReferenceIdeal.Run
public import proofs.«01_k».proof.Proof.Ffn

/-! The reference's last feed-forward layer and final norm over the prompt, read at an index. -/

@[expose] public section

namespace Cert.LastReferenceIdeal.Layer
open Idealize Idealize.ShloMosaic Cert.LastReferenceIdeal Cert.LastReferenceIdeal.Gen Cert.LastReferenceIdeal.Read Idealize.ShloMosaic.Tactic Band
set_option maxRecDepth 16384
noncomputable section

variable (x0 : S24576x2048.Idx → EReal) (x1 : S2048.Idx → EReal) (x2 : S4x2048x11264.Idx → EReal) (x3 : S4x5632x2048.Idx → EReal) (x4 : S2048.Idx → EReal)

/-- The rows. -/
theorem rows (i : S8192x2048.Idx) : val_main_v0 (F := Ideal) x0 i = at2 x0 ((i 0).val) (i 1).val := by
  have h0 : (i 0).val < 8192 := (i 0).isLt
  have h1 : (i 1).val < 2048 := (i 1).isLt
  rw [val_main_v0_apply]
  unfold at2
  rw [dif_pos ⟨by omega, h1⟩]
  refine congrArg x0 (funext fun a => Fin.ext ?_)
  match a with
  | ⟨0, _⟩ => show _ = (i 0).val; rfl
  | ⟨1, _⟩ => rfl

/-- The rows, normalised. -/
theorem normed (i : S8192x2048.Idx) : val_main_v13 (F := Ideal) x0 x1 i
    = Ffn.norm (fun k => at2 x0 ((i 0).val) k) (fun k => at1 x1 k) (i 1) := by
  rw [val_main_v13_apply, val_main_v10_apply, val_main_v9_apply, val_main_v8_apply, val_main_v7_apply, val_main_v5_apply, val_main_v3_apply,
    val_main_v2_apply, val_main_v12_apply, val_main_v11_apply]
  simp only [val_main_v1_apply, rows]
  have e : x1 (idx_main_v11 (idx_main_v12 i)) = at1 x1 (i 1).val := by
    unfold at1
    rw [dif_pos (show (i 1).val < 2048 from (i 1).isLt)]
    refine congrArg x1 (funext fun a => Fin.ext ?_)
    match a with | ⟨0, _⟩ => rfl
  have z : val_main_cst (F := Ideal) (Shape.Idx.first h_S_) = 0 := Ideal.ofBits_zero_f32
  rw [e, z, zero_add]
  rfl

/-- The weights into the hidden layer. -/
theorem into (i : S2048x11264.Idx) : val_main_v15 (F := Ideal) x2 i = at3 x2 3 (i 0).val (i 1).val := by
  have h0 : (i 0).val < 2048 := (i 0).isLt
  have h1 : (i 1).val < 11264 := (i 1).isLt
  rw [val_main_v15_apply, val_main_v14_apply]
  unfold at3
  rw [dif_pos ⟨by omega, h0, h1⟩]
  refine congrArg x2 (funext fun a => Fin.ext ?_)
  match a with
  | ⟨0, _⟩ => rfl
  | ⟨1, _⟩ => show ((i 0).val * 11264 + (i 1).val) / 11264 % 2048 = (i 0).val; omega
  | ⟨2, _⟩ => show ((i 0).val * 11264 + (i 1).val) % 11264 = (i 1).val; omega

/-- The weights out of it. -/
theorem outOf (i : S5632x2048.Idx) : val_main_v17 (F := Ideal) x3 i = at3 x3 3 (i 0).val (i 1).val := by
  have h0 : (i 0).val < 5632 := (i 0).isLt
  have h1 : (i 1).val < 2048 := (i 1).isLt
  rw [val_main_v17_apply, val_main_v16_apply]
  unfold at3
  rw [dif_pos ⟨by omega, h0, h1⟩]
  refine congrArg x3 (funext fun a => Fin.ext ?_)
  match a with
  | ⟨0, _⟩ => rfl
  | ⟨1, _⟩ => show ((i 0).val * 2048 + (i 1).val) / 2048 % 5632 = (i 0).val; omega
  | ⟨2, _⟩ => show ((i 0).val * 2048 + (i 1).val) % 2048 = (i 1).val; omega

/-- A hidden column before the gate: the rows times the weights. -/
theorem hidden (i : S8192x11264.Idx) : val_main_v18 (F := Ideal) x0 x1 x2 i
    = ∑ k, Ffn.norm (fun k => at2 x0 ((i 0).val) k) (fun k => at1 x1 k) k * at3 x2 3 k (i 1).val := by
  rw [val_main_v18_apply]
  simp only [normed, into]
  rfl

/-- A hidden column. -/
theorem gated (i : S8192x5632.Idx) : val_main_v22 (F := Ideal) x0 x1 x2 i
    = Ffn.silu (∑ k, Ffn.norm (fun k => at2 x0 ((i 0).val) k) (fun k => at1 x1 k) k * at3 x2 3 k (i 1).val)
      * ∑ k, Ffn.norm (fun k => at2 x0 ((i 0).val) k) (fun k => at1 x1 k) k * at3 x2 3 k (5632 + (i 1).val) := by
  rw [val_main_v22_apply, val_main_v21_apply, val_main_call0_v5_apply, val_main_call0_v4_apply, val_main_call0_v3_apply, val_main_call0_v2_apply,
    val_main_call0_v1_apply, val_main_call0_v0_apply, val_main_v20_apply, val_main_v19_apply, hidden, hidden]
  show _ * Ideal.div (Ideal.ofBits .f32 0x3F800000#32) (Ideal.ofBits .f32 0x3F800000#32 + _) * _ = _
  rw [Ffn.one_word]
  rfl

/-- The layer's result. -/
theorem layer (i : S8192x2048.Idx) : val_main_v26 (F := Ideal) x0 x1 x2 x3 i
    = Ffn.rowOut x0 (fun k => at1 x1 k) x2 x3 3 ((i 0).val) (i 1) := by
  rw [val_main_v26_apply, val_main_v25_apply, val_main_v24_apply, val_main_v23_apply, rows]
  simp only [gated, outOf]
  rfl

/-- The result. -/
theorem result : val_main_v39 (F := Ideal) x0 x1 x2 x3 x4
    = fun i : S8192x2048.Idx => Ffn.norm (Ffn.rowOut x0 (fun k => at1 x1 k) x2 x3 3 ((i 0).val)) (fun k => at1 x4 k) (i 1) := by
  funext i
  rw [val_main_v39_apply, val_main_v36_apply, val_main_v35_apply, val_main_v34_apply, val_main_v33_apply, val_main_v31_apply, val_main_v29_apply,
    val_main_v28_apply, val_main_v38_apply, val_main_v37_apply]
  simp only [val_main_v27_apply, layer]
  have e : x4 (idx_main_v37 (idx_main_v38 i)) = at1 x4 (i 1).val := by
    unfold at1
    rw [dif_pos (show (i 1).val < 2048 from (i 1).isLt)]
    refine congrArg x4 (funext fun a => Fin.ext ?_)
    match a with | ⟨0, _⟩ => rfl
  have z : val_main_cst_3 (F := Ideal) (Shape.Idx.first h_S_) = 0 := Ideal.ofBits_zero_f32
  rw [e, z, zero_add]
  rfl

end
end Cert.LastReferenceIdeal.Layer
-- ==== Proof.LastSampleReference.lean ====
module

public import proofs.«01_k».proof.Proof.Gen.LastSampleReferenceIdeal.Read
public import proofs.«01_k».proof.Proof.Gen.LastSampleReferenceIdeal.Run
public import proofs.«01_k».proof.Proof.Ffn

/-! The reference's last feed-forward layer and final norm over the sample, read at an index. -/

@[expose] public section

namespace Cert.LastSampleReferenceIdeal.Layer
open Idealize Idealize.ShloMosaic Cert.LastSampleReferenceIdeal Cert.LastSampleReferenceIdeal.Gen Cert.LastSampleReferenceIdeal.Read Idealize.ShloMosaic.Tactic Band
set_option maxRecDepth 16384
noncomputable section

variable (x0 : S24576x2048.Idx → EReal) (x1 : S2048.Idx → EReal) (x2 : S4x2048x11264.Idx → EReal) (x3 : S4x5632x2048.Idx → EReal) (x4 : S2048.Idx → EReal)

/-- The rows. -/
theorem rows (i : S16384x2048.Idx) : val_main_v0 (F := Ideal) x0 i = at2 x0 (8192 + (i 0).val) (i 1).val := by
  have h0 : (i 0).val < 16384 := (i 0).isLt
  have h1 : (i 1).val < 2048 := (i 1).isLt
  rw [val_main_v0_apply]
  unfold at2
  rw [dif_pos ⟨by omega, h1⟩]
  refine congrArg x0 (funext fun a => Fin.ext ?_)
  match a with
  | ⟨0, _⟩ => show _ = 8192 + (i 0).val; rfl
  | ⟨1, _⟩ => rfl

/-- The rows, normalised. -/
theorem normed (i : S16384x2048.Idx) : val_main_v13 (F := Ideal) x0 x1 i
    = Ffn.norm (fun k => at2 x0 (8192 + (i 0).val) k) (fun k => at1 x1 k) (i 1) := by
  rw [val_main_v13_apply, val_main_v10_apply, val_main_v9_apply, val_main_v8_apply, val_main_v7_apply, val_main_v5_apply, val_main_v3_apply,
    val_main_v2_apply, val_main_v12_apply, val_main_v11_apply]
  simp only [val_main_v1_apply, rows]
  have e : x1 (idx_main_v11 (idx_main_v12 i)) = at1 x1 (i 1).val := by
    unfold at1
    rw [dif_pos (show (i 1).val < 2048 from (i 1).isLt)]
    refine congrArg x1 (funext fun a => Fin.ext ?_)
    match a with | ⟨0, _⟩ => rfl
  have z : val_main_cst (F := Ideal) (Shape.Idx.first h_S_) = 0 := Ideal.ofBits_zero_f32
  rw [e, z, zero_add]
  rfl

/-- The weights into the hidden layer. -/
theorem into (i : S2048x11264.Idx) : val_main_v15 (F := Ideal) x2 i = at3 x2 3 (i 0).val (i 1).val := by
  have h0 : (i 0).val < 2048 := (i 0).isLt
  have h1 : (i 1).val < 11264 := (i 1).isLt
  rw [val_main_v15_apply, val_main_v14_apply]
  unfold at3
  rw [dif_pos ⟨by omega, h0, h1⟩]
  refine congrArg x2 (funext fun a => Fin.ext ?_)
  match a with
  | ⟨0, _⟩ => rfl
  | ⟨1, _⟩ => show ((i 0).val * 11264 + (i 1).val) / 11264 % 2048 = (i 0).val; omega
  | ⟨2, _⟩ => show ((i 0).val * 11264 + (i 1).val) % 11264 = (i 1).val; omega

/-- The weights out of it. -/
theorem outOf (i : S5632x2048.Idx) : val_main_v17 (F := Ideal) x3 i = at3 x3 3 (i 0).val (i 1).val := by
  have h0 : (i 0).val < 5632 := (i 0).isLt
  have h1 : (i 1).val < 2048 := (i 1).isLt
  rw [val_main_v17_apply, val_main_v16_apply]
  unfold at3
  rw [dif_pos ⟨by omega, h0, h1⟩]
  refine congrArg x3 (funext fun a => Fin.ext ?_)
  match a with
  | ⟨0, _⟩ => rfl
  | ⟨1, _⟩ => show ((i 0).val * 2048 + (i 1).val) / 2048 % 5632 = (i 0).val; omega
  | ⟨2, _⟩ => show ((i 0).val * 2048 + (i 1).val) % 2048 = (i 1).val; omega

/-- A hidden column before the gate: the rows times the weights. -/
theorem hidden (i : S16384x11264.Idx) : val_main_v18 (F := Ideal) x0 x1 x2 i
    = ∑ k, Ffn.norm (fun k => at2 x0 (8192 + (i 0).val) k) (fun k => at1 x1 k) k * at3 x2 3 k (i 1).val := by
  rw [val_main_v18_apply]
  simp only [normed, into]
  rfl

/-- A hidden column. -/
theorem gated (i : S16384x5632.Idx) : val_main_v22 (F := Ideal) x0 x1 x2 i
    = Ffn.silu (∑ k, Ffn.norm (fun k => at2 x0 (8192 + (i 0).val) k) (fun k => at1 x1 k) k * at3 x2 3 k (i 1).val)
      * ∑ k, Ffn.norm (fun k => at2 x0 (8192 + (i 0).val) k) (fun k => at1 x1 k) k * at3 x2 3 k (5632 + (i 1).val) := by
  rw [val_main_v22_apply, val_main_v21_apply, val_main_call0_v5_apply, val_main_call0_v4_apply, val_main_call0_v3_apply, val_main_call0_v2_apply,
    val_main_call0_v1_apply, val_main_call0_v0_apply, val_main_v20_apply, val_main_v19_apply, hidden, hidden]
  show _ * Ideal.div (Ideal.ofBits .f32 0x3F800000#32) (Ideal.ofBits .f32 0x3F800000#32 + _) * _ = _
  rw [Ffn.one_word]
  rfl

/-- The layer's result. -/
theorem layer (i : S16384x2048.Idx) : val_main_v26 (F := Ideal) x0 x1 x2 x3 i
    = Ffn.rowOut x0 (fun k => at1 x1 k) x2 x3 3 (8192 + (i 0).val) (i 1) := by
  rw [val_main_v26_apply, val_main_v25_apply, val_main_v24_apply, val_main_v23_apply, rows]
  simp only [gated, outOf]
  rfl

/-- The result. -/
theorem result : val_main_v39 (F := Ideal) x0 x1 x2 x3 x4
    = fun i : S16384x2048.Idx => Ffn.norm (Ffn.rowOut x0 (fun k => at1 x1 k) x2 x3 3 (8192 + (i 0).val)) (fun k => at1 x4 k) (i 1) := by
  funext i
  rw [val_main_v39_apply, val_main_v36_apply, val_main_v35_apply, val_main_v34_apply, val_main_v33_apply, val_main_v31_apply, val_main_v29_apply,
    val_main_v28_apply, val_main_v38_apply, val_main_v37_apply]
  simp only [val_main_v27_apply, layer]
  have e : x4 (idx_main_v37 (idx_main_v38 i)) = at1 x4 (i 1).val := by
    unfold at1
    rw [dif_pos (show (i 1).val < 2048 from (i 1).isLt)]
    refine congrArg x4 (funext fun a => Fin.ext ?_)
    match a with | ⟨0, _⟩ => rfl
  have z : val_main_cst_3 (F := Ideal) (Shape.Idx.first h_S_) = 0 := Ideal.ofBits_zero_f32
  rw [e, z, zero_add]
  rfl

end
end Cert.LastSampleReferenceIdeal.Layer
-- ==== Proof.InnerBlock.lean ====
module

public import proofs.«01_k».proof.Proof.Gen.InnerIdeal.Value
public import proofs.«01_k».proof.Proof.LastBlock

/-! What one grid point of a feed-forward call that no final norm follows leaves in its block and in its scratch. -/

@[expose] public section

namespace Cert.InnerIdeal.Layer
open Cert.LastIdeal.Layer (z2 z3)
open Idealize Idealize.ShloMosaic Cert.InnerIdeal Cert.InnerIdeal.Gen Idealize.ShloMosaic.TcCoe Idealize.SL.Sem Idealize.ShloMosaic.Tactic
set_option maxRecDepth 16384
noncomputable section

/-- The normalised rows, as kept in the scratch. -/
theorem scratch_apply (x : S1024x2048.Idx → EReal) (g : S1x2048.Idx → EReal) (r : Fin 1024) (k : Fin 2048) :
    k0_pay4 (F := Ideal) x g (ix2 r k) = Ffn.norm (fun k => x (ix2 r k)) (fun k => g (ix2 0 k)) k :=
  Cert.LastIdeal.Layer.scratch_apply x g r k

/-- A step's sum. -/
theorem step_apply (o : S1024x2048.Idx → EReal) (h : S1024x2048.Idx → EReal) (wg wu : S1x2048x512.Idx → EReal) (wo : S1x512x2048.Idx → EReal)
    (r : Fin 1024) (c : Fin 2048) :
    k0_pay2 (F := Ideal) o h wg wu wo (ix2 r c)
      = o (ix2 r c) + Ffn.tile (fun k => h (ix2 r k)) (fun k f => wg (ix3 0 k f)) (fun k f => wu (ix3 0 k f)) (fun f => wo (ix3 0 f c)) :=
  Cert.LastIdeal.Layer.step_apply o h wg wu wo r c

/-- The first step's sum. -/
theorem first_apply (x : S1024x2048.Idx → EReal) (g : S1x2048.Idx → EReal) (wg wu : S1x2048x512.Idx → EReal) (wo : S1x512x2048.Idx → EReal)
    (r : Fin 1024) (c : Fin 2048) :
    k0_pay1 (F := Ideal) x (k0_pay5 x g wg wu wo) (ix2 r c)
      = x (ix2 r c) + Ffn.tile (Ffn.norm (fun k => x (ix2 r k)) (fun k => g (ix2 0 k))) (fun k f => wg (ix3 0 k f)) (fun k f => wu (ix3 0 k f)) (fun f => wo (ix3 0 f c)) :=
  Cert.LastIdeal.Layer.first_apply x g wg wu wo r c

section
variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S1x2048x512 .bf16) (h4 : a4.IsWhole) (a5 : Memref sig .tc .vmem S1x2048x512 .bf16) (h5 : a5.IsWhole)
    (a6 : Memref sig .tc .vmem S1x512x2048 .bf16) (h6 : a6.IsWhole) (a7 : Memref sig .tc .vmem S1024x2048 .f32) (h7 : a7.IsWhole)
    (a8 : Memref sig .tc .vmem S1024x2048 .bf16) (h8 : a8.IsWhole)
    (x0 : Vec Ideal S1024x2048 .f32) (x1 : Vec Ideal S1x2048 .f32) (x2 x3 : Vec Ideal S1x2048x512 .bf16) (x4 : Vec Ideal S1x512x2048 .bf16)
    (xo : Vec Ideal S1024x2048 .f32) (xs : Vec Ideal S1024x2048 .bf16)

/-- The block after a first step. -/
theorem out_A (k0 : cond0_0 i) (k1 : ¬cond0_1 i) :
    out0_A_5 c i a2 h2 a3 h3 a4 h4 a5 h5 a6 h6 a7 h7 a8 h8 k0 k1 x0 x1 x2 x3 x4 = k0_pay1 x0 (k0_pay5 x0 x1 x2 x3 x4) := by
  unfold out0_A_5
  rw [View.read_writes_eq_canon _ _ _ (cover0_A_5 c i a2 h2 a3 h3 a4 h4 a5 h5 a6 h6 a7 h7 a8 h8 k0 k1 x0 x1 x2 x3 x4)]
  unfold kernelRun0_A
  dsimp only
  sl_unfold_words
  rw [View.canon_unit_zero z2]
  simp only [View.readAt_eq_ld, h2.read_unread, h3.read_unread, h4.read_unread, h5.read_unread, h6.read_unread,
    View.ld_unit_zero (S := S1024x2048) z2, View.ld_unit_zero (S := S1x2048) z2, View.ld_unit_zero (S := S1x2048x512) z3, View.ld_unit_zero (S := S1x512x2048) z3]

/-- The scratch after a first step. -/
theorem scratch_A (k0 : cond0_0 i) (k1 : ¬cond0_1 i) :
    sout0_A_0 c i a2 h2 a3 h3 a4 h4 a5 h5 a6 h6 a7 h7 a8 h8 k0 k1 x0 x1 x2 x3 x4 = k0_pay4 x0 x1 := by
  unfold sout0_A_0
  rw [View.read_writes_eq_canon _ _ _ (scover0_A_0 c i a2 h2 a3 h3 a4 h4 a5 h5 a6 h6 a7 h7 a8 h8 k0 k1 x0 x1 x2 x3 x4)]
  unfold kernelRun0_A
  dsimp only
  sl_unfold_words
  rw [View.canon_unit_zero z2]
  simp only [View.readAt_eq_ld, h2.read_unread, h3.read_unread,
    View.ld_unit_zero (S := S1024x2048) z2, View.ld_unit_zero (S := S1x2048) z2]

/-- The block after a later step. -/
theorem out_B (k0 : ¬cond0_0 i) (k1 : cond0_1 i) :
    out0_B_5 c i a2 h2 a3 h3 a4 h4 a5 h5 a6 h6 a7 h7 a8 h8 k0 k1 x0 x1 x2 x3 x4 xo xs = k0_pay2 xo xs x2 x3 x4 := by
  unfold out0_B_5
  rw [View.read_writes_eq_canon _ _ _ (cover0_B_5 c i a2 h2 a3 h3 a4 h4 a5 h5 a6 h6 a7 h7 a8 h8 k0 k1 x0 x1 x2 x3 x4 xo xs)]
  unfold kernelRun0_B
  dsimp only
  sl_unfold_words
  rw [View.canon_unit_zero z2]
  simp only [View.readAt_eq_ld, h4.read_unread, h5.read_unread, h6.read_unread, h7.read_unread, h8.read_unread,
    View.ld_unit_zero (S := S1024x2048) z2, View.ld_unit_zero (S := S1x2048) z2, View.ld_unit_zero (S := S1x2048x512) z3, View.ld_unit_zero (S := S1x512x2048) z3]

end

end
end Cert.InnerIdeal.Layer
-- ==== Proof.InnerArray.lean ====
module

public import proofs.«01_k».proof.Proof.InnerBlock

/-! The result array of a feed-forward call that no final norm follows. -/

@[expose] public section

namespace Cert.InnerIdeal.Layer
open Idealize Idealize.ShloMosaic Cert.InnerIdeal Cert.InnerIdeal.Gen Idealize.ShloMosaic.TcCoe Idealize.SL.Sem Idealize.ShloMosaic.Tactic Band
open Idealize.ShloMosaic.Pipeline (Dat)
set_option maxRecDepth 16384
noncomputable section

variable (m : (ℓ : Loc nD τ sig) → Buf (Elt Ideal) ℓ) (c : Dev nD) (t : Fin cfg0.N)

/-- The rows. -/
abbrev A0 : S24576x2048.Idx → EReal := m ((c : Thread nD τ).loc main_arg0)
/-- The layer's gains. -/
abbrev A1 : S2048.Idx → EReal := m ((c : Thread nD τ).loc main_arg1)
/-- The weights into the hidden layer. -/
abbrev A2 : S4x2048x11264.Idx → EReal := m ((c : Thread nD τ).loc main_arg2)
/-- The weights out of it. -/
abbrev A3 : S4x5632x2048.Idx → EReal := m ((c : Thread nD τ).loc main_arg3)
/-- Which block each window reads or writes at a point. -/
theorem index_facts : ∀ t : Fin grid0.N, win0_0.index t = ![t.val / 11, 0] ∧ win0_1.index t = ![0, 0] ∧ win0_2.index t = ![3, 0, t.val % 11]
    ∧ win0_3.index t = ![3, 0, t.val % 11 + 11] ∧ win0_4.index t = ![3, t.val % 11, 0]
    ∧ win0_5.index t = ![t.val / 11, 0] := by decide +kernel

/-- The block of rows. -/
theorem blk0 (r : Fin 1024) (k : Fin 2048) : (iblk m c 0 t : Vec Ideal S1024x2048 .f32) (ix2 r k) = at2 (A0 m c) (1024 * (t.val / 11) + r) k := by
  have ht : t.val < 264 := t.isLt
  have hi := (index_facts t).1
  unfold at2
  rw [dif_pos ⟨by omega, k.isLt⟩]
  unfold iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 11) + r.val; rw [hi]; show t.val / 11 * 1024 + 1 * r.val = _; omega
  | ⟨1, _⟩ => show win0_0.index t 1 * 2048 + 1 * k.val = k.val; rw [hi]; show 0 * 2048 + 1 * k.val = _; omega

/-- The gains, as the call is handed them. -/
theorem gains : (V m c main_v2 : Vec Ideal S1x2048 .f32) = shapeCast S1x2048 (A1 m c) shapeCasts_S2048_S1x2048 := by
  show StableHlo.after hostOps0 _ (Proc.devRef .tc main_v2) = _
  after_results
  rfl

/-- The weights into the hidden layer, as the call is handed them. -/
theorem into : (V m c main_v0 : Vec Ideal S4x2048x11264 .bf16) = A2 m c := by
  show StableHlo.after hostOps0 _ (Proc.devRef .tc main_v0) = _
  after_results
  rfl

/-- The weights out of the hidden layer, as the call is handed them. -/
theorem outOf : (V m c main_v1 : Vec Ideal S4x5632x2048 .bf16) = A3 m c := by
  show StableHlo.after hostOps0 _ (Proc.devRef .tc main_v1) = _
  after_results
  rfl

/-- The block of gains. -/
theorem blk1 (k : Fin 2048) : (iblk m c 1 t : Vec Ideal S1x2048 .f32) (ix2 0 k) = at1 (A1 m c) k := by
  have hi := (index_facts t).2.1
  unfold iblk
  rw [View.read_apply]
  show V m c main_v2 _ = _
  rw [gains]
  refine Ffn.row_apply _ _ _ _ ?_ ?_
  · show win0_1.index t 0 * 1 + 1 * 0 = 0; rw [hi]; rfl
  · show win0_1.index t 1 * 2048 + 1 * k.val = k.val; rw [hi]; show 0 * 2048 + 1 * k.val = _; omega

/-- The block of gate weights. -/
theorem blk2 (k : Fin 2048) (f : Fin 512) :
    (iblk m c 2 t : Vec Ideal S1x2048x512 .bf16) (ix3 0 k f) = at3 (A2 m c) 3 k (512 * (t.val % 11) + f) := by
  have hi := (index_facts t).2.2.1
  unfold at3
  rw [dif_pos ⟨by omega, k.isLt, by omega⟩]
  unfold iblk
  rw [View.read_apply]
  show V m c main_v0 _ = _
  rw [into]
  refine congrArg (A2 m c) (funext fun a => Fin.ext ?_)
  match a with
  | ⟨0, _⟩ => show win0_2.index t 0 * 1 + 1 * 0 = 3; rw [hi]; rfl
  | ⟨1, _⟩ => show win0_2.index t 1 * 2048 + 1 * k.val = k.val; rw [hi]; show 0 * 2048 + 1 * k.val = _; omega
  | ⟨2, _⟩ => show win0_2.index t 2 * 512 + 1 * f.val = 512 * (t.val % 11) + f.val; rw [hi]; show t.val % 11 * 512 + 1 * f.val = _; omega

/-- The block of weights that are gated. -/
theorem blk3 (k : Fin 2048) (f : Fin 512) :
    (iblk m c 3 t : Vec Ideal S1x2048x512 .bf16) (ix3 0 k f) = at3 (A2 m c) 3 k (5632 + (512 * (t.val % 11) + f)) := by
  have hi := (index_facts t).2.2.2.1
  unfold at3
  rw [dif_pos ⟨by omega, k.isLt, by omega⟩]
  unfold iblk
  rw [View.read_apply]
  show V m c main_v0 _ = _
  rw [into]
  refine congrArg (A2 m c) (funext fun a => Fin.ext ?_)
  match a with
  | ⟨0, _⟩ => show win0_3.index t 0 * 1 + 1 * 0 = 3; rw [hi]; rfl
  | ⟨1, _⟩ => show win0_3.index t 1 * 2048 + 1 * k.val = k.val; rw [hi]; show 0 * 2048 + 1 * k.val = _; omega
  | ⟨2, _⟩ => show win0_3.index t 2 * 512 + 1 * f.val = 5632 + (512 * (t.val % 11) + f.val); rw [hi]; show (t.val % 11 + 11) * 512 + 1 * f.val = _; omega

/-- The block of weights out of the hidden layer. -/
theorem blk4 (f : Fin 512) (k : Fin 2048) :
    (iblk m c 4 t : Vec Ideal S1x512x2048 .bf16) (ix3 0 f k) = at3 (A3 m c) 3 (512 * (t.val % 11) + f) k := by
  have hi := (index_facts t).2.2.2.2.1
  unfold at3
  rw [dif_pos ⟨by omega, by omega, k.isLt⟩]
  unfold iblk
  rw [View.read_apply]
  show V m c main_v1 _ = _
  rw [outOf]
  refine congrArg (A3 m c) (funext fun a => Fin.ext ?_)
  match a with
  | ⟨0, _⟩ => show win0_4.index t 0 * 1 + 1 * 0 = 3; rw [hi]; rfl
  | ⟨1, _⟩ => show win0_4.index t 1 * 512 + 1 * f.val = 512 * (t.val % 11) + f.val; rw [hi]; show t.val % 11 * 512 + 1 * f.val = _; omega
  | ⟨2, _⟩ => show win0_4.index t 2 * 2048 + 1 * k.val = k.val; rw [hi]; show 0 * 2048 + 1 * k.val = _; omega

/-- The columns of the gate. -/
abbrev wg (k : Fin 2048) (f : ℕ) : EReal := at3 (A2 m c) 3 k f
/-- The columns that are gated. -/
abbrev wu (k : Fin 2048) (f : ℕ) : EReal := at3 (A2 m c) 3 k (5632 + f)
/-- The weights out of the hidden layer. -/
abbrev wo (f : ℕ) (col : Fin 2048) : EReal := at3 (A3 m c) 3 f col
/-- The rows a block starts from. -/
abbrev rows (q : ℕ) (r : Fin 1024) : Fin 2048 → EReal := fun k => at2 (A0 m c) (1024 * q + r) k
/-- The block after a point. -/
abbrev block (n : ℕ) (h : n < cfg0.N) (r : Fin 1024) (col : Fin 2048) : EReal := (outsAt0 m c n h).1 (ix2 r col)
/-- The scratch after a point. -/
abbrev kept (n : ℕ) (h : n < cfg0.N) (r : Fin 1024) (k : Fin 2048) : EReal := (outsAt0 m c n h).2 (ix2 r k)

/-- A step's tile is its part of the whole. -/
theorem tile_eq (h : Fin 2048 → EReal) (col : Fin 2048) :
    Ffn.tile h (fun k f => (iblk m c 2 t : Vec Ideal S1x2048x512 .bf16) (ix3 0 k f)) (fun k f => (iblk m c 3 t : Vec Ideal S1x2048x512 .bf16) (ix3 0 k f))
      (fun f => (iblk m c 4 t : Vec Ideal S1x512x2048 .bf16) (ix3 0 f col))
      = Ffn.part h (wg m c) (wu m c) (fun f => wo m c f col) (t.val % 11) := by
  simp only [blk2, blk3, blk4]
  rfl

theorem first : Ffn.First (block m c) (kept m c) (rows m c) (fun k => at1 (A1 m c) k) (wg m c) (wu m c) (wo m c) := fun n hn h r => by
  have e := outsAt0_A m c ⟨n, hn⟩ h (by show ¬1 ≤ n % 11; omega)
  dsimp only at e
  rw [out_A, scratch_A] at e
  unfold block kept
  rw [e]
  constructor
  · intro col
    refine (first_apply _ _ _ _ _ r col).trans ?_
    rw [tile_eq]
    simp only [blk0, blk1]
  · intro k
    refine (scratch_apply _ _ r k).trans ?_
    simp only [blk0, blk1]

theorem middle : Ffn.Middle (block m c) (kept m c) (wg m c) (wu m c) (wo m c) 11 := fun n hn h _ hp r => by
  have e := outsAt0_B m c ⟨n, hn⟩ h (by show 1 ≤ n % 11; omega)
  dsimp only at e
  rw [out_B] at e
  unfold block kept
  rw [e]
  constructor
  · intro col
    refine (step_apply _ _ _ _ _ r col).trans ?_
    rw [tile_eq]
  · intro k
    rfl

/-- No two blocks that are written back overlap. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne =>
  (cfg0.win 5).disjoint_blk fun e => hne (Fin.ext (by
    have h1 := (flush0_5 t).mp h
    have h2 := (flush0_5 t').mp h'
    have e' : win0_5.index t 0 = win0_5.index t' 0 := congrFun e 0
    rw [(index_facts t).2.2.2.2.2, (index_facts t').2.2.2.2.2] at e'
    have e3 : t.val / 11 = t'.val / 11 := e'
    omega))

/-- The call's result array. -/
theorem array_eq : (dats m 0 c).arrAt 5 cfg0.N
    = fun i : S24576x2048.Idx => Ffn.rowOut (A0 m c) (fun k => at1 (A1 m c) k) (A2 m c) (A3 m c) 3 (i 0).val (i 1) := by
  funext i
  have h0 : (i 0).val < 24576 := (i 0).isLt
  let t : Fin cfg0.N := ⟨11 * ((i 0).val / 1024) + 10, by show 11 * ((i 0).val / 1024) + 10 < 264; omega⟩
  have hi := (index_facts t).2.2.2.2.2
  have e1 : (11 * ((i 0).val / 1024) + 10) / 11 = (i 0).val / 1024 := by omega
  let y : S1024x2048.Idx := ix2 ⟨(i 0).val % 1024, by omega⟩ (i 1)
  have hemb : ((cfg0.win 5).blk t).view.emb y = i := by
    funext a
    apply Fin.ext
    match a with
    | ⟨0, _⟩ =>
      show win0_5.index t 0 * 1024 + 1 * ((i 0).val % 1024) = (i 0).val
      rw [hi]
      show (11 * ((i 0).val / 1024) + 10) / 11 * 1024 + 1 * ((i 0).val % 1024) = _
      omega
    | ⟨1, _⟩ => show win0_5.index t 1 * 2048 + 1 * (i 1).val = (i 1).val; rw [hi]; show 0 * 2048 + 1 * (i 1).val = _; omega
  have hv := (dats m 0 c).arrAt_emb_eq_flushed 5 disjoint5 t ((flush0_5 t).mpr (by show (11 * ((i 0).val / 1024) + 10) % 11 = 10; omega)) y
  rw [hemb] at hv
  rw [hv]
  refine (cast_eq _ _).trans ?_
  rw [Value.flushed5]
  refine (Ffn.all (first m c) (middle m c) ((i 0).val / 1024) ⟨(i 0).val % 1024, by omega⟩ t.isLt (i 1)).trans ?_
  unfold Ffn.rowOut rows
  dsimp only
  rw [show 1024 * ((i 0).val / 1024) + (i 0).val % 1024 = (i 0).val by omega]

end
end Cert.InnerIdeal.Layer
-- ==== Proof.InnerReference.lean ====
module

public import proofs.«01_k».proof.Proof.Gen.Inner.Frame
public import proofs.«01_k».proof.Proof.Gen.InnerReferenceIdeal.Read
public import proofs.«01_k».proof.Proof.Gen.InnerReferenceIdeal.Run
public import proofs.«01_k».proof.Proof.Ffn

/-! The reference's feed-forward layer that no final norm follows, read at an index. -/

@[expose] public section

namespace Cert.InnerReferenceIdeal.Layer
open Idealize Idealize.ShloMosaic Cert.InnerReferenceIdeal Cert.InnerReferenceIdeal.Gen Cert.InnerReferenceIdeal.Read Idealize.ShloMosaic.Tactic Band
set_option maxRecDepth 16384
noncomputable section

variable (x0 : S24576x2048.Idx → EReal) (x1 : S2048.Idx → EReal) (x2 : S4x2048x11264.Idx → EReal) (x3 : S4x5632x2048.Idx → EReal)

/-- An entry of the rows, by its coordinates. -/
theorem entry (j : S24576x2048.Idx) : x0 j = at2 x0 (j 0) (j 1) := (congrArg x0 (eq_ix2 j)).trans (at2_fin x0 _ _)

/-- The rows, normalised. -/
theorem normed (i : S24576x2048.Idx) : val_main_v12 (F := Ideal) x0 x1 i
    = Ffn.norm (fun k => at2 x0 ((i 0).val) k) (fun k => at1 x1 k) (i 1) := by
  rw [val_main_v12_apply, val_main_v9_apply, val_main_v8_apply, val_main_v7_apply, val_main_v6_apply, val_main_v4_apply, val_main_v2_apply,
    val_main_v1_apply, val_main_v11_apply, val_main_v10_apply]
  simp only [val_main_v0_apply]
  have e : x1 (idx_main_v10 (idx_main_v11 i)) = at1 x1 (i 1).val := by
    unfold at1
    rw [dif_pos (show (i 1).val < 2048 from (i 1).isLt)]
    refine congrArg x1 (funext fun a => Fin.ext ?_)
    match a with | ⟨0, _⟩ => rfl
  have z : val_main_cst (F := Ideal) (Shape.Idx.first h_S_) = 0 := Ideal.ofBits_zero_f32
  rw [e, z, zero_add]
  simp only [entry x0]
  rfl

/-- The weights into the hidden layer. -/
theorem into (i : S2048x11264.Idx) : val_main_v14 (F := Ideal) x2 i = at3 x2 3 (i 0).val (i 1).val := by
  have h0 : (i 0).val < 2048 := (i 0).isLt
  have h1 : (i 1).val < 11264 := (i 1).isLt
  rw [val_main_v14_apply, val_main_v13_apply]
  unfold at3
  rw [dif_pos ⟨by omega, h0, h1⟩]
  refine congrArg x2 (funext fun a => Fin.ext ?_)
  match a with
  | ⟨0, _⟩ => rfl
  | ⟨1, _⟩ => show ((i 0).val * 11264 + (i 1).val) / 11264 % 2048 = (i 0).val; omega
  | ⟨2, _⟩ => show ((i 0).val * 11264 + (i 1).val) % 11264 = (i 1).val; omega

/-- The weights out of it. -/
theorem outOf (i : S5632x2048.Idx) : val_main_v16 (F := Ideal) x3 i = at3 x3 3 (i 0).val (i 1).val := by
  have h0 : (i 0).val < 5632 := (i 0).isLt
  have h1 : (i 1).val < 2048 := (i 1).isLt
  rw [val_main_v16_apply, val_main_v15_apply]
  unfold at3
  rw [dif_pos ⟨by omega, h0, h1⟩]
  refine congrArg x3 (funext fun a => Fin.ext ?_)
  match a with
  | ⟨0, _⟩ => rfl
  | ⟨1, _⟩ => show ((i 0).val * 2048 + (i 1).val) / 2048 % 5632 = (i 0).val; omega
  | ⟨2, _⟩ => show ((i 0).val * 2048 + (i 1).val) % 2048 = (i 1).val; omega

/-- A hidden column before the gate: the rows times the weights. -/
theorem hidden (i : S24576x11264.Idx) : val_main_v17 (F := Ideal) x0 x1 x2 i
    = ∑ k, Ffn.norm (fun k => at2 x0 ((i 0).val) k) (fun k => at1 x1 k) k * at3 x2 3 k (i 1).val := by
  rw [val_main_v17_apply]
  simp only [normed, into]
  rfl

/-- A hidden column. -/
theorem gated (i : S24576x5632.Idx) : val_main_v21 (F := Ideal) x0 x1 x2 i
    = Ffn.silu (∑ k, Ffn.norm (fun k => at2 x0 ((i 0).val) k) (fun k => at1 x1 k) k * at3 x2 3 k (i 1).val)
      * ∑ k, Ffn.norm (fun k => at2 x0 ((i 0).val) k) (fun k => at1 x1 k) k * at3 x2 3 k (5632 + (i 1).val) := by
  rw [val_main_v21_apply, val_main_v20_apply, val_main_call0_v5_apply, val_main_call0_v4_apply, val_main_call0_v3_apply, val_main_call0_v2_apply,
    val_main_call0_v1_apply, val_main_call0_v0_apply, val_main_v19_apply, val_main_v18_apply, hidden, hidden]
  show _ * Ideal.div (Ideal.ofBits .f32 0x3F800000#32) (Ideal.ofBits .f32 0x3F800000#32 + _) * _ = _
  rw [Ffn.one_word]
  rfl

/-- The result. -/
theorem result : val_main_v25 (F := Ideal) x0 x1 x2 x3
    = fun i : S24576x2048.Idx => Ffn.rowOut x0 (fun k => at1 x1 k) x2 x3 3 (i 0).val (i 1) := by
  funext i
  rw [val_main_v25_apply, val_main_v24_apply, val_main_v23_apply, val_main_v22_apply, entry x0 i]
  simp only [gated, outOf]
  rfl

end
end Cert.InnerReferenceIdeal.Layer
-- ==== Proof.Product.lean ====
module

public import proofs.«01_k».proof.Proof.Ffn

/-! The products on either side of a mixer, row by row over the extended reals. -/

@[expose] public section

namespace Product
open Idealize Idealize.ShloMosaic Band
noncomputable section

/-- Row `r` of the input projection number `l`: the normalised row times the weights. -/
def project {n : ℕ} (x : (⟨2, ![24576, 2048]⟩ : Shape).Idx → EReal) (g : Fin 2048 → EReal) (w : (⟨3, ![2, 2048, n]⟩ : Shape).Idx → EReal)
    (l r c : ℕ) : EReal :=
  ∑ k : Fin 2048, Ffn.norm (fun k => at2 x r k) g k * at3 w l k c

/-- What the first of every `p` points writes to a scratch, the later ones keep. -/
theorem kept {α : Type} {N p : ℕ} {s : (n : ℕ) → n < N → α} {X : ℕ → α} (first : ∀ n h, n % p = 0 → s n h = X (n / p))
    (later : ∀ n (h : n + 1 < N), ¬(n + 1) % p = 0 → s (n + 1) h = s n (Nat.lt_of_succ_lt h)) : ∀ n h, s n h = X (n / p)
  | 0, h => first 0 h (Nat.zero_mod p)
  | n + 1, h => by
    by_cases e : (n + 1) % p = 0
    · exact first (n + 1) h e
    · rw [later n h e, kept first later n, Nat.succ_div_of_not_dvd fun d => e (Nat.mod_eq_zero_of_dvd d)]

/-- Row `r` of the output projection number `l`: the row, plus the mixer's row `o` times the weights. -/
def merge (x : (⟨2, ![24576, 2048]⟩ : Shape).Idx → EReal) (o : Fin 2048 → EReal) (w : (⟨3, ![2, 2048, 2048]⟩ : Shape).Idx → EReal)
    (l r c : ℕ) : EReal :=
  at2 x r c + ∑ k : Fin 2048, o k * at3 w l k c

/-- Two rows side by side. -/
def join (a b : (⟨2, ![24576, 1024]⟩ : Shape).Idx → EReal) (r : ℕ) (k : Fin 2048) : EReal :=
  if k.val < 1024 then at2 a r k else at2 b r (k - 1024)

/-- The product with two rows side by side is taken half by half. -/
theorem merge_join (x : (⟨2, ![24576, 2048]⟩ : Shape).Idx → EReal) (a b : (⟨2, ![24576, 1024]⟩ : Shape).Idx → EReal)
    (w : (⟨3, ![2, 2048, 2048]⟩ : Shape).Idx → EReal) (l r c : ℕ) :
    at2 x r c + (∑ k : Fin 1024, at2 a r k * at3 w l k c) + (∑ k : Fin 1024, at2 b r k * at3 w l (1024 + k) c) = merge x (join a b r) w l r c := by
  unfold merge
  rw [add_assoc, Fin.sum_univ_add (a := 1024) (b := 1024)]
  refine congrArg (at2 x r c + ·) (congrArg₂ (· + ·) (Finset.sum_congr rfl fun k _ => ?_) (Finset.sum_congr rfl fun k _ => ?_))
  · unfold join
    rw [if_pos (show (Fin.castAdd 1024 k).val < 1024 from k.isLt)]
    rfl
  · unfold join
    rw [if_neg (show ¬(Fin.natAdd 1024 k).val < 1024 by show ¬1024 + k.val < 1024; omega)]
    show _ = at2 b r (1024 + k.val - 1024) * _
    rw [Nat.add_sub_cancel_left]
    rfl

end
end Product
-- ==== Proof.ProjectArray.lean ====
module

public import proofs.«01_k».proof.Proof.Gen.ProjectIdeal.Value
public import proofs.«01_k».proof.Proof.Product
public import proofs.«01_k».proof.Proof.LastBlock

/-! The result array of the input projection. -/

@[expose] public section

namespace Cert.ProjectIdeal.Layer
open Idealize Idealize.ShloMosaic Cert.ProjectIdeal Cert.ProjectIdeal.Gen Idealize.ShloMosaic.TcCoe Idealize.SL.Sem Idealize.ShloMosaic.Tactic Band
open Cert.LastIdeal.Layer (z2 z3)
open Idealize.ShloMosaic.Pipeline (Dat)
set_option maxRecDepth 16384
noncomputable section

/-- The normalised rows, as kept in the scratch. -/
theorem scratch_apply (x : S1024x2048.Idx → EReal) (g : S1x2048.Idx → EReal) (r : Fin 1024) (k : Fin 2048) :
    k0_pay2 (F := Ideal) x g (ix2 r k) = Ffn.norm (fun k => x (ix2 r k)) (fun k => g (ix2 0 k)) k :=
  Cert.LastIdeal.Layer.scratch_apply x g r k

/-- The kept rows times a block of weights. -/
theorem later_apply (h : S1024x2048.Idx → EReal) (w : S1x2048x1024.Idx → EReal) (r f : Fin 1024) :
    k0_pay4 (F := Ideal) h w (ix2 r f) = ∑ k : Fin 2048, h (ix2 r k) * w (ix3 0 k f) := by
  pointwise [k0_pay4]

/-- The normalised rows times a block of weights. -/
theorem first_apply (x : S1024x2048.Idx → EReal) (g : S1x2048.Idx → EReal) (w : S1x2048x1024.Idx → EReal) (r f : Fin 1024) :
    k0_pay3 (F := Ideal) x g w (ix2 r f) = ∑ k : Fin 2048, Ffn.norm (fun k => x (ix2 r k)) (fun k => g (ix2 0 k)) k * w (ix3 0 k f) := by
  pointwise [k0_pay3, k0_pay1]
  rfl

section
variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S1024x2048 .bf16) (h6 : a6.IsWhole)
    (x0 : Vec Ideal S1024x2048 .f32) (x1 : Vec Ideal S1x2048 .f32) (x2 : Vec Ideal S1x2048x1024 .bf16) (xs : Vec Ideal S1024x2048 .bf16)

/-- The block after a first step. -/
theorem out_A (k0 : cond0_0 i) (k1 : ¬cond0_1 i) :
    out0_A_3 c i a2 h2 a3 h3 a4 h4 a5 h5 a6 h6 k0 k1 x0 x1 x2 = k0_pay3 x0 x1 x2 := by
  unfold out0_A_3
  rw [View.read_writes_eq_canon _ _ _ (cover0_A_3 c i a2 h2 a3 h3 a4 h4 a5 h5 a6 h6 k0 k1 x0 x1 x2)]
  unfold kernelRun0_A
  dsimp only
  sl_unfold_words
  rw [View.canon_unit_zero z2]
  simp only [View.readAt_eq_ld, h2.read_unread, h3.read_unread, h4.read_unread,
    View.ld_unit_zero (S := S1024x2048) z2, View.ld_unit_zero (S := S1x2048) z2, View.ld_unit_zero (S := S1x2048x1024) z3]

/-- The scratch after a first step. -/
theorem scratch_A (k0 : cond0_0 i) (k1 : ¬cond0_1 i) :
    sout0_A_0 c i a2 h2 a3 h3 a4 h4 a5 h5 a6 h6 k0 k1 x0 x1 x2 = k0_pay2 x0 x1 := by
  unfold sout0_A_0
  rw [View.read_writes_eq_canon _ _ _ (scover0_A_0 c i a2 h2 a3 h3 a4 h4 a5 h5 a6 h6 k0 k1 x0 x1 x2)]
  unfold kernelRun0_A
  dsimp only
  sl_unfold_words
  rw [View.canon_unit_zero z2]
  simp only [View.readAt_eq_ld, h2.read_unread, h3.read_unread,
    View.ld_unit_zero (S := S1024x2048) z2, View.ld_unit_zero (S := S1x2048) z2]

/-- The block after a later step. -/
theorem out_B (k0 : ¬cond0_0 i) (k1 : cond0_1 i) :
    out0_B_3 c i a2 h2 a3 h3 a4 h4 a5 h5 a6 h6 k0 k1 x0 x1 x2 xs = k0_pay4 xs x2 := by
  unfold out0_B_3
  rw [View.read_writes_eq_canon _ _ _ (cover0_B_3 c i a2 h2 a3 h3 a4 h4 a5 h5 a6 h6 k0 k1 x0 x1 x2 xs)]
  unfold kernelRun0_B
  dsimp only
  sl_unfold_words
  rw [View.canon_unit_zero z2]
  simp only [View.readAt_eq_ld, h4.read_unread, h6.read_unread,
    View.ld_unit_zero (S := S1024x2048) z2, View.ld_unit_zero (S := S1x2048x1024) z3]

end

variable (m : (ℓ : Loc nD τ sig) → Buf (Elt Ideal) ℓ) (c : Dev nD) (t : Fin cfg0.N)

/-- The rows. -/
abbrev A0 : S24576x2048.Idx → EReal := m ((c : Thread nD τ).loc main_arg0)
/-- The gains. -/
abbrev A1 : S2048.Idx → EReal := m ((c : Thread nD τ).loc main_arg1)
/-- The weights. -/
abbrev A2 : S2x2048x3072.Idx → EReal := m ((c : Thread nD τ).loc main_arg2)

/-- Which block each window reads or writes at a point. -/
theorem index_facts : ∀ t : Fin grid0.N, win0_0.index t = ![t.val / 3, 0] ∧ win0_1.index t = ![0, 0] ∧ win0_2.index t = ![1, 0, t.val % 3]
    ∧ win0_3.index t = ![t.val / 3, t.val % 3] := by decide +kernel

/-- The block of rows. -/
theorem blk0 (r : Fin 1024) (k : Fin 2048) : (iblk m c 0 t : Vec Ideal S1024x2048 .f32) (ix2 r k) = at2 (A0 m c) (1024 * (t.val / 3) + r) k := by
  have ht : t.val < 72 := t.isLt
  have hi := (index_facts t).1
  unfold at2
  rw [dif_pos ⟨by omega, k.isLt⟩]
  unfold iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 3) + r.val; rw [hi]; show t.val / 3 * 1024 + 1 * r.val = _; omega
  | ⟨1, _⟩ => show win0_0.index t 1 * 2048 + 1 * k.val = k.val; rw [hi]; show 0 * 2048 + 1 * k.val = _; omega

/-- The gains, as the call is handed them. -/
theorem gains : (V m c main_v1 : Vec Ideal S1x2048 .f32) = shapeCast S1x2048 (A1 m c) shapeCasts_S2048_S1x2048 := by
  show StableHlo.after hostOps0 _ (Proc.devRef .tc main_v1) = _
  after_results
  rfl

/-- The weights, as the call is handed them. -/
theorem weights : (V m c main_v0 : Vec Ideal S2x2048x3072 .bf16) = A2 m c := by
  show StableHlo.after hostOps0 _ (Proc.devRef .tc main_v0) = _
  after_results
  rfl

/-- The block of gains. -/
theorem blk1 (k : Fin 2048) : (iblk m c 1 t : Vec Ideal S1x2048 .f32) (ix2 0 k) = at1 (A1 m c) k := by
  have hi := (index_facts t).2.1
  unfold iblk
  rw [View.read_apply]
  show V m c main_v1 _ = _
  rw [gains]
  refine Ffn.row_apply _ _ _ _ ?_ ?_
  · show win0_1.index t 0 * 1 + 1 * 0 = 0; rw [hi]; rfl
  · show win0_1.index t 1 * 2048 + 1 * k.val = k.val; rw [hi]; show 0 * 2048 + 1 * k.val = _; omega

/-- The block of weights. -/
theorem blk2 (k : Fin 2048) (f : Fin 1024) :
    (iblk m c 2 t : Vec Ideal S1x2048x1024 .bf16) (ix3 0 k f) = at3 (A2 m c) 1 k (1024 * (t.val % 3) + f) := by
  have hi := (index_facts t).2.2.1
  unfold at3
  rw [dif_pos ⟨by omega, k.isLt, by omega⟩]
  unfold iblk
  rw [View.read_apply]
  show V m c main_v0 _ = _
  rw [weights]
  refine congrArg (A2 m c) (funext fun a => Fin.ext ?_)
  match a with
  | ⟨0, _⟩ => show win0_2.index t 0 * 1 + 1 * 0 = 1; rw [hi]; rfl
  | ⟨1, _⟩ => show win0_2.index t 1 * 2048 + 1 * k.val = k.val; rw [hi]; show 0 * 2048 + 1 * k.val = _; omega
  | ⟨2, _⟩ => show win0_2.index t 2 * 1024 + 1 * f.val = 1024 * (t.val % 3) + f.val; rw [hi]; show t.val % 3 * 1024 + 1 * f.val = _; omega

/-- What the scratch holds after a point: the normalised rows of the point's row block. -/
theorem kept (n : ℕ) (hn : n < cfg0.N) (r : Fin 1024) (k : Fin 2048) :
    ((outsAt0 m c n hn).2 (ix2 r k) : EReal) = Ffn.norm (fun k => at2 (A0 m c) (1024 * (n / 3) + r) k) (fun k => at1 (A1 m c) k) k := by
  refine Product.kept (s := fun n h => ((outsAt0 m c n h).2 (ix2 r k) : EReal))
    (X := fun q => Ffn.norm (fun k => at2 (A0 m c) (1024 * q + r) k) (fun k => at1 (A1 m c) k) k) (fun n h h0 => ?_) (fun n h h0 => ?_) n hn
  · have e := outsAt0_A m c ⟨n, h⟩ h0 (by show ¬1 ≤ n % 3; omega)
    dsimp only at e ⊢
    rw [e, scratch_A]
    refine (scratch_apply _ _ r k).trans ?_
    simp only [blk0, blk1]
  · have e := outsAt0_B m c ⟨n + 1, h⟩ h0 (by show 1 ≤ (n + 1) % 3; omega)
    dsimp only at e ⊢
    rw [e]
    unfold sout0_B_0
    simp only [Nat.add_sub_cancel]

/-- What a point leaves in its block of the result. -/
theorem block (r f : Fin 1024) : ((outsAt0 m c t.val t.isLt).1 (ix2 r f) : EReal)
    = Product.project (A0 m c) (fun k => at1 (A1 m c) k) (A2 m c) 1 (1024 * (t.val / 3) + r) (1024 * (t.val % 3) + f) := by
  unfold Product.project
  by_cases h : t.val % 3 = 0
  · rw [outsAt0_A m c t h (by omega)]
    dsimp only
    rw [out_A]
    refine (first_apply _ _ _ r f).trans ?_
    simp only [blk0, blk1, blk2]
  · rw [outsAt0_B m c t h (by omega)]
    dsimp only
    rw [out_B]
    refine (later_apply _ _ r f).trans (Finset.sum_congr rfl fun k _ => ?_)
    rw [kept, blk2, show (t.val - 1) / 3 = t.val / 3 by omega]

/-- The call's result array. -/
theorem array_eq : (dats m 0 c).arrAt 3 cfg0.N
    = fun i : S24576x3072.Idx => Product.project (A0 m c) (fun k => at1 (A1 m c) k) (A2 m c) 1 (i 0).val (i 1).val := by
  funext i
  have h0 : (i 0).val < 24576 := (i 0).isLt
  have h1 : (i 1).val < 3072 := (i 1).isLt
  let t : Fin cfg0.N := ⟨3 * ((i 0).val / 1024) + (i 1).val / 1024, by show 3 * ((i 0).val / 1024) + (i 1).val / 1024 < 72; omega⟩
  have hi := (index_facts t).2.2.2
  have e0 : t.val / 3 = (i 0).val / 1024 := by show (3 * ((i 0).val / 1024) + (i 1).val / 1024) / 3 = _; omega
  have e1 : t.val % 3 = (i 1).val / 1024 := by show (3 * ((i 0).val / 1024) + (i 1).val / 1024) % 3 = _; omega
  let y : S1024x1024.Idx := ix2 ⟨(i 0).val % 1024, by omega⟩ ⟨(i 1).val % 1024, by omega⟩
  have hemb : ((cfg0.win 3).blk t).view.emb y = i := by
    funext a
    apply Fin.ext
    match a with
    | ⟨0, _⟩ =>
      show win0_3.index t 0 * 1024 + 1 * ((i 0).val % 1024) = (i 0).val
      rw [hi]
      show t.val / 3 * 1024 + 1 * ((i 0).val % 1024) = _
      omega
    | ⟨1, _⟩ =>
      show win0_3.index t 1 * 1024 + 1 * ((i 1).val % 1024) = (i 1).val
      rw [hi]
      show t.val % 3 * 1024 + 1 * ((i 1).val % 1024) = _
      omega
  have hv := (dats m 0 c).arrAt_emb_eq_flushed 3 Value.disjoint3 t (flush0_3 t) y
  rw [hemb] at hv
  rw [hv]
  refine (cast_eq _ _).trans ?_
  rw [Value.flushed3]
  refine (block m c t ⟨(i 0).val % 1024, by omega⟩ ⟨(i 1).val % 1024, by omega⟩).trans ?_
  rw [e0, e1]
  dsimp only
  rw [show 1024 * ((i 0).val / 1024) + (i 0).val % 1024 = (i 0).val by omega, show 1024 * ((i 1).val / 1024) + (i 1).val % 1024 = (i 1).val by omega]

end
end Cert.ProjectIdeal.Layer
-- ==== Proof.ProjectReference.lean ====
module

public import proofs.«01_k».proof.Proof.Gen.Project.Frame
public import proofs.«01_k».proof.Proof.Gen.ProjectReferenceIdeal.Read
public import proofs.«01_k».proof.Proof.Gen.ProjectReferenceIdeal.Run
public import proofs.«01_k».proof.Proof.Product

/-! The reference's input projection, read at an index. -/

@[expose] public section

namespace Cert.ProjectReferenceIdeal.Layer
open Idealize Idealize.ShloMosaic Cert.ProjectReferenceIdeal Cert.ProjectReferenceIdeal.Gen Cert.ProjectReferenceIdeal.Read Idealize.ShloMosaic.Tactic Band
set_option maxRecDepth 16384
noncomputable section

variable (x0 : S24576x2048.Idx → EReal) (x1 : S2048.Idx → EReal) (x2 : S2x2048x3072.Idx → EReal)

/-- An entry of the rows, by its coordinates. -/
theorem entry (j : S24576x2048.Idx) : x0 j = at2 x0 (j 0) (j 1) := (congrArg x0 (eq_ix2 j)).trans (at2_fin x0 _ _)

/-- The rows, normalised. -/
theorem normed (i : S24576x2048.Idx) : val_main_v12 (F := Ideal) x0 x1 i
    = Ffn.norm (fun k => at2 x0 ((i 0).val) k) (fun k => at1 x1 k) (i 1) := by
  rw [val_main_v12_apply, val_main_v9_apply, val_main_v8_apply, val_main_v7_apply, val_main_v6_apply, val_main_v4_apply, val_main_v2_apply,
    val_main_v1_apply, val_main_v11_apply, val_main_v10_apply]
  simp only [val_main_v0_apply]
  have e : x1 (idx_main_v10 (idx_main_v11 i)) = at1 x1 (i 1).val := by
    unfold at1
    rw [dif_pos (show (i 1).val < 2048 from (i 1).isLt)]
    refine congrArg x1 (funext fun a => Fin.ext ?_)
    match a with | ⟨0, _⟩ => rfl
  have z : val_main_cst (F := Ideal) (Shape.Idx.first h_S_) = 0 := Ideal.ofBits_zero_f32
  rw [e, z, zero_add]
  simp only [entry x0]
  rfl

/-- The weights. -/
theorem weights (i : S2048x3072.Idx) : val_main_v14 (F := Ideal) x2 i = at3 x2 1 (i 0).val (i 1).val := by
  have h0 : (i 0).val < 2048 := (i 0).isLt
  have h1 : (i 1).val < 3072 := (i 1).isLt
  rw [val_main_v14_apply, val_main_v13_apply]
  unfold at3
  rw [dif_pos ⟨by omega, h0, h1⟩]
  refine congrArg x2 (funext fun a => Fin.ext ?_)
  match a with
  | ⟨0, _⟩ => rfl
  | ⟨1, _⟩ => show ((i 0).val * 3072 + (i 1).val) / 3072 % 2048 = (i 0).val; omega
  | ⟨2, _⟩ => show ((i 0).val * 3072 + (i 1).val) % 3072 = (i 1).val; omega

/-- The result. -/
theorem result : val_main_v16 (F := Ideal) x0 x1 x2
    = fun i : S24576x3072.Idx => Product.project x0 (fun k => at1 x1 k) x2 1 (i 0).val (i 1).val := by
  funext i
  rw [val_main_v16_apply, val_main_v15_apply]
  simp only [normed, weights]
  rfl

end
end Cert.ProjectReferenceIdeal.Layer
-- ==== Proof.ProjectEvenArray.lean ====
module

public import proofs.«01_k».proof.Proof.Gen.ProjectEvenIdeal.Value
public import proofs.«01_k».proof.Proof.ProjectArray

/-! The result array of the input projection of the even layers. -/

@[expose] public section

namespace Cert.ProjectEvenIdeal.Layer
open Idealize Idealize.ShloMosaic Cert.ProjectEvenIdeal Cert.ProjectEvenIdeal.Gen Idealize.ShloMosaic.TcCoe Idealize.SL.Sem Idealize.ShloMosaic.Tactic Band
open Cert.LastIdeal.Layer (z2 z3)
open Cert.ProjectIdeal.Layer (scratch_apply first_apply later_apply)
open Idealize.ShloMosaic.Pipeline (Dat)
set_option maxRecDepth 16384
noncomputable section

section
variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S1024x2048 .bf16) (h6 : a6.IsWhole)
    (x0 : Vec Ideal S1024x2048 .f32) (x1 : Vec Ideal S1x2048 .f32) (x2 : Vec Ideal S1x2048x1024 .bf16) (xs : Vec Ideal S1024x2048 .bf16)

/-- The block after a first step. -/
theorem out_A (k0 : cond0_0 i) (k1 : ¬cond0_1 i) :
    out0_A_3 c i a2 h2 a3 h3 a4 h4 a5 h5 a6 h6 k0 k1 x0 x1 x2 = k0_pay3 x0 x1 x2 := by
  unfold out0_A_3
  rw [View.read_writes_eq_canon _ _ _ (cover0_A_3 c i a2 h2 a3 h3 a4 h4 a5 h5 a6 h6 k0 k1 x0 x1 x2)]
  unfold kernelRun0_A
  dsimp only
  sl_unfold_words
  rw [View.canon_unit_zero z2]
  simp only [View.readAt_eq_ld, h2.read_unread, h3.read_unread, h4.read_unread,
    View.ld_unit_zero (S := S1024x2048) z2, View.ld_unit_zero (S := S1x2048) z2, View.ld_unit_zero (S := S1x2048x1024) z3]

/-- The scratch after a first step. -/
theorem scratch_A (k0 : cond0_0 i) (k1 : ¬cond0_1 i) :
    sout0_A_0 c i a2 h2 a3 h3 a4 h4 a5 h5 a6 h6 k0 k1 x0 x1 x2 = k0_pay2 x0 x1 := by
  unfold sout0_A_0
  rw [View.read_writes_eq_canon _ _ _ (scover0_A_0 c i a2 h2 a3 h3 a4 h4 a5 h5 a6 h6 k0 k1 x0 x1 x2)]
  unfold kernelRun0_A
  dsimp only
  sl_unfold_words
  rw [View.canon_unit_zero z2]
  simp only [View.readAt_eq_ld, h2.read_unread, h3.read_unread,
    View.ld_unit_zero (S := S1024x2048) z2, View.ld_unit_zero (S := S1x2048) z2]

/-- The block after a later step. -/
theorem out_B (k0 : ¬cond0_0 i) (k1 : cond0_1 i) :
    out0_B_3 c i a2 h2 a3 h3 a4 h4 a5 h5 a6 h6 k0 k1 x0 x1 x2 xs = k0_pay4 xs x2 := by
  unfold out0_B_3
  rw [View.read_writes_eq_canon _ _ _ (cover0_B_3 c i a2 h2 a3 h3 a4 h4 a5 h5 a6 h6 k0 k1 x0 x1 x2 xs)]
  unfold kernelRun0_B
  dsimp only
  sl_unfold_words
  rw [View.canon_unit_zero z2]
  simp only [View.readAt_eq_ld, h4.read_unread, h6.read_unread,
    View.ld_unit_zero (S := S1024x2048) z2, View.ld_unit_zero (S := S1x2048x1024) z3]

end

variable (m : (ℓ : Loc nD τ sig) → Buf (Elt Ideal) ℓ) (c : Dev nD) (t : Fin cfg0.N)

/-- The rows. -/
abbrev A0 : S24576x2048.Idx → EReal := m ((c : Thread nD τ).loc main_arg0)
/-- The gains. -/
abbrev A1 : S2048.Idx → EReal := m ((c : Thread nD τ).loc main_arg1)
/-- The weights. -/
abbrev A2 : S2x2048x4096.Idx → EReal := m ((c : Thread nD τ).loc main_arg2)

/-- Which block each window reads or writes at a point. -/
theorem index_facts : ∀ t : Fin grid0.N, win0_0.index t = ![t.val / 4, 0] ∧ win0_1.index t = ![0, 0] ∧ win0_2.index t = ![1, 0, t.val % 4]
    ∧ win0_3.index t = ![t.val / 4, t.val % 4] := by decide +kernel

/-- The block of rows. -/
theorem blk0 (r : Fin 1024) (k : Fin 2048) : (iblk m c 0 t : Vec Ideal S1024x2048 .f32) (ix2 r k) = at2 (A0 m c) (1024 * (t.val / 4) + r) k := by
  have ht : t.val < 96 := t.isLt
  have hi := (index_facts t).1
  unfold at2
  rw [dif_pos ⟨by omega, k.isLt⟩]
  unfold iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 4) + r.val; rw [hi]; show t.val / 4 * 1024 + 1 * r.val = _; omega
  | ⟨1, _⟩ => show win0_0.index t 1 * 2048 + 1 * k.val = k.val; rw [hi]; show 0 * 2048 + 1 * k.val = _; omega

/-- The gains, as the call is handed them. -/
theorem gains : (V m c main_v1 : Vec Ideal S1x2048 .f32) = shapeCast S1x2048 (A1 m c) shapeCasts_S2048_S1x2048 := by
  show StableHlo.after hostOps0 _ (Proc.devRef .tc main_v1) = _
  after_results
  rfl

/-- The weights, as the call is handed them. -/
theorem weights : (V m c main_v0 : Vec Ideal S2x2048x4096 .bf16) = A2 m c := by
  show StableHlo.after hostOps0 _ (Proc.devRef .tc main_v0) = _
  after_results
  rfl

/-- The block of gains. -/
theorem blk1 (k : Fin 2048) : (iblk m c 1 t : Vec Ideal S1x2048 .f32) (ix2 0 k) = at1 (A1 m c) k := by
  have hi := (index_facts t).2.1
  unfold iblk
  rw [View.read_apply]
  show V m c main_v1 _ = _
  rw [gains]
  refine Ffn.row_apply _ _ _ _ ?_ ?_
  · show win0_1.index t 0 * 1 + 1 * 0 = 0; rw [hi]; rfl
  · show win0_1.index t 1 * 2048 + 1 * k.val = k.val; rw [hi]; show 0 * 2048 + 1 * k.val = _; omega

/-- The block of weights. -/
theorem blk2 (k : Fin 2048) (f : Fin 1024) :
    (iblk m c 2 t : Vec Ideal S1x2048x1024 .bf16) (ix3 0 k f) = at3 (A2 m c) 1 k (1024 * (t.val % 4) + f) := by
  have hi := (index_facts t).2.2.1
  unfold at3
  rw [dif_pos ⟨by omega, k.isLt, by omega⟩]
  unfold iblk
  rw [View.read_apply]
  show V m c main_v0 _ = _
  rw [weights]
  refine congrArg (A2 m c) (funext fun a => Fin.ext ?_)
  match a with
  | ⟨0, _⟩ => show win0_2.index t 0 * 1 + 1 * 0 = 1; rw [hi]; rfl
  | ⟨1, _⟩ => show win0_2.index t 1 * 2048 + 1 * k.val = k.val; rw [hi]; show 0 * 2048 + 1 * k.val = _; omega
  | ⟨2, _⟩ => show win0_2.index t 2 * 1024 + 1 * f.val = 1024 * (t.val % 4) + f.val; rw [hi]; show t.val % 4 * 1024 + 1 * f.val = _; omega

/-- What the scratch holds after a point: the normalised rows of the point's row block. -/
theorem kept (n : ℕ) (hn : n < cfg0.N) (r : Fin 1024) (k : Fin 2048) :
    ((outsAt0 m c n hn).2 (ix2 r k) : EReal) = Ffn.norm (fun k => at2 (A0 m c) (1024 * (n / 4) + r) k) (fun k => at1 (A1 m c) k) k := by
  refine Product.kept (s := fun n h => ((outsAt0 m c n h).2 (ix2 r k) : EReal))
    (X := fun q => Ffn.norm (fun k => at2 (A0 m c) (1024 * q + r) k) (fun k => at1 (A1 m c) k) k) (fun n h h0 => ?_) (fun n h h0 => ?_) n hn
  · have e := outsAt0_A m c ⟨n, h⟩ h0 (by show ¬1 ≤ n % 4; omega)
    dsimp only at e ⊢
    rw [e, scratch_A]
    refine (scratch_apply _ _ r k).trans ?_
    simp only [blk0, blk1]
  · have e := outsAt0_B m c ⟨n + 1, h⟩ h0 (by show 1 ≤ (n + 1) % 4; omega)
    dsimp only at e ⊢
    rw [e]
    unfold sout0_B_0
    simp only [Nat.add_sub_cancel]

/-- What a point leaves in its block of the result. -/
theorem block (r f : Fin 1024) : ((outsAt0 m c t.val t.isLt).1 (ix2 r f) : EReal)
    = Product.project (A0 m c) (fun k => at1 (A1 m c) k) (A2 m c) 1 (1024 * (t.val / 4) + r) (1024 * (t.val % 4) + f) := by
  unfold Product.project
  by_cases h : t.val % 4 = 0
  · rw [outsAt0_A m c t h (by omega)]
    dsimp only
    rw [out_A]
    refine (first_apply _ _ _ r f).trans ?_
    simp only [blk0, blk1, blk2]
  · rw [outsAt0_B m c t h (by omega)]
    dsimp only
    rw [out_B]
    refine (later_apply _ _ r f).trans (Finset.sum_congr rfl fun k _ => ?_)
    rw [kept, blk2, show (t.val - 1) / 4 = t.val / 4 by omega]

/-- The call's result array. -/
theorem array_eq : (dats m 0 c).arrAt 3 cfg0.N
    = fun i : S24576x4096.Idx => Product.project (A0 m c) (fun k => at1 (A1 m c) k) (A2 m c) 1 (i 0).val (i 1).val := by
  funext i
  have h0 : (i 0).val < 24576 := (i 0).isLt
  have h1 : (i 1).val < 4096 := (i 1).isLt
  let t : Fin cfg0.N := ⟨4 * ((i 0).val / 1024) + (i 1).val / 1024, by show 4 * ((i 0).val / 1024) + (i 1).val / 1024 < 96; omega⟩
  have hi := (index_facts t).2.2.2
  have e0 : t.val / 4 = (i 0).val / 1024 := by show (4 * ((i 0).val / 1024) + (i 1).val / 1024) / 4 = _; omega
  have e1 : t.val % 4 = (i 1).val / 1024 := by show (4 * ((i 0).val / 1024) + (i 1).val / 1024) % 4 = _; omega
  let y : S1024x1024.Idx := ix2 ⟨(i 0).val % 1024, by omega⟩ ⟨(i 1).val % 1024, by omega⟩
  have hemb : ((cfg0.win 3).blk t).view.emb y = i := by
    funext a
    apply Fin.ext
    match a with
    | ⟨0, _⟩ =>
      show win0_3.index t 0 * 1024 + 1 * ((i 0).val % 1024) = (i 0).val
      rw [hi]
      show t.val / 4 * 1024 + 1 * ((i 0).val % 1024) = _
      omega
    | ⟨1, _⟩ =>
      show win0_3.index t 1 * 1024 + 1 * ((i 1).val % 1024) = (i 1).val
      rw [hi]
      show t.val % 4 * 1024 + 1 * ((i 1).val % 1024) = _
      omega
  have hv := (dats m 0 c).arrAt_emb_eq_flushed 3 Value.disjoint3 t (flush0_3 t) y
  rw [hemb] at hv
  rw [hv]
  refine (cast_eq _ _).trans ?_
  rw [Value.flushed3]
  refine (block m c t ⟨(i 0).val % 1024, by omega⟩ ⟨(i 1).val % 1024, by omega⟩).trans ?_
  rw [e0, e1]
  dsimp only
  rw [show 1024 * ((i 0).val / 1024) + (i 0).val % 1024 = (i 0).val by omega, show 1024 * ((i 1).val / 1024) + (i 1).val % 1024 = (i 1).val by omega]

end
end Cert.ProjectEvenIdeal.Layer
-- ==== Proof.ProjectEvenReference.lean ====
module

public import proofs.«01_k».proof.Proof.Gen.ProjectEven.Frame
public import proofs.«01_k».proof.Proof.Gen.ProjectEvenReferenceIdeal.Read
public import proofs.«01_k».proof.Proof.Gen.ProjectEvenReferenceIdeal.Run
public import proofs.«01_k».proof.Proof.Product

/-! The reference's input projection of the even layers, read at an index. -/

@[expose] public section

namespace Cert.ProjectEvenReferenceIdeal.Layer
open Idealize Idealize.ShloMosaic Cert.ProjectEvenReferenceIdeal Cert.ProjectEvenReferenceIdeal.Gen Cert.ProjectEvenReferenceIdeal.Read Idealize.ShloMosaic.Tactic Band
set_option maxRecDepth 16384
noncomputable section

variable (x0 : S24576x2048.Idx → EReal) (x1 : S2048.Idx → EReal) (x2 : S2x2048x4096.Idx → EReal)

/-- An entry of the rows, by its coordinates. -/
theorem entry (j : S24576x2048.Idx) : x0 j = at2 x0 (j 0) (j 1) := (congrArg x0 (eq_ix2 j)).trans (at2_fin x0 _ _)

/-- The rows, normalised. -/
theorem normed (i : S24576x2048.Idx) : val_main_v12 (F := Ideal) x0 x1 i
    = Ffn.norm (fun k => at2 x0 ((i 0).val) k) (fun k => at1 x1 k) (i 1) := by
  rw [val_main_v12_apply, val_main_v9_apply, val_main_v8_apply, val_main_v7_apply, val_main_v6_apply, val_main_v4_apply, val_main_v2_apply,
    val_main_v1_apply, val_main_v11_apply, val_main_v10_apply]
  simp only [val_main_v0_apply]
  have e : x1 (idx_main_v10 (idx_main_v11 i)) = at1 x1 (i 1).val := by
    unfold at1
    rw [dif_pos (show (i 1).val < 2048 from (i 1).isLt)]
    refine congrArg x1 (funext fun a => Fin.ext ?_)
    match a with | ⟨0, _⟩ => rfl
  have z : val_main_cst (F := Ideal) (Shape.Idx.first h_S_) = 0 := Ideal.ofBits_zero_f32
  rw [e, z, zero_add]
  simp only [entry x0]
  rfl

/-- The weights. -/
theorem weights (i : S2048x4096.Idx) : val_main_v14 (F := Ideal) x2 i = at3 x2 1 (i 0).val (i 1).val := by
  have h0 : (i 0).val < 2048 := (i 0).isLt
  have h1 : (i 1).val < 4096 := (i 1).isLt
  rw [val_main_v14_apply, val_main_v13_apply]
  unfold at3
  rw [dif_pos ⟨by omega, h0, h1⟩]
  refine congrArg x2 (funext fun a => Fin.ext ?_)
  match a with
  | ⟨0, _⟩ => rfl
  | ⟨1, _⟩ => show ((i 0).val * 4096 + (i 1).val) / 4096 % 2048 = (i 0).val; omega
  | ⟨2, _⟩ => show ((i 0).val * 4096 + (i 1).val) % 4096 = (i 1).val; omega

/-- The result. -/
theorem result : val_main_v16 (F := Ideal) x0 x1 x2
    = fun i : S24576x4096.Idx => Product.project x0 (fun k => at1 x1 k) x2 1 (i 0).val (i 1).val := by
  funext i
  rw [val_main_v16_apply, val_main_v15_apply]
  simp only [normed, weights]
  rfl

end
end Cert.ProjectEvenReferenceIdeal.Layer
-- ==== Proof.Bucket.lean ====
module

public import proofs.«01_k».proof.Proof.Band

/-! The bias of a pair of positions: the table's row of its bucket inside the window, minus infinity outside. -/

@[expose] public section

namespace Bucket
open Idealize.ShloMosaic Band
noncomputable section

/-- Position `j` of the 384 is within 128 of row `q`, in the words both programs compute it with. -/
def near (q j : ℕ) : BitVec 1 :=
  IntOp.cmpi .sle (IntOp.absi (IntOp.subi (IntOp.subi (BitVec.ofNat 32 j) 128#32) (BitVec.ofNat 32 q))) 128#32

/-- The bias of head `h` at row `q` and position `j`, whose bucket is `b`. -/
def bias (x : (⟨2, ![32, 16]⟩ : Shape).Idx → EReal) (b : BitVec 32) (h q j : ℕ) : EReal :=
  Scalar.select (near q j) (at2 x b.toNat h) ⊥

/-- The choice among the first `n` entries of a column by the bucket `b`, zero where `b` names none of them. -/
def pick (b : BitVec 32) (f : ℕ → EReal) : ℕ → EReal
  | 0 => 0
  | n + 1 => Scalar.select (IntOp.cmpi .eq b (BitVec.ofNat 32 n)) (f n) (pick b f n)

/-- A bucket among the first `n` picks its own entry. -/
theorem pick_eq (b : BitVec 32) (f : ℕ → EReal) (n : ℕ) (hn : n ≤ 32) (hb : b.toNat < n) : pick b f n = f b.toNat := by
  induction n with
  | zero => omega
  | succ n ih =>
    unfold pick Scalar.select IntOp.cmpi
    by_cases e : b.toNat = n
    · have hw : b = BitVec.ofNat 32 n := BitVec.eq_of_toNat_eq (by rw [BitVec.toNat_ofNat, Nat.mod_eq_of_lt (by omega)]; exact e)
      rw [if_pos (by rw [hw]; simp), e]
    · have hw : b ≠ BitVec.ofNat 32 n := fun h => e (by rw [h, BitVec.toNat_ofNat, Nat.mod_eq_of_lt (by omega)])
      rw [if_neg (by rw [beq_false_of_ne hw]; dsimp only; decide)]
      exact ih (by omega) (by omega)

end
end Bucket
-- ==== Proof.BiasArray.lean ====
module

public import proofs.«01_k».proof.Proof.Gen.BiasIdeal.Value
public import proofs.«01_k».proof.Proof.Bucket
public import proofs.«01_k».proof.Proof.LastBlock

/-! The result array of the bias call. -/

@[expose] public section

namespace Cert.BiasIdeal.Layer
open Idealize Idealize.ShloMosaic Cert.BiasIdeal Cert.BiasIdeal.Gen Idealize.ShloMosaic.TcCoe Idealize.SL.Sem Idealize.ShloMosaic.Tactic Band Bucket
open Cert.LastIdeal.Layer (z2 z3)
open Idealize.ShloMosaic.Pipeline (Dat)
set_option maxRecDepth 16384
noncomputable section

/-- One entry loaded from the table. -/
theorem ld_entry (x : Vec Ideal S32x16 .f32) (n h : ℕ) (inb : ∀ a, (![n, h] : Fin 2 → ℕ) a + (![1, 1] : Fin 2 → ℕ) a ≤ S32x16.size a)
    (z : (Rect.unit (s := S32x16) ![n, h] ![1, 1] inb).shape.Idx) : View.ld x (Rect.unit (s := S32x16) ![n, h] ![1, 1] inb) z = at2 x n h := by
  have h0 : n + 1 ≤ 32 := inb 0
  have h1 : h + 1 ≤ 16 := inb 1
  have z0 : (z 0).val < 1 := (z 0).isLt
  have z1 : (z 1).val < 1 := (z 1).isLt
  unfold at2
  rw [dif_pos ⟨by omega, by omega⟩]
  refine congrArg x (funext fun a => Fin.ext ?_)
  match a with
  | 0 => show n + 1 * (z 0).val = n; omega
  | 1 => show h + 1 * (z 1).val = h; omega

/-- The head a point works on, as the loads compute it. -/
theorem head (i : grid0.Coords) : (Scalar.indexCast (BitVec.ofNat 32 (i 0).val)).toNat = (i 0).val := by
  have h : (i 0).val < 16 := (i 0).isLt
  rw [Scalar.indexCast, BitVec.toNat_ofNat]
  omega

/-- The entry a point loads from row `n` lies in the table. -/
theorem inside (i : grid0.Coords) (n : ℕ) (a : Fin 2) :
    (![n % 32, (Scalar.indexCast (BitVec.ofNat 32 (i 0).val)).toNat] : Fin 2 → ℕ) a + (![1, 1] : Fin 2 → ℕ) a ≤ S32x16.size a := by
  have h : (i 0).val < 16 := (i 0).isLt
  rw [head]
  match a with
  | 0 => show n % 32 + 1 ≤ 32; omega
  | 1 => show (i 0).val + 1 ≤ 16; omega

/-- The entry of row `n` a point loads. -/
def entry (x : Vec Ideal S32x16 .f32) (i : grid0.Coords) (n : ℕ) : EReal :=
  View.ld x (Rect.unit (s := S32x16) ![n % 32, (Scalar.indexCast (BitVec.ofNat 32 (i 0).val)).toNat] ![1, 1] (inside i n))
    (Shape.Idx.first (s := S1x1) (numel1_S1x1.symm ▸ Nat.one_pos))

/-- It is the table's. -/
theorem entry_eq (x : Vec Ideal S32x16 .f32) (i : grid0.Coords) (n : ℕ) (hn : n < 32) : entry x i n = at2 x n (i 0).val := by
  unfold entry
  rw [ld_entry, head, Nat.mod_eq_of_lt hn]

/-- The bucket's entry, before the window is applied. -/
theorem chain (b : S128x384.Idx → BitVec 32) (f : ℕ → EReal) (q : Fin 128) (j : Fin 384) :
    k0_pay1 (F := Ideal) b (iota .tc S128x384 32 [0] iota_S128x384_d0_w32) k0_pay2
      (k0_pay7 b (k0_pay6 b (k0_pay4 b (k0_pay3 b (f 0) (f 1) (f 2) (f 3) (f 4) (f 5)) 6#32 (f 6) (f 7) (f 8) (f 9) (f 10) (f 11) (f 12))
        (k0_pay5 (F := Ideal) b) (f 13) (f 14) (f 15) (f 16) (f 17) (f 18) (f 19) (f 20)) 21#32 (f 21) (f 22) (f 23) (f 24) (f 25) (f 26) (f 27))
      (k0_pay8 (F := Ideal) b) (f 28) (f 29) (f 30) (f 31) (ix3 0 q j)
      = Scalar.select (near q j) (pick (b (ix2 q j)) f 32) ⊥ := by
  pointwise [k0_pay1, k0_pay2, k0_pay3, k0_pay4, k0_pay5, k0_pay6, k0_pay7, k0_pay8]
  rfl

/-- A block of the result. -/
theorem out_apply (c : Dev nD) (i : grid0.Coords) (a1 : Memref sig .tc .vmem S128x384 .i32) (h1 : a1.IsWhole) (a2 : Memref sig .tc .smem S32x16 .f32) (h2 : a2.IsWhole)
    (a3 : Memref sig .tc .vmem S1x128x384 .f32) (h3 : a3.IsWhole) (x0 : Vec Ideal S128x384 .i32) (x1 : Vec Ideal S32x16 .f32) (q : Fin 128) (j : Fin 384)
    (hb : (x0 (ix2 q j) : BitVec 32).toNat < 32) :
    (out0_A_2 c i a1 h1 a2 h2 a3 h3 x0 x1 (ix3 0 q j) : EReal) = bias x1 (x0 (ix2 q j)) (i 0).val q j := by
  unfold out0_A_2
  rw [View.read_writes_eq_canon _ _ _ (cover0_A_2 c i a1 h1 a2 h2 a3 h3 x0 x1)]
  unfold kernelRun0_A
  dsimp only
  sl_unfold_words
  rw [View.canon_unit_zero z3]
  simp only [View.readAt_eq_ld, h1.read_unread, h2.read_unread, View.ld_unit_zero (S := S128x384) z2]
  refine (chain x0 (entry x1 i) q j).trans ?_
  rw [pick_eq _ _ 32 le_rfl hb, entry_eq x1 i _ hb]
  rfl

variable (m : (ℓ : Loc nD τ sig) → Buf (Elt Ideal) ℓ) (c : Dev nD) (t : Fin cfg0.N)

/-- The buckets. -/
abbrev A0 : S128x384.Idx → BitVec 32 := m ((c : Thread nD τ).loc main_arg0)
/-- The table. -/
abbrev A1 : S32x16.Idx → EReal := m ((c : Thread nD τ).loc main_arg1)

/-- Which block each window reads or writes at a point. -/
theorem index_facts : ∀ t : Fin grid0.N, (grid0.coords t 0).val = t.val ∧ win0_0.index t = ![0, 0] ∧ win0_1.index t = ![0, 0]
    ∧ win0_2.index t = ![t.val, 0, 0] := by decide +kernel

/-- The buckets are staged whole. -/
theorem blk0 : (iblk m c 0 t : Vec Ideal S128x384 .i32) = A0 m c := by
  have hi := (index_facts t).2.1
  funext y
  unfold iblk
  rw [View.read_apply]
  show V m c main_arg0 _ = _
  rw [V_main_arg0]
  refine congrArg (A0 m c) (funext fun a => Fin.ext ?_)
  match a with
  | ⟨0, _⟩ => show win0_0.index t 0 * 128 + 1 * (y 0).val = (y 0).val; rw [hi]; show 0 * 128 + 1 * (y 0).val = _; omega
  | ⟨1, _⟩ => show win0_0.index t 1 * 384 + 1 * (y 1).val = (y 1).val; rw [hi]; show 0 * 384 + 1 * (y 1).val = _; omega

/-- The table is staged whole. -/
theorem blk1 : (iblk m c 1 t : Vec Ideal S32x16 .f32) = A1 m c := by
  have hi := (index_facts t).2.2.1
  funext y
  unfold iblk
  rw [View.read_apply]
  show V m c main_arg1 _ = _
  rw [V_main_arg1]
  refine congrArg (A1 m c) (funext fun a => Fin.ext ?_)
  match a with
  | ⟨0, _⟩ => show win0_1.index t 0 * 32 + 1 * (y 0).val = (y 0).val; rw [hi]; show 0 * 32 + 1 * (y 0).val = _; omega
  | ⟨1, _⟩ => show win0_1.index t 1 * 16 + 1 * (y 1).val = (y 1).val; rw [hi]; show 0 * 16 + 1 * (y 1).val = _; omega

/-- The call's result array. -/
theorem array_eq (hb : ∀ i, (A0 m c i).toNat < 32) : (dats m 0 c).arrAt 2 cfg0.N
    = fun i : S16x128x384.Idx => bias (A1 m c) (A0 m c (ix2 (i 1) (i 2))) (i 0).val (i 1).val (i 2).val := by
  funext i
  let t : Fin cfg0.N := i 0
  have hi := (index_facts t).2.2.2
  have hc : (grid0.coords t 0).val = (i 0).val := (index_facts t).1
  let y : S1x128x384.Idx := ix3 0 (i 1) (i 2)
  have hemb : ((cfg0.win 2).blk t).view.emb y = i := by
    funext a
    apply Fin.ext
    match a with
    | ⟨0, _⟩ => show win0_2.index t 0 * 1 + 1 * 0 = (i 0).val; rw [hi]; show (i 0).val * 1 + 1 * 0 = _; omega
    | ⟨1, _⟩ => show win0_2.index t 1 * 128 + 1 * (i 1).val = (i 1).val; rw [hi]; show 0 * 128 + 1 * (i 1).val = _; omega
    | ⟨2, _⟩ => show win0_2.index t 2 * 384 + 1 * (i 2).val = (i 2).val; rw [hi]; show 0 * 384 + 1 * (i 2).val = _; omega
  have hv := (dats m 0 c).arrAt_emb_eq_flushed 2 Value.disjoint2 t (flush0_2 t) y
  rw [hemb] at hv
  rw [hv]
  refine (cast_eq _ _).trans ?_
  rw [Value.flushed2_A, blk0, blk1]
  refine (out_apply c (grid0.coords t) _ _ _ _ _ _ (A0 m c) (A1 m c) (i 1) (i 2) (hb _)).trans ?_
  rw [hc]

end
end Cert.BiasIdeal.Layer
-- ==== Proof.BiasReference.lean ====
module

public import proofs.«01_k».proof.Pre_in_table
public import proofs.«01_k».proof.Proof.Gen.Bias.Frame
public import proofs.«01_k».proof.Proof.Gen.BiasReferenceIdeal.Read
public import proofs.«01_k».proof.Proof.Gen.BiasReferenceIdeal.Run
public import proofs.«01_k».proof.Proof.Bucket

/-! The reference's bias, read at an index, for buckets that are rows of the table. -/

@[expose] public section

namespace Cert.BiasReferenceIdeal.Layer
open Idealize Idealize.ShloMosaic Cert.BiasReferenceIdeal Cert.BiasReferenceIdeal.Gen Cert.BiasReferenceIdeal.Read Idealize.ShloMosaic.Tactic Band Bucket
set_option maxRecDepth 16384
noncomputable section

/-- The precondition's side conditions. -/
theorem table_facts : Cert.Pre_in_table.Facts := ⟨by decide⟩

/-- A word that is at least zero and less than 32, both as signed numbers, is less than 32. -/
theorem small (b : BitVec 32) (h0 : IntOp.cmpi .sge b 0#32 = 1#1) (h1 : IntOp.cmpi .slt b 32#32 = 1#1) : b.toNat < 32 ∧ IntOp.cmpi .slt b 0#32 = 0#1 := by
  have e0 : (0#32).sle b = true := by
    by_contra hn
    exact absurd h0 (by unfold IntOp.cmpi; dsimp only; rw [Bool.eq_false_iff.2 hn]; decide)
  have e1 : b.slt 32#32 = true := by
    by_contra hn
    exact absurd h1 (by unfold IntOp.cmpi; dsimp only; rw [Bool.eq_false_iff.2 hn]; decide)
  rw [BitVec.sle_iff_toInt_le] at e0
  rw [BitVec.slt_iff_toInt_lt] at e1
  have c0 : (0#32).toInt = 0 := rfl
  have c1 : (32#32).toInt = 32 := rfl
  rw [c0] at e0
  rw [c1] at e1
  have hi := BitVec.toInt_eq_toNat_cond b
  have hl := b.isLt
  refine ⟨by split_ifs at hi <;> omega, ?_⟩
  have e2 : b.slt 0#32 = false := Bool.eq_false_iff.2 fun h => by
    rw [BitVec.slt_iff_toInt_lt, c0] at h
    omega
  unfold IntOp.cmpi
  dsimp only
  rw [e2]
  rfl

/-- The gather's dimensions. -/
abbrev d : GatherDims S32x16 S128x384x1 S128x384x16 := gather_S32x16_S128x384x1_S128x384x16_2_0_n_n_0_2_116

variable (x0 : S128x384.Idx → BitVec 32) (x1 : S32x16.Idx → EReal)

/-- The precondition, element by element. -/
theorem elements [Cert.Pre_in_table.Facts] (h0 : (Cert.Pre_in_table.fn (F := Ideal) x0 x1).1 = fun _ => 1#1)
    (h1 : (Cert.Pre_in_table.fn (F := Ideal) x0 x1).2 = fun _ => 1#1) (i : S128x384.Idx) : (x0 i).toNat < 32 ∧ IntOp.cmpi .slt (x0 i) 0#32 = 0#1 :=
  small (x0 i) (congrFun h0 i) (congrFun h1 i)

/-- The row the table is read at. -/
theorem gathered (h : ∀ i, (x0 i).toNat < 32 ∧ IntOp.cmpi .slt (x0 i) 0#32 = 0#1) (q : Fin 128) (j : Fin 384) (k : Fin 16) :
    val_main_v15 (F := Ideal) x0 x1 (ix3 q j k) = at2 x1 (x0 (ix2 q j)).toNat k := by
  unfold val_main_v15 Host.gather
  have hb := (h (ix2 q j)).1
  have hl := (x0 (ix2 q j)).isLt
  have e (y : S128x384x1.Idx) (hy : idx_main_v14 y = ix2 q j) : val_main_v14 (F := Ideal) x0 y = x0 (ix2 q j) := by
    rw [val_main_v14_apply, hy, val_main_v13_apply, val_main_v10_apply, val_main_v9_apply, val_main_c_0_apply, (h _).2]
    rfl
  rw [at2, dif_pos ⟨hb, k.isLt⟩]
  refine congrArg x1 (funext fun a => Fin.ext ?_)
  show d.start (ix3 q j k) (val_main_v14 (F := Ideal) x0) a + d.batchCoord (ix3 q j k) a + d.offCoord (ix3 q j k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl), e _ (funext fun b => match b with
      | ⟨0, _⟩ => rfl
      | ⟨1, _⟩ => rfl)]
    show min (x0 (ix2 q j)).toInt.toNat 31 + 0 + 0 = (x0 (ix2 q j)).toNat
    have hi := BitVec.toInt_eq_toNat_cond (x0 (ix2 q j))
    split_ifs at hi <;> omega
  · rw [GatherDims.batchCoord_eq_zero _ _ _ List.not_mem_nil]
    unfold GatherDims.start
    rw [dif_neg (show (1 : Fin 2) ∉ d.startIndexMap from by decide)]
    unfold GatherDims.offCoord
    rw [dif_pos (show (1 : Fin 2) ∈ d.sKept from by decide)]
    show 0 + 0 + k.val = k.val
    omega

/-- The word of minus infinity. -/
theorem minus_inf : Ideal.ofBits .f32 0xFF800000#32 = ⊥ := by simp [Ideal.ofBits, Ideal.ieee]

/-- The result. -/
theorem result (h : ∀ i, (x0 i).toNat < 32 ∧ IntOp.cmpi .slt (x0 i) 0#32 = 0#1) : val_main_v21 (F := Ideal) x0 x1
    = fun i : S16x128x384.Idx => bias x1 (x0 (ix2 (i 1) (i 2))) (i 0).val (i 1).val (i 2).val := by
  funext i
  have e : idx_main_v16 i = ix3 (i 1) (i 2) (i 0) := funext fun a => match a with
    | ⟨0, _⟩ => rfl
    | ⟨1, _⟩ => rfl
    | ⟨2, _⟩ => rfl
  have g : val_main_v15 (F := Ideal) x0 x1 (idx_main_v16 i) = at2 x1 (x0 (ix2 (i 1) (i 2))).toNat (i 0).val :=
    (congrArg (val_main_v15 (F := Ideal) x0 x1) e).trans (gathered x0 x1 h (i 1) (i 2) (i 0))
  rw [val_main_v21_apply, val_main_v16_apply, g]
  simp only [val_main_call0_v1_apply, val_main_call0_v2_apply, val_main_call0_v0_apply, val_main_cst_apply, val_main_v20_apply, val_main_v19_apply, val_main_v18_apply,
    val_main_c_2_apply, val_main_v17_apply, val_main_v8_apply, val_main_v7_apply, val_main_v6_apply, val_main_v5_apply, val_main_v4_apply, val_main_c_apply, val_main_v3_apply,
    val_main_v2_apply, val_main_v1_apply, val_main_v0_apply]
  rw [show (FloatOps.ofBits (F := Ideal) .f32 0xFF800000#32 : EReal) = ⊥ from minus_inf]
  rfl

end
end Cert.BiasReferenceIdeal.Layer
-- ==== Proof.MergeArray.lean ====
module

public import proofs.«01_k».proof.Proof.Gen.MergeIdeal.Value
public import proofs.«01_k».proof.Proof.Product
public import proofs.«01_k».proof.Proof.LastBlock

/-! The result array of the attention's output projection. -/

@[expose] public section

namespace Cert.MergeIdeal.Layer
open Idealize Idealize.ShloMosaic Cert.MergeIdeal Cert.MergeIdeal.Gen Idealize.ShloMosaic.TcCoe Idealize.SL.Sem Idealize.ShloMosaic.Tactic Band
open Cert.LastIdeal.Layer (z2 z3)
open Idealize.ShloMosaic.Pipeline (Dat)
set_option maxRecDepth 16384
noncomputable section

/-- A block of the result. -/
theorem out_apply (x : Vec Ideal S512x2048 .f32) (o : Vec Ideal S512x2048 .bf16) (w : Vec Ideal S1x2048x2048 .bf16) (r : Fin 512) (k : Fin 2048) :
    out0_3 (F := Ideal) x o w (ix2 r k) = (x (ix2 r k) : EReal) + ∑ j : Fin 2048, (o (ix2 r j) : EReal) * (w (ix3 0 j k) : EReal) := by
  unfold out0_3 r0_0 r0_1
  rw [View.canon_unit_zero z2, View.ld_unit_zero (S := S512x2048) z2, View.ld_unit_zero (S := S512x2048) z2, View.ld_unit_zero (S := S1x2048x2048) z3]
  pointwise [k0_pay1]

variable (m : (ℓ : Loc nD τ sig) → Buf (Elt Ideal) ℓ) (c : Dev nD) (t : Fin cfg0.N)

/-- The rows. -/
abbrev A0 : S24576x2048.Idx → EReal := m ((c : Thread nD τ).loc main_arg0)
/-- The mixer's rows. -/
abbrev A1 : S24576x2048.Idx → EReal := m ((c : Thread nD τ).loc main_arg1)
/-- The weights. -/
abbrev A2 : S2x2048x2048.Idx → EReal := m ((c : Thread nD τ).loc main_arg2)

/-- Which block each window reads or writes at a point. -/
theorem index_facts : ∀ t : Fin grid0.N, win0_0.index t = ![t.val, 0] ∧ win0_1.index t = ![t.val, 0] ∧ win0_2.index t = ![1, 0, 0]
    ∧ win0_3.index t = ![t.val, 0] := by decide +kernel

/-- The block of rows. -/
theorem blk0 (r : Fin 512) (k : Fin 2048) : (iblk m c 0 t : Vec Ideal S512x2048 .f32) (ix2 r k) = at2 (A0 m c) (512 * t.val + r) k := by
  have ht : t.val < 48 := t.isLt
  have hi := (index_facts t).1
  unfold at2
  rw [dif_pos ⟨by omega, k.isLt⟩]
  unfold iblk
  rw [View.read_apply]
  show V m c main_arg0 _ = _
  rw [V_main_arg0]
  refine congrArg (A0 m c) (funext fun a => Fin.ext ?_)
  match a with
  | ⟨0, _⟩ => show win0_0.index t 0 * 512 + 1 * r.val = 512 * t.val + r.val; rw [hi]; show t.val * 512 + 1 * r.val = _; omega
  | ⟨1, _⟩ => show win0_0.index t 1 * 2048 + 1 * k.val = k.val; rw [hi]; show 0 * 2048 + 1 * k.val = _; omega

/-- The block of the mixer's rows. -/
theorem blk1 (r : Fin 512) (k : Fin 2048) : (iblk m c 1 t : Vec Ideal S512x2048 .bf16) (ix2 r k) = at2 (A1 m c) (512 * t.val + r) k := by
  have ht : t.val < 48 := t.isLt
  have hi := (index_facts t).2.1
  unfold at2
  rw [dif_pos ⟨by omega, k.isLt⟩]
  unfold iblk
  rw [View.read_apply]
  show V m c main_arg1 _ = _
  rw [V_main_arg1]
  refine congrArg (A1 m c) (funext fun a => Fin.ext ?_)
  match a with
  | ⟨0, _⟩ => show win0_1.index t 0 * 512 + 1 * r.val = 512 * t.val + r.val; rw [hi]; show t.val * 512 + 1 * r.val = _; omega
  | ⟨1, _⟩ => show win0_1.index t 1 * 2048 + 1 * k.val = k.val; rw [hi]; show 0 * 2048 + 1 * k.val = _; omega

/-- The weights, as the call is handed them. -/
theorem weights : (V m c main_v0 : Vec Ideal S2x2048x2048 .bf16) = A2 m c := by
  show StableHlo.after hostOps0 _ (Proc.devRef .tc main_v0) = _
  after_results
  rfl

/-- The block of weights. -/
theorem blk2 (k f : Fin 2048) : (iblk m c 2 t : Vec Ideal S1x2048x2048 .bf16) (ix3 0 k f) = at3 (A2 m c) 1 k f := by
  have hi := (index_facts t).2.2.1
  unfold at3
  rw [dif_pos ⟨by omega, k.isLt, f.isLt⟩]
  unfold iblk
  rw [View.read_apply]
  show V m c main_v0 _ = _
  rw [weights]
  refine congrArg (A2 m c) (funext fun a => Fin.ext ?_)
  match a with
  | ⟨0, _⟩ => show win0_2.index t 0 * 1 + 1 * 0 = 1; rw [hi]; rfl
  | ⟨1, _⟩ => show win0_2.index t 1 * 2048 + 1 * k.val = k.val; rw [hi]; show 0 * 2048 + 1 * k.val = _; omega
  | ⟨2, _⟩ => show win0_2.index t 2 * 2048 + 1 * f.val = f.val; rw [hi]; show 0 * 2048 + 1 * f.val = _; omega

/-- What a point leaves in its block of the result. -/
theorem block (r : Fin 512) (k : Fin 2048) : (out0_3 (F := Ideal) (iblk m c 0 t) (iblk m c 1 t) (iblk m c 2 t) (ix2 r k) : EReal)
    = Product.merge (A0 m c) (fun k => at2 (A1 m c) (512 * t.val + r) k) (A2 m c) 1 (512 * t.val + r) k := by
  refine (out_apply _ _ _ r k).trans ?_
  simp only [blk0, blk1, blk2]
  rfl

/-- The call's result array. -/
theorem array_eq : (dats m 0 c).arrAt 3 cfg0.N
    = fun i : S24576x2048.Idx => Product.merge (A0 m c) (fun k => at2 (A1 m c) (i 0).val k) (A2 m c) 1 (i 0).val (i 1).val := by
  funext i
  have h0 : (i 0).val < 24576 := (i 0).isLt
  let t : Fin cfg0.N := ⟨(i 0).val / 512, by show (i 0).val / 512 < 48; omega⟩
  have hi := (index_facts t).2.2.2
  let y : S512x2048.Idx := ix2 ⟨(i 0).val % 512, by omega⟩ (i 1)
  have hemb : ((cfg0.win 3).blk t).view.emb y = i := by
    funext a
    apply Fin.ext
    match a with
    | ⟨0, _⟩ =>
      show win0_3.index t 0 * 512 + 1 * ((i 0).val % 512) = (i 0).val
      rw [hi]
      show (i 0).val / 512 * 512 + 1 * ((i 0).val % 512) = _
      omega
    | ⟨1, _⟩ => show win0_3.index t 1 * 2048 + 1 * (i 1).val = (i 1).val; rw [hi]; show 0 * 2048 + 1 * (i 1).val = _; omega
  have hv := (dats m 0 c).arrAt_emb_eq_flushed 3 Value.disjoint3 t (flush0_3 t) y
  rw [hemb] at hv
  rw [hv]
  refine (cast_eq _ _).trans ?_
  rw [Value.flushed3]
  refine (block m c t ⟨(i 0).val % 512, by omega⟩ (i 1)).trans ?_
  dsimp only
  rw [show 512 * t.val + (i 0).val % 512 = (i 0).val by show 512 * ((i 0).val / 512) + (i 0).val % 512 = _; omega]

end
end Cert.MergeIdeal.Layer
-- ==== Proof.MergeReference.lean ====
module

public import proofs.«01_k».proof.Proof.Gen.Merge.Frame
public import proofs.«01_k».proof.Proof.Gen.MergeReferenceIdeal.Read
public import proofs.«01_k».proof.Proof.Gen.MergeReferenceIdeal.Run
public import proofs.«01_k».proof.Proof.Product

/-! The reference's output projection of the attention, read at an index. -/

@[expose] public section

namespace Cert.MergeReferenceIdeal.Layer
open Idealize Idealize.ShloMosaic Cert.MergeReferenceIdeal Cert.MergeReferenceIdeal.Gen Cert.MergeReferenceIdeal.Read Idealize.ShloMosaic.Tactic Band
set_option maxRecDepth 16384
noncomputable section

variable (x0 x1 : S24576x2048.Idx → EReal) (x2 : S2x2048x2048.Idx → EReal)

/-- The weights. -/
theorem weights (i : S2048x2048.Idx) : val_main_v2 (F := Ideal) x2 i = at3 x2 1 (i 0).val (i 1).val := by
  have h0 : (i 0).val < 2048 := (i 0).isLt
  have h1 : (i 1).val < 2048 := (i 1).isLt
  rw [val_main_v2_apply, val_main_v1_apply]
  unfold at3
  rw [dif_pos ⟨by omega, h0, h1⟩]
  refine congrArg x2 (funext fun a => Fin.ext ?_)
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The result. -/
theorem result : val_main_v4 (F := Ideal) x0 x1 x2
    = fun i : S24576x2048.Idx => Product.merge x0 (fun k => at2 x1 (i 0).val k) x2 1 (i 0).val (i 1).val := by
  funext i
  have e (x : S24576x2048.Idx → EReal) (j : S24576x2048.Idx) : x j = at2 x (j 0) (j 1) := (congrArg x (eq_ix2 j)).trans (at2_fin x _ _)
  rw [val_main_v4_apply, val_main_v3_apply]
  simp only [val_main_v0_apply, weights, e x0, e x1]
  rfl

end
end Cert.MergeReferenceIdeal.Layer
-- ==== Proof.MergeTwoArray.lean ====
module

public import proofs.«01_k».proof.Proof.Gen.MergeTwoIdeal.Value
public import proofs.«01_k».proof.Proof.Product
public import proofs.«01_k».proof.Proof.LastBlock

/-! The result array of the output projection of the mixers whose result comes in two halves. -/

@[expose] public section

namespace Cert.MergeTwoIdeal.Layer
open Idealize Idealize.ShloMosaic Cert.MergeTwoIdeal Cert.MergeTwoIdeal.Gen Idealize.ShloMosaic.TcCoe Idealize.SL.Sem Idealize.ShloMosaic.Tactic Band
open Cert.LastIdeal.Layer (z2 z3)
open Idealize.ShloMosaic.Pipeline (Dat)
set_option maxRecDepth 16384
noncomputable section

/-- A block of the result. -/
theorem out_apply (x : Vec Ideal S512x2048 .f32) (o : Vec Ideal S512x1024 .bf16) (w : Vec Ideal S1x1024x2048 .bf16) (o' : Vec Ideal S512x1024 .bf16)
    (w' : Vec Ideal S1x1024x2048 .bf16) (r : Fin 512) (k : Fin 2048) :
    out0_5 (F := Ideal) x o w o' w' (ix2 r k) = (x (ix2 r k) : EReal) + (∑ j : Fin 1024, (o (ix2 r j) : EReal) * (w (ix3 0 j k) : EReal))
      + ∑ j : Fin 1024, (o' (ix2 r j) : EReal) * (w' (ix3 0 j k) : EReal) := by
  unfold out0_5 r0_0 r0_1 r0_2
  rw [View.canon_unit_zero z2, View.ld_unit_zero (S := S512x2048) z2, View.ld_unit_zero (S := S512x1024) z2, View.ld_unit_zero (S := S512x1024) z2,
    View.ld_unit_zero (S := S1x1024x2048) z3, View.ld_unit_zero (S := S1x1024x2048) z3]
  pointwise [k0_pay1]

variable (m : (ℓ : Loc nD τ sig) → Buf (Elt Ideal) ℓ) (c : Dev nD) (t : Fin cfg0.N)

/-- The rows. -/
abbrev A0 : S24576x2048.Idx → EReal := m ((c : Thread nD τ).loc main_arg0)
/-- The left half of the mixer's rows. -/
abbrev A1 : S24576x1024.Idx → EReal := m ((c : Thread nD τ).loc main_arg1)
/-- The right half. -/
abbrev A2 : S24576x1024.Idx → EReal := m ((c : Thread nD τ).loc main_arg2)
/-- The weights. -/
abbrev A3 : S2x2048x2048.Idx → EReal := m ((c : Thread nD τ).loc main_arg3)

/-- Which block each window reads or writes at a point. -/
theorem index_facts : ∀ t : Fin grid0.N, win0_0.index t = ![t.val, 0] ∧ win0_1.index t = ![t.val, 0] ∧ win0_2.index t = ![1, 0, 0]
    ∧ win0_3.index t = ![t.val, 0] ∧ win0_4.index t = ![1, 1, 0] ∧ win0_5.index t = ![t.val, 0] := by decide +kernel

/-- The block of rows. -/
theorem blk0 (r : Fin 512) (k : Fin 2048) : (iblk m c 0 t : Vec Ideal S512x2048 .f32) (ix2 r k) = at2 (A0 m c) (512 * t.val + r) k := by
  have ht : t.val < 48 := t.isLt
  have hi := (index_facts t).1
  unfold at2
  rw [dif_pos ⟨by omega, k.isLt⟩]
  unfold iblk
  rw [View.read_apply]
  show V m c main_arg0 _ = _
  rw [V_main_arg0]
  refine congrArg (A0 m c) (funext fun a => Fin.ext ?_)
  match a with
  | ⟨0, _⟩ => show win0_0.index t 0 * 512 + 1 * r.val = 512 * t.val + r.val; rw [hi]; show t.val * 512 + 1 * r.val = _; omega
  | ⟨1, _⟩ => show win0_0.index t 1 * 2048 + 1 * k.val = k.val; rw [hi]; show 0 * 2048 + 1 * k.val = _; omega

/-- The block of the left half. -/
theorem blk1 (r : Fin 512) (k : Fin 1024) : (iblk m c 1 t : Vec Ideal S512x1024 .bf16) (ix2 r k) = at2 (A1 m c) (512 * t.val + r) k := by
  have ht : t.val < 48 := t.isLt
  have hi := (index_facts t).2.1
  unfold at2
  rw [dif_pos ⟨by omega, k.isLt⟩]
  unfold iblk
  rw [View.read_apply]
  show V m c main_arg1 _ = _
  rw [V_main_arg1]
  refine congrArg (A1 m c) (funext fun a => Fin.ext ?_)
  match a with
  | ⟨0, _⟩ => show win0_1.index t 0 * 512 + 1 * r.val = 512 * t.val + r.val; rw [hi]; show t.val * 512 + 1 * r.val = _; omega
  | ⟨1, _⟩ => show win0_1.index t 1 * 1024 + 1 * k.val = k.val; rw [hi]; show 0 * 1024 + 1 * k.val = _; omega

/-- The block of the right half. -/
theorem blk3 (r : Fin 512) (k : Fin 1024) : (iblk m c 3 t : Vec Ideal S512x1024 .bf16) (ix2 r k) = at2 (A2 m c) (512 * t.val + r) k := by
  have ht : t.val < 48 := t.isLt
  have hi := (index_facts t).2.2.2.1
  unfold at2
  rw [dif_pos ⟨by omega, k.isLt⟩]
  unfold iblk
  rw [View.read_apply]
  show V m c main_arg2 _ = _
  rw [V_main_arg2]
  refine congrArg (A2 m c) (funext fun a => Fin.ext ?_)
  match a with
  | ⟨0, _⟩ => show win0_3.index t 0 * 512 + 1 * r.val = 512 * t.val + r.val; rw [hi]; show t.val * 512 + 1 * r.val = _; omega
  | ⟨1, _⟩ => show win0_3.index t 1 * 1024 + 1 * k.val = k.val; rw [hi]; show 0 * 1024 + 1 * k.val = _; omega

/-- The weights, as the call is handed them. -/
theorem weights : (V m c main_v0 : Vec Ideal S2x2048x2048 .bf16) = A3 m c := by
  show StableHlo.after hostOps0 _ (Proc.devRef .tc main_v0) = _
  after_results
  rfl

/-- The block of weights for the left half. -/
theorem blk2 (k : Fin 1024) (f : Fin 2048) : (iblk m c 2 t : Vec Ideal S1x1024x2048 .bf16) (ix3 0 k f) = at3 (A3 m c) 1 k f := by
  have hi := (index_facts t).2.2.1
  unfold at3
  rw [dif_pos ⟨by omega, by omega, f.isLt⟩]
  unfold iblk
  rw [View.read_apply]
  show V m c main_v0 _ = _
  rw [weights]
  refine congrArg (A3 m c) (funext fun a => Fin.ext ?_)
  match a with
  | ⟨0, _⟩ => show win0_2.index t 0 * 1 + 1 * 0 = 1; rw [hi]; rfl
  | ⟨1, _⟩ => show win0_2.index t 1 * 1024 + 1 * k.val = k.val; rw [hi]; show 0 * 1024 + 1 * k.val = _; omega
  | ⟨2, _⟩ => show win0_2.index t 2 * 2048 + 1 * f.val = f.val; rw [hi]; show 0 * 2048 + 1 * f.val = _; omega

/-- The block of weights for the right half. -/
theorem blk4 (k : Fin 1024) (f : Fin 2048) : (iblk m c 4 t : Vec Ideal S1x1024x2048 .bf16) (ix3 0 k f) = at3 (A3 m c) 1 (1024 + k) f := by
  have hi := (index_facts t).2.2.2.2.1
  unfold at3
  rw [dif_pos ⟨by omega, by omega, f.isLt⟩]
  unfold iblk
  rw [View.read_apply]
  show V m c main_v0 _ = _
  rw [weights]
  refine congrArg (A3 m c) (funext fun a => Fin.ext ?_)
  match a with
  | ⟨0, _⟩ => show win0_4.index t 0 * 1 + 1 * 0 = 1; rw [hi]; rfl
  | ⟨1, _⟩ => show win0_4.index t 1 * 1024 + 1 * k.val = (1024 + k.val); rw [hi]; show 1 * 1024 + 1 * k.val = _; omega
  | ⟨2, _⟩ => show win0_4.index t 2 * 2048 + 1 * f.val = f.val; rw [hi]; show 0 * 2048 + 1 * f.val = _; omega

/-- What a point leaves in its block of the result. -/
theorem block (r : Fin 512) (k : Fin 2048) :
    (out0_5 (F := Ideal) (iblk m c 0 t) (iblk m c 1 t) (iblk m c 2 t) (iblk m c 3 t) (iblk m c 4 t) (ix2 r k) : EReal)
      = Product.merge (A0 m c) (Product.join (A1 m c) (A2 m c) (512 * t.val + r)) (A3 m c) 1 (512 * t.val + r) k := by
  refine (out_apply _ _ _ _ _ r k).trans ?_
  simp only [blk0, blk1, blk2, blk3, blk4]
  exact Product.merge_join (A0 m c) (A1 m c) (A2 m c) (A3 m c) 1 (512 * t.val + r) k

/-- The call's result array. -/
theorem array_eq : (dats m 0 c).arrAt 5 cfg0.N
    = fun i : S24576x2048.Idx => Product.merge (A0 m c) (Product.join (A1 m c) (A2 m c) (i 0).val) (A3 m c) 1 (i 0).val (i 1).val := by
  funext i
  have h0 : (i 0).val < 24576 := (i 0).isLt
  let t : Fin cfg0.N := ⟨(i 0).val / 512, by show (i 0).val / 512 < 48; omega⟩
  have hi := (index_facts t).2.2.2.2.2
  let y : S512x2048.Idx := ix2 ⟨(i 0).val % 512, by omega⟩ (i 1)
  have hemb : ((cfg0.win 5).blk t).view.emb y = i := by
    funext a
    apply Fin.ext
    match a with
    | ⟨0, _⟩ =>
      show win0_5.index t 0 * 512 + 1 * ((i 0).val % 512) = (i 0).val
      rw [hi]
      show (i 0).val / 512 * 512 + 1 * ((i 0).val % 512) = _
      omega
    | ⟨1, _⟩ => show win0_5.index t 1 * 2048 + 1 * (i 1).val = (i 1).val; rw [hi]; show 0 * 2048 + 1 * (i 1).val = _; omega
  have hv := (dats m 0 c).arrAt_emb_eq_flushed 5 Value.disjoint5 t (flush0_5 t) y
  rw [hemb] at hv
  rw [hv]
  refine (cast_eq _ _).trans ?_
  rw [Value.flushed5]
  refine (block m c t ⟨(i 0).val % 512, by omega⟩ (i 1)).trans ?_
  dsimp only
  rw [show 512 * t.val + (i 0).val % 512 = (i 0).val by show 512 * ((i 0).val / 512) + (i 0).val % 512 = _; omega]

end
end Cert.MergeTwoIdeal.Layer
-- ==== Proof.MergeTwoReference.lean ====
module

public import proofs.«01_k».proof.Proof.Gen.MergeTwo.Frame
public import proofs.«01_k».proof.Proof.Gen.MergeTwoReferenceIdeal.Read
public import proofs.«01_k».proof.Proof.Gen.MergeTwoReferenceIdeal.Run
public import proofs.«01_k».proof.Proof.Product

/-! The reference's output projection of the mixers whose result comes in two halves, read at an index. -/

@[expose] public section

namespace Cert.MergeTwoReferenceIdeal.Layer
open Idealize Idealize.ShloMosaic Cert.MergeTwoReferenceIdeal Cert.MergeTwoReferenceIdeal.Gen Cert.MergeTwoReferenceIdeal.Read Idealize.ShloMosaic.Tactic Band
set_option maxRecDepth 16384
noncomputable section

variable (x0 : S24576x2048.Idx → EReal) (x1 x2 : S24576x1024.Idx → EReal) (x3 : S2x2048x2048.Idx → EReal)

/-- The weights. -/
theorem weights (i : S2048x2048.Idx) : val_main_v3 (F := Ideal) x3 i = at3 x3 1 (i 0).val (i 1).val := by
  have h0 : (i 0).val < 2048 := (i 0).isLt
  have h1 : (i 1).val < 2048 := (i 1).isLt
  rw [val_main_v3_apply, val_main_v2_apply]
  unfold at3
  rw [dif_pos ⟨by omega, h0, h1⟩]
  refine congrArg x3 (funext fun a => Fin.ext ?_)
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The two halves, side by side. -/
theorem halves (i : S24576x2048.Idx) : val_main_v0 (F := Ideal) x1 x2 i = Product.join x1 x2 (i 0).val (i 1) := by
  have h0 : (i 0).val < 24576 := (i 0).isLt
  have h1 : (i 1).val < 2048 := (i 1).isLt
  unfold val_main_v0 Product.join at2
  by_cases h : (i 1).val < 1024
  · rw [if_pos h, dif_pos ⟨h0, h⟩]
    exact concatenate_pair_apply_left 1 x1 x2 _ i rfl _ (fun a => match a with | ⟨0, _⟩ => rfl | ⟨1, _⟩ => rfl)
  · rw [if_neg h, dif_pos ⟨h0, by omega⟩]
    exact concatenate_pair_apply_right 1 x1 x2 _ i rfl rfl _ (fun a => match a with | ⟨0, _⟩ => fun _ => rfl | ⟨1, _⟩ => fun h' => absurd rfl h')
      (show (i 1).val - 1024 + 1024 = (i 1).val by omega)

/-- The result. -/
theorem result : val_main_v5 (F := Ideal) x0 x1 x2 x3
    = fun i : S24576x2048.Idx => Product.merge x0 (Product.join x1 x2 (i 0).val) x3 1 (i 0).val (i 1).val := by
  funext i
  have e (x : S24576x2048.Idx → EReal) (j : S24576x2048.Idx) : x j = at2 x (j 0) (j 1) := (congrArg x (eq_ix2 j)).trans (at2_fin x _ _)
  rw [val_main_v5_apply, val_main_v4_apply]
  simp only [val_main_v1_apply, halves, weights, e x0]
  rfl

end
end Cert.MergeTwoReferenceIdeal.Layer
-- ==== Proof.lean ====
module

public import proofs.«01_k».proof.Defs
public import proofs.«01_k».proof.Proof.Gen.Kernel.Frame
public import proofs.«01_k».proof.Proof.Gen.KernelIdeal.Frame
public import proofs.«01_k».proof.Proof.Array
public import proofs.«01_k».proof.Proof.Result
public import proofs.«01_k».proof.Proof.Finite
public import proofs.«01_k».proof.Proof.Gen.Last.Frame
public import proofs.«01_k».proof.Proof.Gen.LastSample.Frame
public import proofs.«01_k».proof.Proof.LastArray
public import proofs.«01_k».proof.Proof.LastSampleArray
public import proofs.«01_k».proof.Proof.LastReference
public import proofs.«01_k».proof.Proof.LastSampleReference
public import proofs.«01_k».proof.Proof.InnerArray
public import proofs.«01_k».proof.Proof.InnerReference
public import proofs.«01_k».proof.Proof.ProjectArray
public import proofs.«01_k».proof.Proof.ProjectReference
public import proofs.«01_k».proof.Proof.ProjectEvenArray
public import proofs.«01_k».proof.Proof.ProjectEvenReference
public import proofs.«01_k».proof.Proof.BiasArray
public import proofs.«01_k».proof.Proof.BiasReference
public import proofs.«01_k».proof.Proof.MergeArray
public import proofs.«01_k».proof.Proof.MergeReference
public import proofs.«01_k».proof.Proof.MergeTwoArray
public import proofs.«01_k».proof.Proof.MergeTwoReference
public import Idealize.ShloMosaic.Adequacy
public import Idealize.ShloMosaic.Init

@[expose] public section

noncomputable section

namespace Cert.Proof

open Idealize.ShloMosaic Idealize.SL.Sem

/-- The attention reference runs, leaves its arguments and every counter. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The named scale and mask of the attention kernel are what the ideal program holds in their place. -/
theorem preserves : Cert.preserves_Kernel_KernelIdeal :=
  ⟨IdealRules.named_const.statement Cert.KernelIdeal.κ "isd" .f32 0x3DB504F3#32 (((Real.sqrt 128)⁻¹ : ℝ) : EReal) rfl,
    IdealRules.named_const.statement Cert.KernelIdeal.κ "mask" .f32 0xF149F2CA#32 ⊥ rfl⟩

/-- Attention: kernel and reference end with equal results. -/
theorem algebraic : Cert.algebraic_KernelIdeal_ReferenceIdeal_pre_finite_inputs (hKernelIdeal := Cert.KernelIdeal.Gen.facts)
    (hReferenceIdeal := Cert.ReferenceIdeal.Gen.facts) (hPre_finite_inputs := Finite.facts) := by
  intro m g m' g' hpre hagree
  refine ⟨fun c => (Cert.KernelIdeal.Gen.dats m 0 c).arrAt 9 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨p0, p1, p2⟩ := hpre c
  obtain ⟨e0, e1, e2⟩ := hagree c
  obtain ⟨f0, f1, f2⟩ := @Finite.elements _ _ _ Finite.facts p0 p1 p2
  rw [Cert.ReferenceIdeal.Read.val_main_v136_eq, e0, e1, e2]
  refine Eq.trans ?_ (Cert.KernelIdeal.Attn.array_eq m c).symm
  exact Cert.ReferenceIdeal.Attn.result _ _ _ (Finite.score_ne_top _ _ f0 f1) (fun h => (Finite.at1_finite _ f2 h).1) fun h => (Finite.at1_finite _ f2 h).2

/-- The reference of the last feed-forward layer on the prompt runs, leaves its arguments and every counter. -/
theorem frame_last_reference : Cert.quiescent_LastReferenceIdeal (hLastReferenceIdeal := Cert.LastReferenceIdeal.Gen.facts) := fun m g _ =>
  (θ_run Cert.LastReferenceIdeal.defs _ _).mono (fun r h => ⟨fun c => (h c).2, sem_eq_zero_of_no_sems (by decide) r.2⟩)
    (Cert.LastReferenceIdeal.Value.run (F := Ideal) m g)

/-- The last feed-forward layer on the prompt: kernel and reference end with equal results. -/
theorem algebraic_last : Cert.algebraic_LastIdeal_LastReferenceIdeal (hLastIdeal := Cert.LastIdeal.Gen.facts)
    (hLastReferenceIdeal := Cert.LastReferenceIdeal.Gen.facts) := by
  intro m g m' g' _ hagree
  refine ⟨fun c => (Cert.LastIdeal.Gen.dats m 0 c).arrAt 6 Cert.LastIdeal.cfg0.N, Cert.LastIdeal.Value.run_blocks m g, ?_⟩
  refine (θ_run Cert.LastReferenceIdeal.defs _ _).mono (fun r h c => ⟨(h c).1.trans ?_, (h c).2⟩) (Cert.LastReferenceIdeal.Value.run (F := Ideal) m' g')
  obtain ⟨e0, e1, e2, e3, e4⟩ := hagree c
  rw [Cert.LastReferenceIdeal.Read.val_main_v39_eq, e0, e1, e2, e3, e4]
  refine Eq.trans ?_ (Cert.LastIdeal.Layer.array_eq m c).symm
  exact Cert.LastReferenceIdeal.Layer.result _ _ _ _ _

/-- The reference of the last feed-forward layer on the sample runs, leaves its arguments and every counter. -/
theorem frame_sample_reference : Cert.quiescent_LastSampleReferenceIdeal (hLastSampleReferenceIdeal := Cert.LastSampleReferenceIdeal.Gen.facts) := fun m g _ =>
  (θ_run Cert.LastSampleReferenceIdeal.defs _ _).mono (fun r h => ⟨fun c => (h c).2, sem_eq_zero_of_no_sems (by decide) r.2⟩)
    (Cert.LastSampleReferenceIdeal.Value.run (F := Ideal) m g)

/-- The last feed-forward layer on the sample: kernel and reference end with equal results. -/
theorem algebraic_sample : Cert.algebraic_LastSampleIdeal_LastSampleReferenceIdeal (hLastSampleIdeal := Cert.LastSampleIdeal.Gen.facts)
    (hLastSampleReferenceIdeal := Cert.LastSampleReferenceIdeal.Gen.facts) := by
  intro m g m' g' _ hagree
  refine ⟨fun c => (Cert.LastSampleIdeal.Gen.dats m 0 c).arrAt 6 Cert.LastSampleIdeal.cfg0.N, Cert.LastSampleIdeal.Value.run_blocks m g, ?_⟩
  refine (θ_run Cert.LastSampleReferenceIdeal.defs _ _).mono (fun r h c => ⟨(h c).1.trans ?_, (h c).2⟩) (Cert.LastSampleReferenceIdeal.Value.run (F := Ideal) m' g')
  obtain ⟨e0, e1, e2, e3, e4⟩ := hagree c
  rw [Cert.LastSampleReferenceIdeal.Read.val_main_v39_eq, e0, e1, e2, e3, e4]
  refine Eq.trans ?_ (Cert.LastSampleIdeal.Layer.array_eq m c).symm
  exact Cert.LastSampleReferenceIdeal.Layer.result _ _ _ _ _

/-- The reference of the feed-forward layer without the final norm runs, leaves its arguments and every counter. -/
theorem frame_inner_reference : Cert.quiescent_InnerReferenceIdeal (hInnerReferenceIdeal := Cert.InnerReferenceIdeal.Gen.facts) := fun m g _ =>
  (θ_run Cert.InnerReferenceIdeal.defs _ _).mono (fun r h => ⟨fun c => (h c).2, sem_eq_zero_of_no_sems (by decide) r.2⟩)
    (Cert.InnerReferenceIdeal.Value.run (F := Ideal) m g)

/-- The feed-forward layer without the final norm: kernel and reference end with equal results. -/
theorem algebraic_inner : Cert.algebraic_InnerIdeal_InnerReferenceIdeal (hInnerIdeal := Cert.InnerIdeal.Gen.facts)
    (hInnerReferenceIdeal := Cert.InnerReferenceIdeal.Gen.facts) := by
  intro m g m' g' _ hagree
  refine ⟨fun c => (Cert.InnerIdeal.Gen.dats m 0 c).arrAt 5 Cert.InnerIdeal.cfg0.N, Cert.InnerIdeal.Value.run_blocks m g, ?_⟩
  refine (θ_run Cert.InnerReferenceIdeal.defs _ _).mono (fun r h c => ⟨(h c).1.trans ?_, (h c).2⟩) (Cert.InnerReferenceIdeal.Value.run (F := Ideal) m' g')
  obtain ⟨e0, e1, e2, e3⟩ := hagree c
  rw [Cert.InnerReferenceIdeal.Read.val_main_v25_eq, e0, e1, e2, e3]
  refine Eq.trans ?_ (Cert.InnerIdeal.Layer.array_eq m c).symm
  exact Cert.InnerReferenceIdeal.Layer.result _ _ _ _

/-- The reference of the input projection runs, leaves its arguments and every counter. -/
theorem frame_project_reference : Cert.quiescent_ProjectReferenceIdeal (hProjectReferenceIdeal := Cert.ProjectReferenceIdeal.Gen.facts) := fun m g _ =>
  (θ_run Cert.ProjectReferenceIdeal.defs _ _).mono (fun r h => ⟨fun c => (h c).2, sem_eq_zero_of_no_sems (by decide) r.2⟩)
    (Cert.ProjectReferenceIdeal.Value.run (F := Ideal) m g)

/-- The input projection: kernel and reference end with equal results. -/
theorem algebraic_project : Cert.algebraic_ProjectIdeal_ProjectReferenceIdeal (hProjectIdeal := Cert.ProjectIdeal.Gen.facts)
    (hProjectReferenceIdeal := Cert.ProjectReferenceIdeal.Gen.facts) := by
  intro m g m' g' _ hagree
  refine ⟨fun c => (Cert.ProjectIdeal.Gen.dats m 0 c).arrAt 3 Cert.ProjectIdeal.cfg0.N, Cert.ProjectIdeal.Value.run_blocks m g, ?_⟩
  refine (θ_run Cert.ProjectReferenceIdeal.defs _ _).mono (fun r h c => ⟨(h c).1.trans ?_, (h c).2⟩) (Cert.ProjectReferenceIdeal.Value.run (F := Ideal) m' g')
  obtain ⟨e0, e1, e2⟩ := hagree c
  rw [Cert.ProjectReferenceIdeal.Read.val_main_v16_eq, e0, e1, e2]
  refine Eq.trans ?_ (Cert.ProjectIdeal.Layer.array_eq m c).symm
  exact Cert.ProjectReferenceIdeal.Layer.result _ _ _

/-- The reference of the output projection of the attention runs, leaves its arguments and every counter. -/
theorem frame_merge_reference : Cert.quiescent_MergeReferenceIdeal (hMergeReferenceIdeal := Cert.MergeReferenceIdeal.Gen.facts) := fun m g _ =>
  (θ_run Cert.MergeReferenceIdeal.defs _ _).mono (fun r h => ⟨fun c => (h c).2, sem_eq_zero_of_no_sems (by decide) r.2⟩)
    (Cert.MergeReferenceIdeal.Value.run (F := Ideal) m g)

/-- The output projection of the attention: kernel and reference end with equal results. -/
theorem algebraic_merge : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => (Cert.MergeIdeal.Gen.dats m 0 c).arrAt 3 Cert.MergeIdeal.cfg0.N, Cert.MergeIdeal.Value.run_blocks m g, ?_⟩
  refine (θ_run Cert.MergeReferenceIdeal.defs _ _).mono (fun r h c => ⟨(h c).1.trans ?_, (h c).2⟩) (Cert.MergeReferenceIdeal.Value.run (F := Ideal) m' g')
  obtain ⟨e0, e1, e2⟩ := hagree c
  rw [Cert.MergeReferenceIdeal.Read.val_main_v4_eq, e0, e1, e2]
  refine Eq.trans ?_ (Cert.MergeIdeal.Layer.array_eq m c).symm
  exact Cert.MergeReferenceIdeal.Layer.result _ _ _

/-- The reference of the output projection of two halves runs, leaves its arguments and every counter. -/
theorem frame_merge_two_reference : Cert.quiescent_MergeTwoReferenceIdeal (hMergeTwoReferenceIdeal := Cert.MergeTwoReferenceIdeal.Gen.facts) := fun m g _ =>
  (θ_run Cert.MergeTwoReferenceIdeal.defs _ _).mono (fun r h => ⟨fun c => (h c).2, sem_eq_zero_of_no_sems (by decide) r.2⟩)
    (Cert.MergeTwoReferenceIdeal.Value.run (F := Ideal) m g)

/-- The output projection of two halves: kernel and reference end with equal results. -/
theorem algebraic_merge_two : Cert.algebraic_MergeTwoIdeal_MergeTwoReferenceIdeal (hMergeTwoIdeal := Cert.MergeTwoIdeal.Gen.facts)
    (hMergeTwoReferenceIdeal := Cert.MergeTwoReferenceIdeal.Gen.facts) := by
  intro m g m' g' _ hagree
  refine ⟨fun c => (Cert.MergeTwoIdeal.Gen.dats m 0 c).arrAt 5 Cert.MergeTwoIdeal.cfg0.N, Cert.MergeTwoIdeal.Value.run_blocks m g, ?_⟩
  refine (θ_run Cert.MergeTwoReferenceIdeal.defs _ _).mono (fun r h c => ⟨(h c).1.trans ?_, (h c).2⟩) (Cert.MergeTwoReferenceIdeal.Value.run (F := Ideal) m' g')
  obtain ⟨e0, e1, e2, e3⟩ := hagree c
  rw [Cert.MergeTwoReferenceIdeal.Read.val_main_v5_eq, e0, e1, e2, e3]
  refine Eq.trans ?_ (Cert.MergeTwoIdeal.Layer.array_eq m c).symm
  exact Cert.MergeTwoReferenceIdeal.Layer.result _ _ _ _

/-- The reference of the input projection of the even layers runs, leaves its arguments and every counter. -/
theorem frame_project_even_reference : Cert.quiescent_ProjectEvenReferenceIdeal (hProjectEvenReferenceIdeal := Cert.ProjectEvenReferenceIdeal.Gen.facts) := fun m g _ =>
  (θ_run Cert.ProjectEvenReferenceIdeal.defs _ _).mono (fun r h => ⟨fun c => (h c).2, sem_eq_zero_of_no_sems (by decide) r.2⟩)
    (Cert.ProjectEvenReferenceIdeal.Value.run (F := Ideal) m g)

/-- The input projection of the even layers: kernel and reference end with equal results. -/
theorem algebraic_project_even : Cert.algebraic_ProjectEvenIdeal_ProjectEvenReferenceIdeal (hProjectEvenIdeal := Cert.ProjectEvenIdeal.Gen.facts)
    (hProjectEvenReferenceIdeal := Cert.ProjectEvenReferenceIdeal.Gen.facts) := by
  intro m g m' g' _ hagree
  refine ⟨fun c => (Cert.ProjectEvenIdeal.Gen.dats m 0 c).arrAt 3 Cert.ProjectEvenIdeal.cfg0.N, Cert.ProjectEvenIdeal.Value.run_blocks m g, ?_⟩
  refine (θ_run Cert.ProjectEvenReferenceIdeal.defs _ _).mono (fun r h c => ⟨(h c).1.trans ?_, (h c).2⟩) (Cert.ProjectEvenReferenceIdeal.Value.run (F := Ideal) m' g')
  obtain ⟨e0, e1, e2⟩ := hagree c
  rw [Cert.ProjectEvenReferenceIdeal.Read.val_main_v16_eq, e0, e1, e2]
  refine Eq.trans ?_ (Cert.ProjectEvenIdeal.Layer.array_eq m c).symm
  exact Cert.ProjectEvenReferenceIdeal.Layer.result _ _ _

/-- The bias reference runs, leaves its arguments and every counter. -/
theorem frame_bias_reference (m : (ℓ : Loc Cert.BiasReferenceIdeal.nD Cert.BiasReferenceIdeal.τ Cert.BiasReferenceIdeal.sig) → Buf (Elt Ideal) ℓ)
    (g : Dev Cert.BiasReferenceIdeal.nD → PrngReg) :
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0) :=
  (θ_run Cert.BiasReferenceIdeal.defs _ _).mono (fun r h => ⟨fun c => (h c).2, sem_eq_zero_of_no_sems (by decide) r.2⟩)
    (Cert.BiasReferenceIdeal.Value.run (F := Ideal) m g)

/-- The named mask of the bias kernel is what the ideal program holds in its place. -/
theorem preserves_bias : Cert.preserves_Bias_BiasIdeal := IdealRules.named_const.statement Cert.BiasIdeal.κ "mask" .f32 0xF149F2CA#32 ⊥ rfl

/-- The bias: kernel and reference end with equal results. -/
theorem algebraic_bias : Cert.algebraic_BiasIdeal_BiasReferenceIdeal_pre_in_table (hBiasIdeal := Cert.BiasIdeal.Gen.facts)
    (hBiasReferenceIdeal := Cert.BiasReferenceIdeal.Gen.facts) (hPre_in_table := Cert.BiasReferenceIdeal.Layer.table_facts) := by
  intro m g m' g' hpre hagree
  refine ⟨fun c => (Cert.BiasIdeal.Gen.dats m 0 c).arrAt 2 Cert.BiasIdeal.cfg0.N, Cert.BiasIdeal.Value.run_blocks m g, ?_⟩
  refine (θ_run Cert.BiasReferenceIdeal.defs _ _).mono (fun r h c => ⟨(h c).1.trans ?_, (h c).2⟩) (Cert.BiasReferenceIdeal.Value.run (F := Ideal) m' g')
  obtain ⟨p0, p1⟩ := hpre c
  obtain ⟨e0, e1⟩ := hagree c
  have hb := @Cert.BiasReferenceIdeal.Layer.elements _ _ Cert.BiasReferenceIdeal.Layer.table_facts p0 p1
  rw [Cert.BiasReferenceIdeal.Read.val_main_v21_eq, e0, e1]
  refine Eq.trans ?_ (Cert.BiasIdeal.Layer.array_eq m c fun i => (hb i).1).symm
  exact Cert.BiasReferenceIdeal.Layer.result _ _ hb

theorem claim : Cert.Claim := ⟨Cert.Kernel.Gen.facts, Cert.KernelIdeal.Gen.facts, Cert.ReferenceIdeal.Gen.facts, Cert.Last.Gen.facts,
  Cert.LastIdeal.Gen.facts, Cert.LastReferenceIdeal.Gen.facts, Cert.LastSample.Gen.facts, Cert.LastSampleIdeal.Gen.facts,
  Cert.LastSampleReferenceIdeal.Gen.facts,
  Cert.Inner.Gen.facts, Cert.InnerIdeal.Gen.facts, Cert.InnerReferenceIdeal.Gen.facts,
  Cert.Project.Gen.facts, Cert.ProjectIdeal.Gen.facts, Cert.ProjectReferenceIdeal.Gen.facts,
  Cert.Merge.Gen.facts, Cert.MergeIdeal.Gen.facts, Cert.MergeReferenceIdeal.Gen.facts,
  Cert.MergeTwo.Gen.facts, Cert.MergeTwoIdeal.Gen.facts, Cert.MergeTwoReferenceIdeal.Gen.facts,
  Cert.ProjectEven.Gen.facts, Cert.ProjectEvenIdeal.Gen.facts, Cert.ProjectEvenReferenceIdeal.Gen.facts,
  Cert.Bias.Gen.facts, Cert.BiasIdeal.Gen.facts, Cert.BiasReferenceIdeal.Gen.facts,
  Finite.facts, Cert.BiasReferenceIdeal.Layer.table_facts,
  fun m g _ => Cert.Kernel.Gen.frame m g, fun m g _ => Cert.KernelIdeal.Gen.frame m g, fun m g _ => Cert.KernelIdeal.Gen.frame m g,
  fun m g _ => frame_reference m g, fun m g _ => frame_reference m g,
  fun m g _ => Cert.Last.Gen.frame m g, fun m g _ => Cert.LastIdeal.Gen.frame m g, frame_last_reference,
  fun m g _ => Cert.LastSample.Gen.frame m g, fun m g _ => Cert.LastSampleIdeal.Gen.frame m g, frame_sample_reference,
  fun m g _ => Cert.Inner.Gen.frame m g, fun m g _ => Cert.InnerIdeal.Gen.frame m g, frame_inner_reference,
  fun m g _ => Cert.Project.Gen.frame m g, fun m g _ => Cert.ProjectIdeal.Gen.frame m g, frame_project_reference,
  fun m g _ => Cert.Merge.Gen.frame m g, fun m g _ => Cert.MergeIdeal.Gen.frame m g, frame_merge_reference,
  fun m g _ => Cert.MergeTwo.Gen.frame m g, fun m g _ => Cert.MergeTwoIdeal.Gen.frame m g, frame_merge_two_reference,
  fun m g _ => Cert.ProjectEven.Gen.frame m g, fun m g _ => Cert.ProjectEvenIdeal.Gen.frame m g, frame_project_even_reference,
  fun m g _ => Cert.Bias.Gen.frame m g, fun m g _ => Cert.BiasIdeal.Gen.frame m g, fun m g _ => Cert.BiasIdeal.Gen.frame m g,
  fun m g _ => frame_bias_reference m g, fun m g _ => frame_bias_reference m g,
  preserves, algebraic, trivial, algebraic_last, trivial, algebraic_sample,
  trivial, algebraic_inner, trivial, algebraic_project, trivial, algebraic_merge, trivial, algebraic_merge_two, trivial, algebraic_project_even,
  preserves_bias, algebraic_bias⟩

end Cert.Proof

end
